-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Keys (m : (ℓ : Loc Cert.Keys.nD Cert.Keys.τ Cert.Keys.sig) → Buf (Elt Bits) ℓ) : Prop :=
  True

def Pre_KeysIdeal (m : (ℓ : Loc Cert.KeysIdeal.nD Cert.KeysIdeal.τ Cert.KeysIdeal.sig) → Buf (Elt Ideal) ℓ) : Prop :=
  True

def Pre_KeysPlainIdeal (m : (ℓ : Loc Cert.KeysPlainIdeal.nD Cert.KeysPlainIdeal.τ Cert.KeysPlainIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergePlainIdeal (m : (ℓ : Loc Cert.MergePlainIdeal.nD Cert.MergePlainIdeal.τ Cert.MergePlainIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectPlainIdeal (m : (ℓ : Loc Cert.ProjectPlainIdeal.nD Cert.ProjectPlainIdeal.τ Cert.ProjectPlainIdeal.sig) → Buf (Elt Ideal) ℓ) : Prop :=
  True

def Pre_MergeSample (m : (ℓ : Loc Cert.MergeSample.nD Cert.MergeSample.τ Cert.MergeSample.sig) → Buf (Elt Bits) ℓ) : Prop :=
  True

def Pre_MergeSampleIdeal (m : (ℓ : Loc Cert.MergeSampleIdeal.nD Cert.MergeSampleIdeal.τ Cert.MergeSampleIdeal.sig) → Buf (Elt Ideal) ℓ) : Prop :=
  True

def Pre_MergeSamplePlainIdeal (m : (ℓ : Loc Cert.MergeSamplePlainIdeal.nD Cert.MergeSamplePlainIdeal.τ Cert.MergeSamplePlainIdeal.sig) → Buf (Elt Ideal) ℓ) : Prop :=
  True

def Pre_ProjectSample (m : (ℓ : Loc Cert.ProjectSample.nD Cert.ProjectSample.τ Cert.ProjectSample.sig) → Buf (Elt Bits) ℓ) : Prop :=
  True

def Pre_ProjectSampleIdeal (m : (ℓ : Loc Cert.ProjectSampleIdeal.nD Cert.ProjectSampleIdeal.τ Cert.ProjectSampleIdeal.sig) → Buf (Elt Ideal) ℓ) : Prop :=
  True

def Pre_ProjectSamplePlainIdeal (m : (ℓ : Loc Cert.ProjectSamplePlainIdeal.nD Cert.ProjectSamplePlainIdeal.τ Cert.ProjectSamplePlainIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Keys [hKeys : Cert.Keys.Facts] : Prop :=
  ∀ (m : (ℓ : Loc Cert.Keys.nD Cert.Keys.τ Cert.Keys.sig) → Buf (Elt Bits) ℓ) (g : Dev Cert.Keys.nD → PrngReg), Pre_Keys m →
    θ_run (Cert.Keys.defs (F := Bits)) (onTc (τ := Cert.Keys.τ) (Cert.Keys.main (F := Bits))) ⟨m, fun _ => 0, g⟩ (fun r => (∀ c : Dev Cert.Keys.nD,
      r.2.mem ((c.tc : Thread Cert.Keys.nD Cert.Keys.τ).loc Cert.Keys.main_arg0) = m ((c.tc : Thread Cert.Keys.nD Cert.Keys.τ).loc Cert.Keys.main_arg0)
      ∧ r.2.mem ((c.tc : Thread Cert.Keys.nD Cert.Keys.τ).loc Cert.Keys.main_arg1) = m ((c.tc : Thread Cert.Keys.nD Cert.Keys.τ).loc Cert.Keys.main_arg1)
      ∧ r.2.mem ((c.tc : Thread Cert.Keys.nD Cert.Keys.τ).loc Cert.Keys.main_arg2) = m ((c.tc : Thread Cert.Keys.nD Cert.Keys.τ).loc Cert.Keys.main_arg2))
      ∧ r.2.sem = fun _ => 0)

def quiescent_KeysIdeal [hKeysIdeal : Cert.KeysIdeal.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
      ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2))
      ∧ r.2.sem = fun _ => 0)

def quiescent_KeysPlainIdeal [hKeysPlainIdeal : Cert.KeysPlainIdeal.Facts] : Prop :=
  ∀ (m : (ℓ : Loc Cert.KeysPlainIdeal.nD Cert.KeysPlainIdeal.τ Cert.KeysPlainIdeal.sig) → Buf (Elt Ideal) ℓ) (g : Dev Cert.KeysPlainIdeal.nD → PrngReg), Pre_KeysPlainIdeal m →
    θ_run (Cert.KeysPlainIdeal.defs (F := Ideal)) (onTc (τ := Cert.KeysPlainIdeal.τ) (Cert.KeysPlainIdeal.main (F := Ideal))) ⟨m, fun _ => 0, g⟩ (fun r => (∀ c : Dev Cert.KeysPlainIdeal.nD,
      r.2.mem ((c.tc : Thread Cert.KeysPlainIdeal.nD Cert.KeysPlainIdeal.τ).loc Cert.KeysPlainIdeal.main_arg0) = m ((c.tc : Thread Cert.KeysPlainIdeal.nD Cert.KeysPlainIdeal.τ).loc Cert.KeysPlainIdeal.main_arg0)
      ∧ r.2.mem ((c.tc : Thread Cert.KeysPlainIdeal.nD Cert.KeysPlainIdeal.τ).loc Cert.KeysPlainIdeal.main_arg1) = m ((c.tc : Thread Cert.KeysPlainIdeal.nD Cert.KeysPlainIdeal.τ).loc Cert.KeysPlainIdeal.main_arg1)
      ∧ r.2.mem ((c.tc : Thread Cert.KeysPlainIdeal.nD Cert.KeysPlainIdeal.τ).loc Cert.KeysPlainIdeal.main_arg2) = m ((c.tc : Thread Cert.KeysPlainIdeal.nD Cert.KeysPlainIdeal.τ).loc Cert.KeysPlainIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergePlainIdeal [hMergePlainIdeal : Cert.MergePlainIdeal.Facts] : Prop :=
  ∀ (m : (ℓ : Loc Cert.MergePlainIdeal.nD Cert.MergePlainIdeal.τ Cert.MergePlainIdeal.sig) → Buf (Elt Ideal) ℓ) (g : Dev Cert.MergePlainIdeal.nD → PrngReg), Pre_MergePlainIdeal m →
    θ_run (Cert.MergePlainIdeal.defs (F := Ideal)) (onTc (τ := Cert.MergePlainIdeal.τ) (Cert.MergePlainIdeal.main (F := Ideal))) ⟨m, fun _ => 0, g⟩ (fun r => (∀ c : Dev Cert.MergePlainIdeal.nD,
      r.2.mem ((c.tc : Thread Cert.MergePlainIdeal.nD Cert.MergePlainIdeal.τ).loc Cert.MergePlainIdeal.main_arg0) = m ((c.tc : Thread Cert.MergePlainIdeal.nD Cert.MergePlainIdeal.τ).loc Cert.MergePlainIdeal.main_arg0)
      ∧ r.2.mem ((c.tc : Thread Cert.MergePlainIdeal.nD Cert.MergePlainIdeal.τ).loc Cert.MergePlainIdeal.main_arg1) = m ((c.tc : Thread Cert.MergePlainIdeal.nD Cert.MergePlainIdeal.τ).loc Cert.MergePlainIdeal.main_arg1)
      ∧ r.2.mem ((c.tc : Thread Cert.MergePlainIdeal.nD Cert.MergePlainIdeal.τ).loc Cert.MergePlainIdeal.main_arg2) = m ((c.tc : Thread Cert.MergePlainIdeal.nD Cert.MergePlainIdeal.τ).loc Cert.MergePlainIdeal.main_arg2)
      ∧ r.2.mem ((c.tc : Thread Cert.MergePlainIdeal.nD Cert.MergePlainIdeal.τ).loc Cert.MergePlainIdeal.main_arg3) = m ((c.tc : Thread Cert.MergePlainIdeal.nD Cert.MergePlainIdeal.τ).loc Cert.MergePlainIdeal.main_arg3)
      ∧ r.2.mem ((c.tc : Thread Cert.MergePlainIdeal.nD Cert.MergePlainIdeal.τ).loc Cert.MergePlainIdeal.main_arg4) = m ((c.tc : Thread Cert.MergePlainIdeal.nD Cert.MergePlainIdeal.τ).loc Cert.MergePlainIdeal.main_arg4)
      ∧ r.2.mem ((c.tc : Thread Cert.MergePlainIdeal.nD Cert.MergePlainIdeal.τ).loc Cert.MergePlainIdeal.main_arg5) = m ((c.tc : Thread Cert.MergePlainIdeal.nD Cert.MergePlainIdeal.τ).loc Cert.MergePlainIdeal.main_arg5)
      ∧ r.2.mem ((c.tc : Thread Cert.MergePlainIdeal.nD Cert.MergePlainIdeal.τ).loc Cert.MergePlainIdeal.main_arg6) = m ((c.tc : Thread Cert.MergePlainIdeal.nD Cert.MergePlainIdeal.τ).loc Cert.MergePlainIdeal.main_arg6)
      ∧ r.2.mem ((c.tc : Thread Cert.MergePlainIdeal.nD Cert.MergePlainIdeal.τ).loc Cert.MergePlainIdeal.main_arg7) = m ((c.tc : Thread Cert.MergePlainIdeal.nD Cert.MergePlainIdeal.τ).loc Cert.MergePlainIdeal.main_arg7)
      ∧ r.2.mem ((c.tc : Thread Cert.MergePlainIdeal.nD Cert.MergePlainIdeal.τ).loc Cert.MergePlainIdeal.main_arg8) = m ((c.tc : Thread Cert.MergePlainIdeal.nD Cert.MergePlainIdeal.τ).loc Cert.MergePlainIdeal.main_arg8)
      ∧ r.2.mem ((c.tc : Thread Cert.MergePlainIdeal.nD Cert.MergePlainIdeal.τ).loc Cert.MergePlainIdeal.main_arg9) = m ((c.tc : Thread Cert.MergePlainIdeal.nD Cert.MergePlainIdeal.τ).loc Cert.MergePlainIdeal.main_arg9))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6))
      ∧ r.2.sem = fun _ => 0)

def quiescent_ProjectPlainIdeal [hProjectPlainIdeal : Cert.ProjectPlainIdeal.Facts] : Prop :=
  ∀ (m : (ℓ : Loc Cert.ProjectPlainIdeal.nD Cert.ProjectPlainIdeal.τ Cert.ProjectPlainIdeal.sig) → Buf (Elt Ideal) ℓ) (g : Dev Cert.ProjectPlainIdeal.nD → PrngReg), Pre_ProjectPlainIdeal m →
    θ_run (Cert.ProjectPlainIdeal.defs (F := Ideal)) (onTc (τ := Cert.ProjectPlainIdeal.τ) (Cert.ProjectPlainIdeal.main (F := Ideal))) ⟨m, fun _ => 0, g⟩ (fun r => (∀ c : Dev Cert.ProjectPlainIdeal.nD,
      r.2.mem ((c.tc : Thread Cert.ProjectPlainIdeal.nD Cert.ProjectPlainIdeal.τ).loc Cert.ProjectPlainIdeal.main_arg0) = m ((c.tc : Thread Cert.ProjectPlainIdeal.nD Cert.ProjectPlainIdeal.τ).loc Cert.ProjectPlainIdeal.main_arg0)
      ∧ r.2.mem ((c.tc : Thread Cert.ProjectPlainIdeal.nD Cert.ProjectPlainIdeal.τ).loc Cert.ProjectPlainIdeal.main_arg1) = m ((c.tc : Thread Cert.ProjectPlainIdeal.nD Cert.ProjectPlainIdeal.τ).loc Cert.ProjectPlainIdeal.main_arg1)
      ∧ r.2.mem ((c.tc : Thread Cert.ProjectPlainIdeal.nD Cert.ProjectPlainIdeal.τ).loc Cert.ProjectPlainIdeal.main_arg2) = m ((c.tc : Thread Cert.ProjectPlainIdeal.nD Cert.ProjectPlainIdeal.τ).loc Cert.ProjectPlainIdeal.main_arg2)
      ∧ r.2.mem ((c.tc : Thread Cert.ProjectPlainIdeal.nD Cert.ProjectPlainIdeal.τ).loc Cert.ProjectPlainIdeal.main_arg3) = m ((c.tc : Thread Cert.ProjectPlainIdeal.nD Cert.ProjectPlainIdeal.τ).loc Cert.ProjectPlainIdeal.main_arg3)
      ∧ r.2.mem ((c.tc : Thread Cert.ProjectPlainIdeal.nD Cert.ProjectPlainIdeal.τ).loc Cert.ProjectPlainIdeal.main_arg4) = m ((c.tc : Thread Cert.ProjectPlainIdeal.nD Cert.ProjectPlainIdeal.τ).loc Cert.ProjectPlainIdeal.main_arg4)
      ∧ r.2.mem ((c.tc : Thread Cert.ProjectPlainIdeal.nD Cert.ProjectPlainIdeal.τ).loc Cert.ProjectPlainIdeal.main_arg5) = m ((c.tc : Thread Cert.ProjectPlainIdeal.nD Cert.ProjectPlainIdeal.τ).loc Cert.ProjectPlainIdeal.main_arg5)
      ∧ r.2.mem ((c.tc : Thread Cert.ProjectPlainIdeal.nD Cert.ProjectPlainIdeal.τ).loc Cert.ProjectPlainIdeal.main_arg6) = m ((c.tc : Thread Cert.ProjectPlainIdeal.nD Cert.ProjectPlainIdeal.τ).loc Cert.ProjectPlainIdeal.main_arg6))
      ∧ r.2.sem = fun _ => 0)

def quiescent_MergeSample [hMergeSample : Cert.MergeSample.Facts] : Prop :=
  ∀ (m : (ℓ : Loc Cert.MergeSample.nD Cert.MergeSample.τ Cert.MergeSample.sig) → Buf (Elt Bits) ℓ) (g : Dev Cert.MergeSample.nD → PrngReg), Pre_MergeSample m →
    θ_run (Cert.MergeSample.defs (F := Bits)) (onTc (τ := Cert.MergeSample.τ) (Cert.MergeSample.main (F := Bits))) ⟨m, fun _ => 0, g⟩ (fun r => (∀ c : Dev Cert.MergeSample.nD,
      r.2.mem ((c.tc : Thread Cert.MergeSample.nD Cert.MergeSample.τ).loc Cert.MergeSample.main_arg0) = m ((c.tc : Thread Cert.MergeSample.nD Cert.MergeSample.τ).loc Cert.MergeSample.main_arg0)
      ∧ r.2.mem ((c.tc : Thread Cert.MergeSample.nD Cert.MergeSample.τ).loc Cert.MergeSample.main_arg1) = m ((c.tc : Thread Cert.MergeSample.nD Cert.MergeSample.τ).loc Cert.MergeSample.main_arg1)
      ∧ r.2.mem ((c.tc : Thread Cert.MergeSample.nD Cert.MergeSample.τ).loc Cert.MergeSample.main_arg2) = m ((c.tc : Thread Cert.MergeSample.nD Cert.MergeSample.τ).loc Cert.MergeSample.main_arg2)
      ∧ r.2.mem ((c.tc : Thread Cert.MergeSample.nD Cert.MergeSample.τ).loc Cert.MergeSample.main_arg3) = m ((c.tc : Thread Cert.MergeSample.nD Cert.MergeSample.τ).loc Cert.MergeSample.main_arg3)
      ∧ r.2.mem ((c.tc : Thread Cert.MergeSample.nD Cert.MergeSample.τ).loc Cert.MergeSample.main_arg4) = m ((c.tc : Thread Cert.MergeSample.nD Cert.MergeSample.τ).loc Cert.MergeSample.main_arg4)
      ∧ r.2.mem ((c.tc : Thread Cert.MergeSample.nD Cert.MergeSample.τ).loc Cert.MergeSample.main_arg5) = m ((c.tc : Thread Cert.MergeSample.nD Cert.MergeSample.τ).loc Cert.MergeSample.main_arg5)
      ∧ r.2.mem ((c.tc : Thread Cert.MergeSample.nD Cert.MergeSample.τ).loc Cert.MergeSample.main_arg6) = m ((c.tc : Thread Cert.MergeSample.nD Cert.MergeSample.τ).loc Cert.MergeSample.main_arg6)
      ∧ r.2.mem ((c.tc : Thread Cert.MergeSample.nD Cert.MergeSample.τ).loc Cert.MergeSample.main_arg7) = m ((c.tc : Thread Cert.MergeSample.nD Cert.MergeSample.τ).loc Cert.MergeSample.main_arg7)
      ∧ r.2.mem ((c.tc : Thread Cert.MergeSample.nD Cert.MergeSample.τ).loc Cert.MergeSample.main_arg8) = m ((c.tc : Thread Cert.MergeSample.nD Cert.MergeSample.τ).loc Cert.MergeSample.main_arg8)
      ∧ r.2.mem ((c.tc : Thread Cert.MergeSample.nD Cert.MergeSample.τ).loc Cert.MergeSample.main_arg9) = m ((c.tc : Thread Cert.MergeSample.nD Cert.MergeSample.τ).loc Cert.MergeSample.main_arg9))
      ∧ r.2.sem = fun _ => 0)

def quiescent_MergeSampleIdeal [hMergeSampleIdeal : Cert.MergeSampleIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg), Pre_MergeSampleIdeal m →
    θ_run (Cert.MergeSampleIdeal.defs (F := Ideal)) (onTc (τ := Cert.MergeSampleIdeal.τ) (Cert.MergeSampleIdeal.main (F := Ideal))) ⟨m, fun _ => 0, g⟩ (fun r => (∀ c : Dev Cert.MergeSampleIdeal.nD,
      r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
      ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
      ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
      ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
      ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
      ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
      ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
      ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7)
      ∧ r.2.mem ((c.tc : Thread Cert.MergeSampleIdeal.nD Cert.MergeSampleIdeal.τ).loc Cert.MergeSampleIdeal.main_arg8) = m ((c.tc : Thread Cert.MergeSampleIdeal.nD Cert.MergeSampleIdeal.τ).loc Cert.MergeSampleIdeal.main_arg8)
      ∧ r.2.mem ((c.tc : Thread Cert.MergeSampleIdeal.nD Cert.MergeSampleIdeal.τ).loc Cert.MergeSampleIdeal.main_arg9) = m ((c.tc : Thread Cert.MergeSampleIdeal.nD Cert.MergeSampleIdeal.τ).loc Cert.MergeSampleIdeal.main_arg9))
      ∧ r.2.sem = fun _ => 0)

def quiescent_MergeSamplePlainIdeal [hMergeSamplePlainIdeal : Cert.MergeSamplePlainIdeal.Facts] : Prop :=
  ∀ (m : (ℓ : Loc Cert.MergeSamplePlainIdeal.nD Cert.MergeSamplePlainIdeal.τ Cert.MergeSamplePlainIdeal.sig) → Buf (Elt Ideal) ℓ) (g : Dev Cert.MergeSamplePlainIdeal.nD → PrngReg), Pre_MergeSamplePlainIdeal m →
    θ_run (Cert.MergeSamplePlainIdeal.defs (F := Ideal)) (onTc (τ := Cert.MergeSamplePlainIdeal.τ) (Cert.MergeSamplePlainIdeal.main (F := Ideal))) ⟨m, fun _ => 0, g⟩ (fun r => (∀ c : Dev Cert.MergeSamplePlainIdeal.nD,
      r.2.mem ((c.tc : Thread Cert.MergeSamplePlainIdeal.nD Cert.MergeSamplePlainIdeal.τ).loc Cert.MergeSamplePlainIdeal.main_arg0) = m ((c.tc : Thread Cert.MergeSamplePlainIdeal.nD Cert.MergeSamplePlainIdeal.τ).loc Cert.MergeSamplePlainIdeal.main_arg0)
      ∧ r.2.mem ((c.tc : Thread Cert.MergeSamplePlainIdeal.nD Cert.MergeSamplePlainIdeal.τ).loc Cert.MergeSamplePlainIdeal.main_arg1) = m ((c.tc : Thread Cert.MergeSamplePlainIdeal.nD Cert.MergeSamplePlainIdeal.τ).loc Cert.MergeSamplePlainIdeal.main_arg1)
      ∧ r.2.mem ((c.tc : Thread Cert.MergeSamplePlainIdeal.nD Cert.MergeSamplePlainIdeal.τ).loc Cert.MergeSamplePlainIdeal.main_arg2) = m ((c.tc : Thread Cert.MergeSamplePlainIdeal.nD Cert.MergeSamplePlainIdeal.τ).loc Cert.MergeSamplePlainIdeal.main_arg2)
      ∧ r.2.mem ((c.tc : Thread Cert.MergeSamplePlainIdeal.nD Cert.MergeSamplePlainIdeal.τ).loc Cert.MergeSamplePlainIdeal.main_arg3) = m ((c.tc : Thread Cert.MergeSamplePlainIdeal.nD Cert.MergeSamplePlainIdeal.τ).loc Cert.MergeSamplePlainIdeal.main_arg3)
      ∧ r.2.mem ((c.tc : Thread Cert.MergeSamplePlainIdeal.nD Cert.MergeSamplePlainIdeal.τ).loc Cert.MergeSamplePlainIdeal.main_arg4) = m ((c.tc : Thread Cert.MergeSamplePlainIdeal.nD Cert.MergeSamplePlainIdeal.τ).loc Cert.MergeSamplePlainIdeal.main_arg4)
      ∧ r.2.mem ((c.tc : Thread Cert.MergeSamplePlainIdeal.nD Cert.MergeSamplePlainIdeal.τ).loc Cert.MergeSamplePlainIdeal.main_arg5) = m ((c.tc : Thread Cert.MergeSamplePlainIdeal.nD Cert.MergeSamplePlainIdeal.τ).loc Cert.MergeSamplePlainIdeal.main_arg5)
      ∧ r.2.mem ((c.tc : Thread Cert.MergeSamplePlainIdeal.nD Cert.MergeSamplePlainIdeal.τ).loc Cert.MergeSamplePlainIdeal.main_arg6) = m ((c.tc : Thread Cert.MergeSamplePlainIdeal.nD Cert.MergeSamplePlainIdeal.τ).loc Cert.MergeSamplePlainIdeal.main_arg6)
      ∧ r.2.mem ((c.tc : Thread Cert.MergeSamplePlainIdeal.nD Cert.MergeSamplePlainIdeal.τ).loc Cert.MergeSamplePlainIdeal.main_arg7) = m ((c.tc : Thread Cert.MergeSamplePlainIdeal.nD Cert.MergeSamplePlainIdeal.τ).loc Cert.MergeSamplePlainIdeal.main_arg7)
      ∧ r.2.mem ((c.tc : Thread Cert.MergeSamplePlainIdeal.nD Cert.MergeSamplePlainIdeal.τ).loc Cert.MergeSamplePlainIdeal.main_arg8) = m ((c.tc : Thread Cert.MergeSamplePlainIdeal.nD Cert.MergeSamplePlainIdeal.τ).loc Cert.MergeSamplePlainIdeal.main_arg8)
      ∧ r.2.mem ((c.tc : Thread Cert.MergeSamplePlainIdeal.nD Cert.MergeSamplePlainIdeal.τ).loc Cert.MergeSamplePlainIdeal.main_arg9) = m ((c.tc : Thread Cert.MergeSamplePlainIdeal.nD Cert.MergeSamplePlainIdeal.τ).loc Cert.MergeSamplePlainIdeal.main_arg9))
      ∧ r.2.sem = fun _ => 0)

def quiescent_ProjectSample [hProjectSample : Cert.ProjectSample.Facts] : Prop :=
  ∀ (m : (ℓ : Loc Cert.ProjectSample.nD Cert.ProjectSample.τ Cert.ProjectSample.sig) → Buf (Elt Bits) ℓ) (g : Dev Cert.ProjectSample.nD → PrngReg), Pre_ProjectSample m →
    θ_run (Cert.ProjectSample.defs (F := Bits)) (onTc (τ := Cert.ProjectSample.τ) (Cert.ProjectSample.main (F := Bits))) ⟨m, fun _ => 0, g⟩ (fun r => (∀ c : Dev Cert.ProjectSample.nD,
      r.2.mem ((c.tc : Thread Cert.ProjectSample.nD Cert.ProjectSample.τ).loc Cert.ProjectSample.main_arg0) = m ((c.tc : Thread Cert.ProjectSample.nD Cert.ProjectSample.τ).loc Cert.ProjectSample.main_arg0)
      ∧ r.2.mem ((c.tc : Thread Cert.ProjectSample.nD Cert.ProjectSample.τ).loc Cert.ProjectSample.main_arg1) = m ((c.tc : Thread Cert.ProjectSample.nD Cert.ProjectSample.τ).loc Cert.ProjectSample.main_arg1)
      ∧ r.2.mem ((c.tc : Thread Cert.ProjectSample.nD Cert.ProjectSample.τ).loc Cert.ProjectSample.main_arg2) = m ((c.tc : Thread Cert.ProjectSample.nD Cert.ProjectSample.τ).loc Cert.ProjectSample.main_arg2)
      ∧ r.2.mem ((c.tc : Thread Cert.ProjectSample.nD Cert.ProjectSample.τ).loc Cert.ProjectSample.main_arg3) = m ((c.tc : Thread Cert.ProjectSample.nD Cert.ProjectSample.τ).loc Cert.ProjectSample.main_arg3)
      ∧ r.2.mem ((c.tc : Thread Cert.ProjectSample.nD Cert.ProjectSample.τ).loc Cert.ProjectSample.main_arg4) = m ((c.tc : Thread Cert.ProjectSample.nD Cert.ProjectSample.τ).loc Cert.ProjectSample.main_arg4)
      ∧ r.2.mem ((c.tc : Thread Cert.ProjectSample.nD Cert.ProjectSample.τ).loc Cert.ProjectSample.main_arg5) = m ((c.tc : Thread Cert.ProjectSample.nD Cert.ProjectSample.τ).loc Cert.ProjectSample.main_arg5)
      ∧ r.2.mem ((c.tc : Thread Cert.ProjectSample.nD Cert.ProjectSample.τ).loc Cert.ProjectSample.main_arg6) = m ((c.tc : Thread Cert.ProjectSample.nD Cert.ProjectSample.τ).loc Cert.ProjectSample.main_arg6)
      ∧ r.2.mem ((c.tc : Thread Cert.ProjectSample.nD Cert.ProjectSample.τ).loc Cert.ProjectSample.main_arg7) = m ((c.tc : Thread Cert.ProjectSample.nD Cert.ProjectSample.τ).loc Cert.ProjectSample.main_arg7))
      ∧ r.2.sem = fun _ => 0)

def quiescent_ProjectSampleIdeal [hProjectSampleIdeal : Cert.ProjectSampleIdeal.Facts] : Prop :=
  ∀ (m : (ℓ : Loc Cert.ProjectSampleIdeal.nD Cert.ProjectSampleIdeal.τ Cert.ProjectSampleIdeal.sig) → Buf (Elt Ideal) ℓ) (g : Dev Cert.ProjectSampleIdeal.nD → PrngReg), Pre_ProjectSampleIdeal m →
    θ_run (Cert.ProjectSampleIdeal.defs (F := Ideal)) (onTc (τ := Cert.ProjectSampleIdeal.τ) (Cert.ProjectSampleIdeal.main (F := Ideal))) ⟨m, fun _ => 0, g⟩ (fun r => (∀ c : Dev Cert.ProjectSampleIdeal.nD,
      r.2.mem ((c.tc : Thread Cert.ProjectSampleIdeal.nD Cert.ProjectSampleIdeal.τ).loc Cert.ProjectSampleIdeal.main_arg0) = m ((c.tc : Thread Cert.ProjectSampleIdeal.nD Cert.ProjectSampleIdeal.τ).loc Cert.ProjectSampleIdeal.main_arg0)
      ∧ r.2.mem ((c.tc : Thread Cert.ProjectSampleIdeal.nD Cert.ProjectSampleIdeal.τ).loc Cert.ProjectSampleIdeal.main_arg1) = m ((c.tc : Thread Cert.ProjectSampleIdeal.nD Cert.ProjectSampleIdeal.τ).loc Cert.ProjectSampleIdeal.main_arg1)
      ∧ r.2.mem ((c.tc : Thread Cert.ProjectSampleIdeal.nD Cert.ProjectSampleIdeal.τ).loc Cert.ProjectSampleIdeal.main_arg2) = m ((c.tc : Thread Cert.ProjectSampleIdeal.nD Cert.ProjectSampleIdeal.τ).loc Cert.ProjectSampleIdeal.main_arg2)
      ∧ r.2.mem ((c.tc : Thread Cert.ProjectSampleIdeal.nD Cert.ProjectSampleIdeal.τ).loc Cert.ProjectSampleIdeal.main_arg3) = m ((c.tc : Thread Cert.ProjectSampleIdeal.nD Cert.ProjectSampleIdeal.τ).loc Cert.ProjectSampleIdeal.main_arg3)
      ∧ r.2.mem ((c.tc : Thread Cert.ProjectSampleIdeal.nD Cert.ProjectSampleIdeal.τ).loc Cert.ProjectSampleIdeal.main_arg4) = m ((c.tc : Thread Cert.ProjectSampleIdeal.nD Cert.ProjectSampleIdeal.τ).loc Cert.ProjectSampleIdeal.main_arg4)
      ∧ r.2.mem ((c.tc : Thread Cert.ProjectSampleIdeal.nD Cert.ProjectSampleIdeal.τ).loc Cert.ProjectSampleIdeal.main_arg5) = m ((c.tc : Thread Cert.ProjectSampleIdeal.nD Cert.ProjectSampleIdeal.τ).loc Cert.ProjectSampleIdeal.main_arg5)
      ∧ r.2.mem ((c.tc : Thread Cert.ProjectSampleIdeal.nD Cert.ProjectSampleIdeal.τ).loc Cert.ProjectSampleIdeal.main_arg6) = m ((c.tc : Thread Cert.ProjectSampleIdeal.nD Cert.ProjectSampleIdeal.τ).loc Cert.ProjectSampleIdeal.main_arg6)
      ∧ r.2.mem ((c.tc : Thread Cert.ProjectSampleIdeal.nD Cert.ProjectSampleIdeal.τ).loc Cert.ProjectSampleIdeal.main_arg7) = m ((c.tc : Thread Cert.ProjectSampleIdeal.nD Cert.ProjectSampleIdeal.τ).loc Cert.ProjectSampleIdeal.main_arg7))
      ∧ r.2.sem = fun _ => 0)

def quiescent_ProjectSamplePlainIdeal [hProjectSamplePlainIdeal : Cert.ProjectSamplePlainIdeal.Facts] : Prop :=
  ∀ (m : (ℓ : Loc Cert.ProjectSamplePlainIdeal.nD Cert.ProjectSamplePlainIdeal.τ Cert.ProjectSamplePlainIdeal.sig) → Buf (Elt Ideal) ℓ) (g : Dev Cert.ProjectSamplePlainIdeal.nD → PrngReg), Pre_ProjectSamplePlainIdeal m →
    θ_run (Cert.ProjectSamplePlainIdeal.defs (F := Ideal)) (onTc (τ := Cert.ProjectSamplePlainIdeal.τ) (Cert.ProjectSamplePlainIdeal.main (F := Ideal))) ⟨m, fun _ => 0, g⟩ (fun r => (∀ c : Dev Cert.ProjectSamplePlainIdeal.nD,
      r.2.mem ((c.tc : Thread Cert.ProjectSamplePlainIdeal.nD Cert.ProjectSamplePlainIdeal.τ).loc Cert.ProjectSamplePlainIdeal.main_arg0) = m ((c.tc : Thread Cert.ProjectSamplePlainIdeal.nD Cert.ProjectSamplePlainIdeal.τ).loc Cert.ProjectSamplePlainIdeal.main_arg0)
      ∧ r.2.mem ((c.tc : Thread Cert.ProjectSamplePlainIdeal.nD Cert.ProjectSamplePlainIdeal.τ).loc Cert.ProjectSamplePlainIdeal.main_arg1) = m ((c.tc : Thread Cert.ProjectSamplePlainIdeal.nD Cert.ProjectSamplePlainIdeal.τ).loc Cert.ProjectSamplePlainIdeal.main_arg1)
      ∧ r.2.mem ((c.tc : Thread Cert.ProjectSamplePlainIdeal.nD Cert.ProjectSamplePlainIdeal.τ).loc Cert.ProjectSamplePlainIdeal.main_arg2) = m ((c.tc : Thread Cert.ProjectSamplePlainIdeal.nD Cert.ProjectSamplePlainIdeal.τ).loc Cert.ProjectSamplePlainIdeal.main_arg2)
      ∧ r.2.mem ((c.tc : Thread Cert.ProjectSamplePlainIdeal.nD Cert.ProjectSamplePlainIdeal.τ).loc Cert.ProjectSamplePlainIdeal.main_arg3) = m ((c.tc : Thread Cert.ProjectSamplePlainIdeal.nD Cert.ProjectSamplePlainIdeal.τ).loc Cert.ProjectSamplePlainIdeal.main_arg3)
      ∧ r.2.mem ((c.tc : Thread Cert.ProjectSamplePlainIdeal.nD Cert.ProjectSamplePlainIdeal.τ).loc Cert.ProjectSamplePlainIdeal.main_arg4) = m ((c.tc : Thread Cert.ProjectSamplePlainIdeal.nD Cert.ProjectSamplePlainIdeal.τ).loc Cert.ProjectSamplePlainIdeal.main_arg4)
      ∧ r.2.mem ((c.tc : Thread Cert.ProjectSamplePlainIdeal.nD Cert.ProjectSamplePlainIdeal.τ).loc Cert.ProjectSamplePlainIdeal.main_arg5) = m ((c.tc : Thread Cert.ProjectSamplePlainIdeal.nD Cert.ProjectSamplePlainIdeal.τ).loc Cert.ProjectSamplePlainIdeal.main_arg5)
      ∧ r.2.mem ((c.tc : Thread Cert.ProjectSamplePlainIdeal.nD Cert.ProjectSamplePlainIdeal.τ).loc Cert.ProjectSamplePlainIdeal.main_arg6) = m ((c.tc : Thread Cert.ProjectSamplePlainIdeal.nD Cert.ProjectSamplePlainIdeal.τ).loc Cert.ProjectSamplePlainIdeal.main_arg6)
      ∧ r.2.mem ((c.tc : Thread Cert.ProjectSamplePlainIdeal.nD Cert.ProjectSamplePlainIdeal.τ).loc Cert.ProjectSamplePlainIdeal.main_arg7) = m ((c.tc : Thread Cert.ProjectSamplePlainIdeal.nD Cert.ProjectSamplePlainIdeal.τ).loc Cert.ProjectSamplePlainIdeal.main_arg7))
      ∧ r.2.sem = fun _ => 0)

def preserves_Kernel_KernelIdeal : Prop :=
  IdealRules.named_const.Statement Cert.KernelIdeal.κ "scale" .f32 0x3DD105EC#32 (((Real.sqrt 96)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Keys_KeysIdeal : Prop :=
  True

def algebraic_KeysIdeal_KeysPlainIdeal [hKeysIdeal : Cert.KeysIdeal.Facts] [hKeysPlainIdeal : Cert.KeysPlainIdeal.Facts] : Prop :=
  ∀ (m : (ℓ : Loc Cert.KeysIdeal.nD Cert.KeysIdeal.τ Cert.KeysIdeal.sig) → Buf (Elt Ideal) ℓ) (g : Dev Cert.KeysIdeal.nD → PrngReg)
    (m' : (ℓ : Loc Cert.KeysPlainIdeal.nD Cert.KeysPlainIdeal.τ Cert.KeysPlainIdeal.sig) → Buf (Elt Ideal) ℓ) (g' : Dev Cert.KeysPlainIdeal.nD → PrngReg), Pre_KeysIdeal m →
    (∀ c : Dev Cert.KeysIdeal.nD,
      m' ((c.tc : Thread Cert.KeysPlainIdeal.nD Cert.KeysPlainIdeal.τ).loc Cert.KeysPlainIdeal.main_arg0) = m ((c.tc : Thread Cert.KeysIdeal.nD Cert.KeysIdeal.τ).loc Cert.KeysIdeal.main_arg0)
      ∧ m' ((c.tc : Thread Cert.KeysPlainIdeal.nD Cert.KeysPlainIdeal.τ).loc Cert.KeysPlainIdeal.main_arg1) = m ((c.tc : Thread Cert.KeysIdeal.nD Cert.KeysIdeal.τ).loc Cert.KeysIdeal.main_arg1)
      ∧ m' ((c.tc : Thread Cert.KeysPlainIdeal.nD Cert.KeysPlainIdeal.τ).loc Cert.KeysPlainIdeal.main_arg2) = m ((c.tc : Thread Cert.KeysIdeal.nD Cert.KeysIdeal.τ).loc Cert.KeysIdeal.main_arg2)) →
    ∃ (v0 : (c : Dev Cert.KeysIdeal.nD) → Buf (Elt Ideal) ((c.tc : Thread Cert.KeysIdeal.nD Cert.KeysIdeal.τ).loc Cert.KeysIdeal.main_v3_0)) (v1 : (c : Dev Cert.KeysIdeal.nD) → Buf (Elt Ideal) ((c.tc : Thread Cert.KeysIdeal.nD Cert.KeysIdeal.τ).loc Cert.KeysIdeal.main_v3_1)),
      θ_run (Cert.KeysIdeal.defs (F := Ideal)) (onTc (τ := Cert.KeysIdeal.τ) (Cert.KeysIdeal.main (F := Ideal))) ⟨m, fun _ => 0, g⟩ (fun r => ∀ c : Dev Cert.KeysIdeal.nD,
          r.2.mem ((c.tc : Thread Cert.KeysIdeal.nD Cert.KeysIdeal.τ).loc Cert.KeysIdeal.main_v3_0) = v0 c
          ∧ r.2.mem ((c.tc : Thread Cert.KeysIdeal.nD Cert.KeysIdeal.τ).loc Cert.KeysIdeal.main_v3_1) = v1 c
          ∧ r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
          ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
          ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2))
      ∧ θ_run (Cert.KeysPlainIdeal.defs (F := Ideal)) (onTc (τ := Cert.KeysPlainIdeal.τ) (Cert.KeysPlainIdeal.main (F := Ideal))) ⟨m', fun _ => 0, g'⟩ (fun r => ∀ c : Dev Cert.KeysPlainIdeal.nD,
          r.2.mem ((c.tc : Thread Cert.KeysPlainIdeal.nD Cert.KeysPlainIdeal.τ).loc Cert.KeysPlainIdeal.main_v15) = v0 c
          ∧ r.2.mem ((c.tc : Thread Cert.KeysPlainIdeal.nD Cert.KeysPlainIdeal.τ).loc Cert.KeysPlainIdeal.main_v16) = v1 c
          ∧ r.2.mem ((c.tc : Thread Cert.KeysPlainIdeal.nD Cert.KeysPlainIdeal.τ).loc Cert.KeysPlainIdeal.main_arg0) = m' ((c.tc : Thread Cert.KeysPlainIdeal.nD Cert.KeysPlainIdeal.τ).loc Cert.KeysPlainIdeal.main_arg0)
          ∧ r.2.mem ((c.tc : Thread Cert.KeysPlainIdeal.nD Cert.KeysPlainIdeal.τ).loc Cert.KeysPlainIdeal.main_arg1) = m' ((c.tc : Thread Cert.KeysPlainIdeal.nD Cert.KeysPlainIdeal.τ).loc Cert.KeysPlainIdeal.main_arg1)
          ∧ r.2.mem ((c.tc : Thread Cert.KeysPlainIdeal.nD Cert.KeysPlainIdeal.τ).loc Cert.KeysPlainIdeal.main_arg2) = m' ((c.tc : Thread Cert.KeysPlainIdeal.nD Cert.KeysPlainIdeal.τ).loc Cert.KeysPlainIdeal.main_arg2))

def preserves_Merge_MergeIdeal : Prop :=
  True

def algebraic_MergeIdeal_MergePlainIdeal [hMergeIdeal : Cert.MergeIdeal.Facts] [hMergePlainIdeal : Cert.MergePlainIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergePlainIdeal.nD Cert.MergePlainIdeal.τ Cert.MergePlainIdeal.sig) → Buf (Elt Ideal) ℓ) (g' : Dev Cert.MergePlainIdeal.nD → PrngReg), Pre_MergeIdeal m →
    (∀ c : Dev Cert.MergeIdeal.nD,
      m' ((c.tc : Thread Cert.MergePlainIdeal.nD Cert.MergePlainIdeal.τ).loc Cert.MergePlainIdeal.main_arg0) = m ((c.tc : Thread Cert.MergeIdeal.nD Cert.MergeIdeal.τ).loc Cert.MergeIdeal.main_arg0)
      ∧ m' ((c.tc : Thread Cert.MergePlainIdeal.nD Cert.MergePlainIdeal.τ).loc Cert.MergePlainIdeal.main_arg1) = m ((c.tc : Thread Cert.MergeIdeal.nD Cert.MergeIdeal.τ).loc Cert.MergeIdeal.main_arg1)
      ∧ m' ((c.tc : Thread Cert.MergePlainIdeal.nD Cert.MergePlainIdeal.τ).loc Cert.MergePlainIdeal.main_arg2) = m ((c.tc : Thread Cert.MergeIdeal.nD Cert.MergeIdeal.τ).loc Cert.MergeIdeal.main_arg2)
      ∧ m' ((c.tc : Thread Cert.MergePlainIdeal.nD Cert.MergePlainIdeal.τ).loc Cert.MergePlainIdeal.main_arg3) = m ((c.tc : Thread Cert.MergeIdeal.nD Cert.MergeIdeal.τ).loc Cert.MergeIdeal.main_arg3)
      ∧ m' ((c.tc : Thread Cert.MergePlainIdeal.nD Cert.MergePlainIdeal.τ).loc Cert.MergePlainIdeal.main_arg4) = m ((c.tc : Thread Cert.MergeIdeal.nD Cert.MergeIdeal.τ).loc Cert.MergeIdeal.main_arg4)
      ∧ m' ((c.tc : Thread Cert.MergePlainIdeal.nD Cert.MergePlainIdeal.τ).loc Cert.MergePlainIdeal.main_arg5) = m ((c.tc : Thread Cert.MergeIdeal.nD Cert.MergeIdeal.τ).loc Cert.MergeIdeal.main_arg5)
      ∧ m' ((c.tc : Thread Cert.MergePlainIdeal.nD Cert.MergePlainIdeal.τ).loc Cert.MergePlainIdeal.main_arg6) = m ((c.tc : Thread Cert.MergeIdeal.nD Cert.MergeIdeal.τ).loc Cert.MergeIdeal.main_arg6)
      ∧ m' ((c.tc : Thread Cert.MergePlainIdeal.nD Cert.MergePlainIdeal.τ).loc Cert.MergePlainIdeal.main_arg7) = m ((c.tc : Thread Cert.MergeIdeal.nD Cert.MergeIdeal.τ).loc Cert.MergeIdeal.main_arg7)
      ∧ m' ((c.tc : Thread Cert.MergePlainIdeal.nD Cert.MergePlainIdeal.τ).loc Cert.MergePlainIdeal.main_arg8) = m ((c.tc : Thread Cert.MergeIdeal.nD Cert.MergeIdeal.τ).loc Cert.MergeIdeal.main_arg8)
      ∧ m' ((c.tc : Thread Cert.MergePlainIdeal.nD Cert.MergePlainIdeal.τ).loc Cert.MergePlainIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v9)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v9) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergePlainIdeal.defs (F := Ideal)) (onTc (τ := Cert.MergePlainIdeal.τ) (Cert.MergePlainIdeal.main (F := Ideal))) ⟨m', fun _ => 0, g'⟩ (fun r => ∀ c : Dev Cert.MergePlainIdeal.nD,
          r.2.mem ((c.tc : Thread Cert.MergePlainIdeal.nD Cert.MergePlainIdeal.τ).loc Cert.MergePlainIdeal.main_v52) = v0 c
          ∧ r.2.mem ((c.tc : Thread Cert.MergePlainIdeal.nD Cert.MergePlainIdeal.τ).loc Cert.MergePlainIdeal.main_arg0) = m' ((c.tc : Thread Cert.MergePlainIdeal.nD Cert.MergePlainIdeal.τ).loc Cert.MergePlainIdeal.main_arg0)
          ∧ r.2.mem ((c.tc : Thread Cert.MergePlainIdeal.nD Cert.MergePlainIdeal.τ).loc Cert.MergePlainIdeal.main_arg1) = m' ((c.tc : Thread Cert.MergePlainIdeal.nD Cert.MergePlainIdeal.τ).loc Cert.MergePlainIdeal.main_arg1)
          ∧ r.2.mem ((c.tc : Thread Cert.MergePlainIdeal.nD Cert.MergePlainIdeal.τ).loc Cert.MergePlainIdeal.main_arg2) = m' ((c.tc : Thread Cert.MergePlainIdeal.nD Cert.MergePlainIdeal.τ).loc Cert.MergePlainIdeal.main_arg2)
          ∧ r.2.mem ((c.tc : Thread Cert.MergePlainIdeal.nD Cert.MergePlainIdeal.τ).loc Cert.MergePlainIdeal.main_arg3) = m' ((c.tc : Thread Cert.MergePlainIdeal.nD Cert.MergePlainIdeal.τ).loc Cert.MergePlainIdeal.main_arg3)
          ∧ r.2.mem ((c.tc : Thread Cert.MergePlainIdeal.nD Cert.MergePlainIdeal.τ).loc Cert.MergePlainIdeal.main_arg4) = m' ((c.tc : Thread Cert.MergePlainIdeal.nD Cert.MergePlainIdeal.τ).loc Cert.MergePlainIdeal.main_arg4)
          ∧ r.2.mem ((c.tc : Thread Cert.MergePlainIdeal.nD Cert.MergePlainIdeal.τ).loc Cert.MergePlainIdeal.main_arg5) = m' ((c.tc : Thread Cert.MergePlainIdeal.nD Cert.MergePlainIdeal.τ).loc Cert.MergePlainIdeal.main_arg5)
          ∧ r.2.mem ((c.tc : Thread Cert.MergePlainIdeal.nD Cert.MergePlainIdeal.τ).loc Cert.MergePlainIdeal.main_arg6) = m' ((c.tc : Thread Cert.MergePlainIdeal.nD Cert.MergePlainIdeal.τ).loc Cert.MergePlainIdeal.main_arg6)
          ∧ r.2.mem ((c.tc : Thread Cert.MergePlainIdeal.nD Cert.MergePlainIdeal.τ).loc Cert.MergePlainIdeal.main_arg7) = m' ((c.tc : Thread Cert.MergePlainIdeal.nD Cert.MergePlainIdeal.τ).loc Cert.MergePlainIdeal.main_arg7)
          ∧ r.2.mem ((c.tc : Thread Cert.MergePlainIdeal.nD Cert.MergePlainIdeal.τ).loc Cert.MergePlainIdeal.main_arg8) = m' ((c.tc : Thread Cert.MergePlainIdeal.nD Cert.MergePlainIdeal.τ).loc Cert.MergePlainIdeal.main_arg8)
          ∧ r.2.mem ((c.tc : Thread Cert.MergePlainIdeal.nD Cert.MergePlainIdeal.τ).loc Cert.MergePlainIdeal.main_arg9) = m' ((c.tc : Thread Cert.MergePlainIdeal.nD Cert.MergePlainIdeal.τ).loc Cert.MergePlainIdeal.main_arg9))

def preserves_Project_ProjectIdeal : Prop :=
  True

def algebraic_ProjectIdeal_ProjectPlainIdeal [hProjectIdeal : Cert.ProjectIdeal.Facts] [hProjectPlainIdeal : Cert.ProjectPlainIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectPlainIdeal.nD Cert.ProjectPlainIdeal.τ Cert.ProjectPlainIdeal.sig) → Buf (Elt Ideal) ℓ) (g' : Dev Cert.ProjectPlainIdeal.nD → PrngReg), Pre_ProjectIdeal m →
    (∀ c : Dev Cert.ProjectIdeal.nD,
      m' ((c.tc : Thread Cert.ProjectPlainIdeal.nD Cert.ProjectPlainIdeal.τ).loc Cert.ProjectPlainIdeal.main_arg0) = m ((c.tc : Thread Cert.ProjectIdeal.nD Cert.ProjectIdeal.τ).loc Cert.ProjectIdeal.main_arg0)
      ∧ m' ((c.tc : Thread Cert.ProjectPlainIdeal.nD Cert.ProjectPlainIdeal.τ).loc Cert.ProjectPlainIdeal.main_arg1) = m ((c.tc : Thread Cert.ProjectIdeal.nD Cert.ProjectIdeal.τ).loc Cert.ProjectIdeal.main_arg1)
      ∧ m' ((c.tc : Thread Cert.ProjectPlainIdeal.nD Cert.ProjectPlainIdeal.τ).loc Cert.ProjectPlainIdeal.main_arg2) = m ((c.tc : Thread Cert.ProjectIdeal.nD Cert.ProjectIdeal.τ).loc Cert.ProjectIdeal.main_arg2)
      ∧ m' ((c.tc : Thread Cert.ProjectPlainIdeal.nD Cert.ProjectPlainIdeal.τ).loc Cert.ProjectPlainIdeal.main_arg3) = m ((c.tc : Thread Cert.ProjectIdeal.nD Cert.ProjectIdeal.τ).loc Cert.ProjectIdeal.main_arg3)
      ∧ m' ((c.tc : Thread Cert.ProjectPlainIdeal.nD Cert.ProjectPlainIdeal.τ).loc Cert.ProjectPlainIdeal.main_arg4) = m ((c.tc : Thread Cert.ProjectIdeal.nD Cert.ProjectIdeal.τ).loc Cert.ProjectIdeal.main_arg4)
      ∧ m' ((c.tc : Thread Cert.ProjectPlainIdeal.nD Cert.ProjectPlainIdeal.τ).loc Cert.ProjectPlainIdeal.main_arg5) = m ((c.tc : Thread Cert.ProjectIdeal.nD Cert.ProjectIdeal.τ).loc Cert.ProjectIdeal.main_arg5)
      ∧ m' ((c.tc : Thread Cert.ProjectPlainIdeal.nD Cert.ProjectPlainIdeal.τ).loc Cert.ProjectPlainIdeal.main_arg6) = m ((c.tc : Thread Cert.ProjectIdeal.nD Cert.ProjectIdeal.τ).loc Cert.ProjectIdeal.main_arg6)) →
    ∃ (v0 : (c : Dev Cert.ProjectIdeal.nD) → Buf (Elt Ideal) ((c.tc : Thread Cert.ProjectIdeal.nD Cert.ProjectIdeal.τ).loc Cert.ProjectIdeal.main_v181_0)) (v1 : (c : Dev Cert.ProjectIdeal.nD) → Buf (Elt Ideal) ((c.tc : Thread Cert.ProjectIdeal.nD Cert.ProjectIdeal.τ).loc Cert.ProjectIdeal.main_v181_1)) (v2 : (c : Dev Cert.ProjectIdeal.nD) → Buf (Elt Ideal) ((c.tc : Thread Cert.ProjectIdeal.nD Cert.ProjectIdeal.τ).loc Cert.ProjectIdeal.main_v181_4)) (v3 : (c : Dev Cert.ProjectIdeal.nD) → Buf (Elt Ideal) ((c.tc : Thread Cert.ProjectIdeal.nD Cert.ProjectIdeal.τ).loc Cert.ProjectIdeal.main_v181_5)) (v4 : (c : Dev Cert.ProjectIdeal.nD) → Buf (Elt Ideal) ((c.tc : Thread Cert.ProjectIdeal.nD Cert.ProjectIdeal.τ).loc Cert.ProjectIdeal.main_v181_6)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v181_0) = v0 c
          ∧ r.2.mem ((c.tc : Thread Cert.ProjectIdeal.nD Cert.ProjectIdeal.τ).loc Cert.ProjectIdeal.main_v181_1) = v1 c
          ∧ r.2.mem ((c.tc : Thread Cert.ProjectIdeal.nD Cert.ProjectIdeal.τ).loc Cert.ProjectIdeal.main_v181_4) = v2 c
          ∧ r.2.mem ((c.tc : Thread Cert.ProjectIdeal.nD Cert.ProjectIdeal.τ).loc Cert.ProjectIdeal.main_v181_5) = v3 c
          ∧ r.2.mem ((c.tc : Thread Cert.ProjectIdeal.nD Cert.ProjectIdeal.τ).loc Cert.ProjectIdeal.main_v181_6) = v4 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6))
      ∧ θ_run (Cert.ProjectPlainIdeal.defs (F := Ideal)) (onTc (τ := Cert.ProjectPlainIdeal.τ) (Cert.ProjectPlainIdeal.main (F := Ideal))) ⟨m', fun _ => 0, g'⟩ (fun r => ∀ c : Dev Cert.ProjectPlainIdeal.nD,
          r.2.mem ((c.tc : Thread Cert.ProjectPlainIdeal.nD Cert.ProjectPlainIdeal.τ).loc Cert.ProjectPlainIdeal.main_v70) = v0 c
          ∧ r.2.mem ((c.tc : Thread Cert.ProjectPlainIdeal.nD Cert.ProjectPlainIdeal.τ).loc Cert.ProjectPlainIdeal.main_v71) = v1 c
          ∧ r.2.mem ((c.tc : Thread Cert.ProjectPlainIdeal.nD Cert.ProjectPlainIdeal.τ).loc Cert.ProjectPlainIdeal.main_v72) = v2 c
          ∧ r.2.mem ((c.tc : Thread Cert.ProjectPlainIdeal.nD Cert.ProjectPlainIdeal.τ).loc Cert.ProjectPlainIdeal.main_v73) = v3 c
          ∧ r.2.mem ((c.tc : Thread Cert.ProjectPlainIdeal.nD Cert.ProjectPlainIdeal.τ).loc Cert.ProjectPlainIdeal.main_v74) = v4 c
          ∧ r.2.mem ((c.tc : Thread Cert.ProjectPlainIdeal.nD Cert.ProjectPlainIdeal.τ).loc Cert.ProjectPlainIdeal.main_arg0) = m' ((c.tc : Thread Cert.ProjectPlainIdeal.nD Cert.ProjectPlainIdeal.τ).loc Cert.ProjectPlainIdeal.main_arg0)
          ∧ r.2.mem ((c.tc : Thread Cert.ProjectPlainIdeal.nD Cert.ProjectPlainIdeal.τ).loc Cert.ProjectPlainIdeal.main_arg1) = m' ((c.tc : Thread Cert.ProjectPlainIdeal.nD Cert.ProjectPlainIdeal.τ).loc Cert.ProjectPlainIdeal.main_arg1)
          ∧ r.2.mem ((c.tc : Thread Cert.ProjectPlainIdeal.nD Cert.ProjectPlainIdeal.τ).loc Cert.ProjectPlainIdeal.main_arg2) = m' ((c.tc : Thread Cert.ProjectPlainIdeal.nD Cert.ProjectPlainIdeal.τ).loc Cert.ProjectPlainIdeal.main_arg2)
          ∧ r.2.mem ((c.tc : Thread Cert.ProjectPlainIdeal.nD Cert.ProjectPlainIdeal.τ).loc Cert.ProjectPlainIdeal.main_arg3) = m' ((c.tc : Thread Cert.ProjectPlainIdeal.nD Cert.ProjectPlainIdeal.τ).loc Cert.ProjectPlainIdeal.main_arg3)
          ∧ r.2.mem ((c.tc : Thread Cert.ProjectPlainIdeal.nD Cert.ProjectPlainIdeal.τ).loc Cert.ProjectPlainIdeal.main_arg4) = m' ((c.tc : Thread Cert.ProjectPlainIdeal.nD Cert.ProjectPlainIdeal.τ).loc Cert.ProjectPlainIdeal.main_arg4)
          ∧ r.2.mem ((c.tc : Thread Cert.ProjectPlainIdeal.nD Cert.ProjectPlainIdeal.τ).loc Cert.ProjectPlainIdeal.main_arg5) = m' ((c.tc : Thread Cert.ProjectPlainIdeal.nD Cert.ProjectPlainIdeal.τ).loc Cert.ProjectPlainIdeal.main_arg5)
          ∧ r.2.mem ((c.tc : Thread Cert.ProjectPlainIdeal.nD Cert.ProjectPlainIdeal.τ).loc Cert.ProjectPlainIdeal.main_arg6) = m' ((c.tc : Thread Cert.ProjectPlainIdeal.nD Cert.ProjectPlainIdeal.τ).loc Cert.ProjectPlainIdeal.main_arg6))

def preserves_MergeSample_MergeSampleIdeal : Prop :=
  True

def algebraic_MergeSampleIdeal_MergeSamplePlainIdeal [hMergeSampleIdeal : Cert.MergeSampleIdeal.Facts] [hMergeSamplePlainIdeal : Cert.MergeSamplePlainIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg)
    (m' : (ℓ : Loc Cert.MergeSamplePlainIdeal.nD Cert.MergeSamplePlainIdeal.τ Cert.MergeSamplePlainIdeal.sig) → Buf (Elt Ideal) ℓ) (g' : Dev Cert.MergeSamplePlainIdeal.nD → PrngReg), Pre_MergeSampleIdeal m →
    (∀ c : Dev Cert.MergeSampleIdeal.nD,
      m' ((c.tc : Thread Cert.MergeSamplePlainIdeal.nD Cert.MergeSamplePlainIdeal.τ).loc Cert.MergeSamplePlainIdeal.main_arg0) = m ((c.tc : Thread Cert.MergeSampleIdeal.nD Cert.MergeSampleIdeal.τ).loc Cert.MergeSampleIdeal.main_arg0)
      ∧ m' ((c.tc : Thread Cert.MergeSamplePlainIdeal.nD Cert.MergeSamplePlainIdeal.τ).loc Cert.MergeSamplePlainIdeal.main_arg1) = m ((c.tc : Thread Cert.MergeSampleIdeal.nD Cert.MergeSampleIdeal.τ).loc Cert.MergeSampleIdeal.main_arg1)
      ∧ m' ((c.tc : Thread Cert.MergeSamplePlainIdeal.nD Cert.MergeSamplePlainIdeal.τ).loc Cert.MergeSamplePlainIdeal.main_arg2) = m ((c.tc : Thread Cert.MergeSampleIdeal.nD Cert.MergeSampleIdeal.τ).loc Cert.MergeSampleIdeal.main_arg2)
      ∧ m' ((c.tc : Thread Cert.MergeSamplePlainIdeal.nD Cert.MergeSamplePlainIdeal.τ).loc Cert.MergeSamplePlainIdeal.main_arg3) = m ((c.tc : Thread Cert.MergeSampleIdeal.nD Cert.MergeSampleIdeal.τ).loc Cert.MergeSampleIdeal.main_arg3)
      ∧ m' ((c.tc : Thread Cert.MergeSamplePlainIdeal.nD Cert.MergeSamplePlainIdeal.τ).loc Cert.MergeSamplePlainIdeal.main_arg4) = m ((c.tc : Thread Cert.MergeSampleIdeal.nD Cert.MergeSampleIdeal.τ).loc Cert.MergeSampleIdeal.main_arg4)
      ∧ m' ((c.tc : Thread Cert.MergeSamplePlainIdeal.nD Cert.MergeSamplePlainIdeal.τ).loc Cert.MergeSamplePlainIdeal.main_arg5) = m ((c.tc : Thread Cert.MergeSampleIdeal.nD Cert.MergeSampleIdeal.τ).loc Cert.MergeSampleIdeal.main_arg5)
      ∧ m' ((c.tc : Thread Cert.MergeSamplePlainIdeal.nD Cert.MergeSamplePlainIdeal.τ).loc Cert.MergeSamplePlainIdeal.main_arg6) = m ((c.tc : Thread Cert.MergeSampleIdeal.nD Cert.MergeSampleIdeal.τ).loc Cert.MergeSampleIdeal.main_arg6)
      ∧ m' ((c.tc : Thread Cert.MergeSamplePlainIdeal.nD Cert.MergeSamplePlainIdeal.τ).loc Cert.MergeSamplePlainIdeal.main_arg7) = m ((c.tc : Thread Cert.MergeSampleIdeal.nD Cert.MergeSampleIdeal.τ).loc Cert.MergeSampleIdeal.main_arg7)
      ∧ m' ((c.tc : Thread Cert.MergeSamplePlainIdeal.nD Cert.MergeSamplePlainIdeal.τ).loc Cert.MergeSamplePlainIdeal.main_arg8) = m ((c.tc : Thread Cert.MergeSampleIdeal.nD Cert.MergeSampleIdeal.τ).loc Cert.MergeSampleIdeal.main_arg8)
      ∧ m' ((c.tc : Thread Cert.MergeSamplePlainIdeal.nD Cert.MergeSamplePlainIdeal.τ).loc Cert.MergeSamplePlainIdeal.main_arg9) = m ((c.tc : Thread Cert.MergeSampleIdeal.nD Cert.MergeSampleIdeal.τ).loc Cert.MergeSampleIdeal.main_arg9)) →
    ∃ (v0 : (c : Dev Cert.MergeSampleIdeal.nD) → Buf (Elt Ideal) ((c.tc : Thread Cert.MergeSampleIdeal.nD Cert.MergeSampleIdeal.τ).loc Cert.MergeSampleIdeal.main_v9)),
      θ_run (Cert.MergeSampleIdeal.defs (F := Ideal)) (onTc (τ := Cert.MergeSampleIdeal.τ) (Cert.MergeSampleIdeal.main (F := Ideal))) ⟨m, fun _ => 0, g⟩ (fun r => ∀ c : Dev Cert.MergeSampleIdeal.nD,
          r.2.mem ((c.tc : Thread Cert.MergeSampleIdeal.nD Cert.MergeSampleIdeal.τ).loc Cert.MergeSampleIdeal.main_v9) = v0 c
          ∧ r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
          ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
          ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
          ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
          ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
          ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
          ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
          ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7)
          ∧ r.2.mem ((c.tc : Thread Cert.MergeSampleIdeal.nD Cert.MergeSampleIdeal.τ).loc Cert.MergeSampleIdeal.main_arg8) = m ((c.tc : Thread Cert.MergeSampleIdeal.nD Cert.MergeSampleIdeal.τ).loc Cert.MergeSampleIdeal.main_arg8)
          ∧ r.2.mem ((c.tc : Thread Cert.MergeSampleIdeal.nD Cert.MergeSampleIdeal.τ).loc Cert.MergeSampleIdeal.main_arg9) = m ((c.tc : Thread Cert.MergeSampleIdeal.nD Cert.MergeSampleIdeal.τ).loc Cert.MergeSampleIdeal.main_arg9))
      ∧ θ_run (Cert.MergeSamplePlainIdeal.defs (F := Ideal)) (onTc (τ := Cert.MergeSamplePlainIdeal.τ) (Cert.MergeSamplePlainIdeal.main (F := Ideal))) ⟨m', fun _ => 0, g'⟩ (fun r => ∀ c : Dev Cert.MergeSamplePlainIdeal.nD,
          r.2.mem ((c.tc : Thread Cert.MergeSamplePlainIdeal.nD Cert.MergeSamplePlainIdeal.τ).loc Cert.MergeSamplePlainIdeal.main_v52) = v0 c
          ∧ r.2.mem ((c.tc : Thread Cert.MergeSamplePlainIdeal.nD Cert.MergeSamplePlainIdeal.τ).loc Cert.MergeSamplePlainIdeal.main_arg0) = m' ((c.tc : Thread Cert.MergeSamplePlainIdeal.nD Cert.MergeSamplePlainIdeal.τ).loc Cert.MergeSamplePlainIdeal.main_arg0)
          ∧ r.2.mem ((c.tc : Thread Cert.MergeSamplePlainIdeal.nD Cert.MergeSamplePlainIdeal.τ).loc Cert.MergeSamplePlainIdeal.main_arg1) = m' ((c.tc : Thread Cert.MergeSamplePlainIdeal.nD Cert.MergeSamplePlainIdeal.τ).loc Cert.MergeSamplePlainIdeal.main_arg1)
          ∧ r.2.mem ((c.tc : Thread Cert.MergeSamplePlainIdeal.nD Cert.MergeSamplePlainIdeal.τ).loc Cert.MergeSamplePlainIdeal.main_arg2) = m' ((c.tc : Thread Cert.MergeSamplePlainIdeal.nD Cert.MergeSamplePlainIdeal.τ).loc Cert.MergeSamplePlainIdeal.main_arg2)
          ∧ r.2.mem ((c.tc : Thread Cert.MergeSamplePlainIdeal.nD Cert.MergeSamplePlainIdeal.τ).loc Cert.MergeSamplePlainIdeal.main_arg3) = m' ((c.tc : Thread Cert.MergeSamplePlainIdeal.nD Cert.MergeSamplePlainIdeal.τ).loc Cert.MergeSamplePlainIdeal.main_arg3)
          ∧ r.2.mem ((c.tc : Thread Cert.MergeSamplePlainIdeal.nD Cert.MergeSamplePlainIdeal.τ).loc Cert.MergeSamplePlainIdeal.main_arg4) = m' ((c.tc : Thread Cert.MergeSamplePlainIdeal.nD Cert.MergeSamplePlainIdeal.τ).loc Cert.MergeSamplePlainIdeal.main_arg4)
          ∧ r.2.mem ((c.tc : Thread Cert.MergeSamplePlainIdeal.nD Cert.MergeSamplePlainIdeal.τ).loc Cert.MergeSamplePlainIdeal.main_arg5) = m' ((c.tc : Thread Cert.MergeSamplePlainIdeal.nD Cert.MergeSamplePlainIdeal.τ).loc Cert.MergeSamplePlainIdeal.main_arg5)
          ∧ r.2.mem ((c.tc : Thread Cert.MergeSamplePlainIdeal.nD Cert.MergeSamplePlainIdeal.τ).loc Cert.MergeSamplePlainIdeal.main_arg6) = m' ((c.tc : Thread Cert.MergeSamplePlainIdeal.nD Cert.MergeSamplePlainIdeal.τ).loc Cert.MergeSamplePlainIdeal.main_arg6)
          ∧ r.2.mem ((c.tc : Thread Cert.MergeSamplePlainIdeal.nD Cert.MergeSamplePlainIdeal.τ).loc Cert.MergeSamplePlainIdeal.main_arg7) = m' ((c.tc : Thread Cert.MergeSamplePlainIdeal.nD Cert.MergeSamplePlainIdeal.τ).loc Cert.MergeSamplePlainIdeal.main_arg7)
          ∧ r.2.mem ((c.tc : Thread Cert.MergeSamplePlainIdeal.nD Cert.MergeSamplePlainIdeal.τ).loc Cert.MergeSamplePlainIdeal.main_arg8) = m' ((c.tc : Thread Cert.MergeSamplePlainIdeal.nD Cert.MergeSamplePlainIdeal.τ).loc Cert.MergeSamplePlainIdeal.main_arg8)
          ∧ r.2.mem ((c.tc : Thread Cert.MergeSamplePlainIdeal.nD Cert.MergeSamplePlainIdeal.τ).loc Cert.MergeSamplePlainIdeal.main_arg9) = m' ((c.tc : Thread Cert.MergeSamplePlainIdeal.nD Cert.MergeSamplePlainIdeal.τ).loc Cert.MergeSamplePlainIdeal.main_arg9))

def preserves_ProjectSample_ProjectSampleIdeal : Prop :=
  True

def algebraic_ProjectSampleIdeal_ProjectSamplePlainIdeal [hProjectSampleIdeal : Cert.ProjectSampleIdeal.Facts] [hProjectSamplePlainIdeal : Cert.ProjectSamplePlainIdeal.Facts] : Prop :=
  ∀ (m : (ℓ : Loc Cert.ProjectSampleIdeal.nD Cert.ProjectSampleIdeal.τ Cert.ProjectSampleIdeal.sig) → Buf (Elt Ideal) ℓ) (g : Dev Cert.ProjectSampleIdeal.nD → PrngReg)
    (m' : (ℓ : Loc Cert.ProjectSamplePlainIdeal.nD Cert.ProjectSamplePlainIdeal.τ Cert.ProjectSamplePlainIdeal.sig) → Buf (Elt Ideal) ℓ) (g' : Dev Cert.ProjectSamplePlainIdeal.nD → PrngReg), Pre_ProjectSampleIdeal m →
    (∀ c : Dev Cert.ProjectSampleIdeal.nD,
      m' ((c.tc : Thread Cert.ProjectSamplePlainIdeal.nD Cert.ProjectSamplePlainIdeal.τ).loc Cert.ProjectSamplePlainIdeal.main_arg0) = m ((c.tc : Thread Cert.ProjectSampleIdeal.nD Cert.ProjectSampleIdeal.τ).loc Cert.ProjectSampleIdeal.main_arg0)
      ∧ m' ((c.tc : Thread Cert.ProjectSamplePlainIdeal.nD Cert.ProjectSamplePlainIdeal.τ).loc Cert.ProjectSamplePlainIdeal.main_arg1) = m ((c.tc : Thread Cert.ProjectSampleIdeal.nD Cert.ProjectSampleIdeal.τ).loc Cert.ProjectSampleIdeal.main_arg1)
      ∧ m' ((c.tc : Thread Cert.ProjectSamplePlainIdeal.nD Cert.ProjectSamplePlainIdeal.τ).loc Cert.ProjectSamplePlainIdeal.main_arg2) = m ((c.tc : Thread Cert.ProjectSampleIdeal.nD Cert.ProjectSampleIdeal.τ).loc Cert.ProjectSampleIdeal.main_arg2)
      ∧ m' ((c.tc : Thread Cert.ProjectSamplePlainIdeal.nD Cert.ProjectSamplePlainIdeal.τ).loc Cert.ProjectSamplePlainIdeal.main_arg3) = m ((c.tc : Thread Cert.ProjectSampleIdeal.nD Cert.ProjectSampleIdeal.τ).loc Cert.ProjectSampleIdeal.main_arg3)
      ∧ m' ((c.tc : Thread Cert.ProjectSamplePlainIdeal.nD Cert.ProjectSamplePlainIdeal.τ).loc Cert.ProjectSamplePlainIdeal.main_arg4) = m ((c.tc : Thread Cert.ProjectSampleIdeal.nD Cert.ProjectSampleIdeal.τ).loc Cert.ProjectSampleIdeal.main_arg4)
      ∧ m' ((c.tc : Thread Cert.ProjectSamplePlainIdeal.nD Cert.ProjectSamplePlainIdeal.τ).loc Cert.ProjectSamplePlainIdeal.main_arg5) = m ((c.tc : Thread Cert.ProjectSampleIdeal.nD Cert.ProjectSampleIdeal.τ).loc Cert.ProjectSampleIdeal.main_arg5)
      ∧ m' ((c.tc : Thread Cert.ProjectSamplePlainIdeal.nD Cert.ProjectSamplePlainIdeal.τ).loc Cert.ProjectSamplePlainIdeal.main_arg6) = m ((c.tc : Thread Cert.ProjectSampleIdeal.nD Cert.ProjectSampleIdeal.τ).loc Cert.ProjectSampleIdeal.main_arg6)
      ∧ m' ((c.tc : Thread Cert.ProjectSamplePlainIdeal.nD Cert.ProjectSamplePlainIdeal.τ).loc Cert.ProjectSamplePlainIdeal.main_arg7) = m ((c.tc : Thread Cert.ProjectSampleIdeal.nD Cert.ProjectSampleIdeal.τ).loc Cert.ProjectSampleIdeal.main_arg7)) →
    ∃ (v0 : (c : Dev Cert.ProjectSampleIdeal.nD) → Buf (Elt Ideal) ((c.tc : Thread Cert.ProjectSampleIdeal.nD Cert.ProjectSampleIdeal.τ).loc Cert.ProjectSampleIdeal.main_v181_0)) (v1 : (c : Dev Cert.ProjectSampleIdeal.nD) → Buf (Elt Ideal) ((c.tc : Thread Cert.ProjectSampleIdeal.nD Cert.ProjectSampleIdeal.τ).loc Cert.ProjectSampleIdeal.main_v181_1)) (v2 : (c : Dev Cert.ProjectSampleIdeal.nD) → Buf (Elt Ideal) ((c.tc : Thread Cert.ProjectSampleIdeal.nD Cert.ProjectSampleIdeal.τ).loc Cert.ProjectSampleIdeal.main_v181_5)) (v3 : (c : Dev Cert.ProjectSampleIdeal.nD) → Buf (Elt Ideal) ((c.tc : Thread Cert.ProjectSampleIdeal.nD Cert.ProjectSampleIdeal.τ).loc Cert.ProjectSampleIdeal.main_v181_6)) (v4 : (c : Dev Cert.ProjectSampleIdeal.nD) → Buf (Elt Ideal) ((c.tc : Thread Cert.ProjectSampleIdeal.nD Cert.ProjectSampleIdeal.τ).loc Cert.ProjectSampleIdeal.main_v184)),
      θ_run (Cert.ProjectSampleIdeal.defs (F := Ideal)) (onTc (τ := Cert.ProjectSampleIdeal.τ) (Cert.ProjectSampleIdeal.main (F := Ideal))) ⟨m, fun _ => 0, g⟩ (fun r => ∀ c : Dev Cert.ProjectSampleIdeal.nD,
          r.2.mem ((c.tc : Thread Cert.ProjectSampleIdeal.nD Cert.ProjectSampleIdeal.τ).loc Cert.ProjectSampleIdeal.main_v181_0) = v0 c
          ∧ r.2.mem ((c.tc : Thread Cert.ProjectSampleIdeal.nD Cert.ProjectSampleIdeal.τ).loc Cert.ProjectSampleIdeal.main_v181_1) = v1 c
          ∧ r.2.mem ((c.tc : Thread Cert.ProjectSampleIdeal.nD Cert.ProjectSampleIdeal.τ).loc Cert.ProjectSampleIdeal.main_v181_5) = v2 c
          ∧ r.2.mem ((c.tc : Thread Cert.ProjectSampleIdeal.nD Cert.ProjectSampleIdeal.τ).loc Cert.ProjectSampleIdeal.main_v181_6) = v3 c
          ∧ r.2.mem ((c.tc : Thread Cert.ProjectSampleIdeal.nD Cert.ProjectSampleIdeal.τ).loc Cert.ProjectSampleIdeal.main_v184) = v4 c
          ∧ r.2.mem ((c.tc : Thread Cert.ProjectSampleIdeal.nD Cert.ProjectSampleIdeal.τ).loc Cert.ProjectSampleIdeal.main_arg0) = m ((c.tc : Thread Cert.ProjectSampleIdeal.nD Cert.ProjectSampleIdeal.τ).loc Cert.ProjectSampleIdeal.main_arg0)
          ∧ r.2.mem ((c.tc : Thread Cert.ProjectSampleIdeal.nD Cert.ProjectSampleIdeal.τ).loc Cert.ProjectSampleIdeal.main_arg1) = m ((c.tc : Thread Cert.ProjectSampleIdeal.nD Cert.ProjectSampleIdeal.τ).loc Cert.ProjectSampleIdeal.main_arg1)
          ∧ r.2.mem ((c.tc : Thread Cert.ProjectSampleIdeal.nD Cert.ProjectSampleIdeal.τ).loc Cert.ProjectSampleIdeal.main_arg2) = m ((c.tc : Thread Cert.ProjectSampleIdeal.nD Cert.ProjectSampleIdeal.τ).loc Cert.ProjectSampleIdeal.main_arg2)
          ∧ r.2.mem ((c.tc : Thread Cert.ProjectSampleIdeal.nD Cert.ProjectSampleIdeal.τ).loc Cert.ProjectSampleIdeal.main_arg3) = m ((c.tc : Thread Cert.ProjectSampleIdeal.nD Cert.ProjectSampleIdeal.τ).loc Cert.ProjectSampleIdeal.main_arg3)
          ∧ r.2.mem ((c.tc : Thread Cert.ProjectSampleIdeal.nD Cert.ProjectSampleIdeal.τ).loc Cert.ProjectSampleIdeal.main_arg4) = m ((c.tc : Thread Cert.ProjectSampleIdeal.nD Cert.ProjectSampleIdeal.τ).loc Cert.ProjectSampleIdeal.main_arg4)
          ∧ r.2.mem ((c.tc : Thread Cert.ProjectSampleIdeal.nD Cert.ProjectSampleIdeal.τ).loc Cert.ProjectSampleIdeal.main_arg5) = m ((c.tc : Thread Cert.ProjectSampleIdeal.nD Cert.ProjectSampleIdeal.τ).loc Cert.ProjectSampleIdeal.main_arg5)
          ∧ r.2.mem ((c.tc : Thread Cert.ProjectSampleIdeal.nD Cert.ProjectSampleIdeal.τ).loc Cert.ProjectSampleIdeal.main_arg6) = m ((c.tc : Thread Cert.ProjectSampleIdeal.nD Cert.ProjectSampleIdeal.τ).loc Cert.ProjectSampleIdeal.main_arg6)
          ∧ r.2.mem ((c.tc : Thread Cert.ProjectSampleIdeal.nD Cert.ProjectSampleIdeal.τ).loc Cert.ProjectSampleIdeal.main_arg7) = m ((c.tc : Thread Cert.ProjectSampleIdeal.nD Cert.ProjectSampleIdeal.τ).loc Cert.ProjectSampleIdeal.main_arg7))
      ∧ θ_run (Cert.ProjectSamplePlainIdeal.defs (F := Ideal)) (onTc (τ := Cert.ProjectSamplePlainIdeal.τ) (Cert.ProjectSamplePlainIdeal.main (F := Ideal))) ⟨m', fun _ => 0, g'⟩ (fun r => ∀ c : Dev Cert.ProjectSamplePlainIdeal.nD,
          r.2.mem ((c.tc : Thread Cert.ProjectSamplePlainIdeal.nD Cert.ProjectSamplePlainIdeal.τ).loc Cert.ProjectSamplePlainIdeal.main_v72) = v0 c
          ∧ r.2.mem ((c.tc : Thread Cert.ProjectSamplePlainIdeal.nD Cert.ProjectSamplePlainIdeal.τ).loc Cert.ProjectSamplePlainIdeal.main_v73) = v1 c
          ∧ r.2.mem ((c.tc : Thread Cert.ProjectSamplePlainIdeal.nD Cert.ProjectSamplePlainIdeal.τ).loc Cert.ProjectSamplePlainIdeal.main_v74) = v2 c
          ∧ r.2.mem ((c.tc : Thread Cert.ProjectSamplePlainIdeal.nD Cert.ProjectSamplePlainIdeal.τ).loc Cert.ProjectSamplePlainIdeal.main_v75) = v3 c
          ∧ r.2.mem ((c.tc : Thread Cert.ProjectSamplePlainIdeal.nD Cert.ProjectSamplePlainIdeal.τ).loc Cert.ProjectSamplePlainIdeal.main_v76) = v4 c
          ∧ r.2.mem ((c.tc : Thread Cert.ProjectSamplePlainIdeal.nD Cert.ProjectSamplePlainIdeal.τ).loc Cert.ProjectSamplePlainIdeal.main_arg0) = m' ((c.tc : Thread Cert.ProjectSamplePlainIdeal.nD Cert.ProjectSamplePlainIdeal.τ).loc Cert.ProjectSamplePlainIdeal.main_arg0)
          ∧ r.2.mem ((c.tc : Thread Cert.ProjectSamplePlainIdeal.nD Cert.ProjectSamplePlainIdeal.τ).loc Cert.ProjectSamplePlainIdeal.main_arg1) = m' ((c.tc : Thread Cert.ProjectSamplePlainIdeal.nD Cert.ProjectSamplePlainIdeal.τ).loc Cert.ProjectSamplePlainIdeal.main_arg1)
          ∧ r.2.mem ((c.tc : Thread Cert.ProjectSamplePlainIdeal.nD Cert.ProjectSamplePlainIdeal.τ).loc Cert.ProjectSamplePlainIdeal.main_arg2) = m' ((c.tc : Thread Cert.ProjectSamplePlainIdeal.nD Cert.ProjectSamplePlainIdeal.τ).loc Cert.ProjectSamplePlainIdeal.main_arg2)
          ∧ r.2.mem ((c.tc : Thread Cert.ProjectSamplePlainIdeal.nD Cert.ProjectSamplePlainIdeal.τ).loc Cert.ProjectSamplePlainIdeal.main_arg3) = m' ((c.tc : Thread Cert.ProjectSamplePlainIdeal.nD Cert.ProjectSamplePlainIdeal.τ).loc Cert.ProjectSamplePlainIdeal.main_arg3)
          ∧ r.2.mem ((c.tc : Thread Cert.ProjectSamplePlainIdeal.nD Cert.ProjectSamplePlainIdeal.τ).loc Cert.ProjectSamplePlainIdeal.main_arg4) = m' ((c.tc : Thread Cert.ProjectSamplePlainIdeal.nD Cert.ProjectSamplePlainIdeal.τ).loc Cert.ProjectSamplePlainIdeal.main_arg4)
          ∧ r.2.mem ((c.tc : Thread Cert.ProjectSamplePlainIdeal.nD Cert.ProjectSamplePlainIdeal.τ).loc Cert.ProjectSamplePlainIdeal.main_arg5) = m' ((c.tc : Thread Cert.ProjectSamplePlainIdeal.nD Cert.ProjectSamplePlainIdeal.τ).loc Cert.ProjectSamplePlainIdeal.main_arg5)
          ∧ r.2.mem ((c.tc : Thread Cert.ProjectSamplePlainIdeal.nD Cert.ProjectSamplePlainIdeal.τ).loc Cert.ProjectSamplePlainIdeal.main_arg6) = m' ((c.tc : Thread Cert.ProjectSamplePlainIdeal.nD Cert.ProjectSamplePlainIdeal.τ).loc Cert.ProjectSamplePlainIdeal.main_arg6)
          ∧ r.2.mem ((c.tc : Thread Cert.ProjectSamplePlainIdeal.nD Cert.ProjectSamplePlainIdeal.τ).loc Cert.ProjectSamplePlainIdeal.main_arg7) = m' ((c.tc : Thread Cert.ProjectSamplePlainIdeal.nD Cert.ProjectSamplePlainIdeal.τ).loc Cert.ProjectSamplePlainIdeal.main_arg7))

def Claim : Prop :=
  ∃ (hKernel : Cert.Kernel.Facts) (hKernelIdeal : Cert.KernelIdeal.Facts) (hReferenceIdeal : Cert.ReferenceIdeal.Facts) (hKeys : Cert.Keys.Facts) (hKeysIdeal : Cert.KeysIdeal.Facts) (hKeysPlainIdeal : Cert.KeysPlainIdeal.Facts) (hMerge : Cert.Merge.Facts) (hMergeIdeal : Cert.MergeIdeal.Facts) (hMergePlainIdeal : Cert.MergePlainIdeal.Facts) (hProject : Cert.Project.Facts) (hProjectIdeal : Cert.ProjectIdeal.Facts) (hProjectPlainIdeal : Cert.ProjectPlainIdeal.Facts) (hMergeSample : Cert.MergeSample.Facts) (hMergeSampleIdeal : Cert.MergeSampleIdeal.Facts) (hMergeSamplePlainIdeal : Cert.MergeSamplePlainIdeal.Facts) (hProjectSample : Cert.ProjectSample.Facts) (hProjectSampleIdeal : Cert.ProjectSampleIdeal.Facts) (hProjectSamplePlainIdeal : Cert.ProjectSamplePlainIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Keys (hKeys := hKeys)
    ∧ quiescent_KeysIdeal (hKeysIdeal := hKeysIdeal)
    ∧ quiescent_KeysPlainIdeal (hKeysPlainIdeal := hKeysPlainIdeal)
    ∧ quiescent_Merge (hMerge := hMerge)
    ∧ quiescent_MergeIdeal (hMergeIdeal := hMergeIdeal)
    ∧ quiescent_MergePlainIdeal (hMergePlainIdeal := hMergePlainIdeal)
    ∧ quiescent_Project (hProject := hProject)
    ∧ quiescent_ProjectIdeal (hProjectIdeal := hProjectIdeal)
    ∧ quiescent_ProjectPlainIdeal (hProjectPlainIdeal := hProjectPlainIdeal)
    ∧ quiescent_MergeSample (hMergeSample := hMergeSample)
    ∧ quiescent_MergeSampleIdeal (hMergeSampleIdeal := hMergeSampleIdeal)
    ∧ quiescent_MergeSamplePlainIdeal (hMergeSamplePlainIdeal := hMergeSamplePlainIdeal)
    ∧ quiescent_ProjectSample (hProjectSample := hProjectSample)
    ∧ quiescent_ProjectSampleIdeal (hProjectSampleIdeal := hProjectSampleIdeal)
    ∧ quiescent_ProjectSamplePlainIdeal (hProjectSamplePlainIdeal := hProjectSamplePlainIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Keys_KeysIdeal
    ∧ algebraic_KeysIdeal_KeysPlainIdeal (hKeysIdeal := hKeysIdeal) (hKeysPlainIdeal := hKeysPlainIdeal)
    ∧ preserves_Merge_MergeIdeal
    ∧ algebraic_MergeIdeal_MergePlainIdeal (hMergeIdeal := hMergeIdeal) (hMergePlainIdeal := hMergePlainIdeal)
    ∧ preserves_Project_ProjectIdeal
    ∧ algebraic_ProjectIdeal_ProjectPlainIdeal (hProjectIdeal := hProjectIdeal) (hProjectPlainIdeal := hProjectPlainIdeal)
    ∧ preserves_MergeSample_MergeSampleIdeal
    ∧ algebraic_MergeSampleIdeal_MergeSamplePlainIdeal (hMergeSampleIdeal := hMergeSampleIdeal) (hMergeSamplePlainIdeal := hMergeSamplePlainIdeal)
    ∧ preserves_ProjectSample_ProjectSampleIdeal
    ∧ algebraic_ProjectSampleIdeal_ProjectSamplePlainIdeal (hProjectSampleIdeal := hProjectSampleIdeal) (hProjectSamplePlainIdeal := hProjectSamplePlainIdeal)
-- ==== Pre_finite.lean ====
abbrev S2x8192x8x256 : Shape := ⟨4, ![2, 8192, 8, 256]⟩
abbrev S2x8192x8x32 : Shape := ⟨4, ![2, 8192, 8, 32]⟩
abbrev S2x8192x256 : Shape := ⟨3, ![2, 8192, 256]⟩
abbrev S2x8192x32 : Shape := ⟨3, ![2, 8192, 32]⟩
abbrev S256x8x64 : Shape := ⟨3, ![256, 8, 64]⟩
abbrev S_ : Shape := ⟨0, ![]⟩

class Facts : Prop where
  bcast_S_S2x8192x8x256 : S_.BroadcastsInDim S2x8192x8x256 (![] : Fin 0 → Fin S2x8192x8x256.rank)
  reducesTo_S2x8192x8x256_S_d0_1_2_3 : S2x8192x8x256.ReducesTo [0, 1, 2, 3] S_
  h_S_ : 0 < S_.numel
  bcast_S_S2x8192x8x32 : S_.BroadcastsInDim S2x8192x8x32 (![] : Fin 0 → Fin S2x8192x8x32.rank)
  reducesTo_S2x8192x8x32_S_d0_1_2_3 : S2x8192x8x32.ReducesTo [0, 1, 2, 3] S_
  bcast_S_S2x8192x256 : S_.BroadcastsInDim S2x8192x256 (![] : Fin 0 → Fin S2x8192x256.rank)
  reducesTo_S2x8192x256_S_d0_1_2 : S2x8192x256.ReducesTo [0, 1, 2] S_
  bcast_S_S2x8192x32 : S_.BroadcastsInDim S2x8192x32 (![] : Fin 0 → Fin S2x8192x32.rank)
  reducesTo_S2x8192x32_S_d0_1_2 : S2x8192x32.ReducesTo [0, 1, 2] S_

variable [Facts]

def fn_part1 {F : FTy → Type} [FloatOps F] (main_v13 : IVec S_ 1) (main_v16 : IVec S2x8192x32 1) : IVec S_ 1 :=
  let main_c_5 : IVec S_ 1 := constantI S_ 1 1#1
  let main_v17 : IVec S_ 1 := (fun x v => Host.reduce IntOp.andi x v reducesTo_S2x8192x32_S_d0_1_2 h_S_) main_v16 main_c_5
  let main_v18 : IVec S_ 1 := andi main_v13 main_v17
  main_v18

def fn {F : FTy → Type} [FloatOps F] (main_arg0 : FVec F S2x8192x8x256 .f32) (main_arg1 : FVec F S2x8192x8x32 .f32) (main_arg2 : FVec F S2x8192x256 .f32) (main_arg3 : FVec F S2x8192x32 .f32) (main_arg4 : FVec F S256x8x64 .f32) : IVec S_ 1 :=
  let main_v0 : FVec F S2x8192x8x256 .f32 := Host.absf main_arg0
  let main_cst : FVec F S_ .f32 := constant S_ .f32 0x7F800000#32
  let main_v1 : FVec F S2x8192x8x256 .f32 := broadcastInDim S2x8192x8x256 ![] bcast_S_S2x8192x8x256 main_cst
  let main_v2 : IVec S2x8192x8x256 1 := cmpf .olt main_v0 main_v1
  let main_c : IVec S_ 1 := constantI S_ 1 1#1
  let main_v3 : IVec S_ 1 := (fun x v => Host.reduce IntOp.andi x v reducesTo_S2x8192x8x256_S_d0_1_2_3 h_S_) main_v2 main_c
  let main_v4 : FVec F S2x8192x8x32 .f32 := Host.absf main_arg1
  let main_cst_0 : FVec F S_ .f32 := constant S_ .f32 0x7F800000#32
  let main_v5 : FVec F S2x8192x8x32 .f32 := broadcastInDim S2x8192x8x32 ![] bcast_S_S2x8192x8x32 main_cst_0
  let main_v6 : IVec S2x8192x8x32 1 := cmpf .olt main_v4 main_v5
  let main_c_1 : IVec S_ 1 := constantI S_ 1 1#1
  let main_v7 : IVec S_ 1 := (fun x v => Host.reduce IntOp.andi x v reducesTo_S2x8192x8x32_S_d0_1_2_3 h_S_) main_v6 main_c_1
  let main_v8 : IVec S_ 1 := andi main_v3 main_v7
  let main_v9 : FVec F S2x8192x256 .f32 := Host.absf main_arg2
  let main_cst_2 : FVec F S_ .f32 := constant S_ .f32 0x7F800000#32
  let main_v10 : FVec F S2x8192x256 .f32 := broadcastInDim S2x8192x256 ![] bcast_S_S2x8192x256 main_cst_2
  let main_v11 : IVec S2x8192x256 1 := cmpf .olt main_v9 main_v10
  let main_c_3 : IVec S_ 1 := constantI S_ 1 1#1
  let main_v12 : IVec S_ 1 := (fun x v => Host.reduce IntOp.andi x v reducesTo_S2x8192x256_S_d0_1_2 h_S_) main_v11 main_c_3
  let main_v13 : IVec S_ 1 := andi main_v8 main_v12
  let main_v14 : FVec F S2x8192x32 .f32 := Host.absf main_arg3
  let main_cst_4 : FVec F S_ .f32 := constant S_ .f32 0x7F800000#32
  let main_v15 : FVec F S2x8192x32 .f32 := broadcastInDim S2x8192x32 ![] bcast_S_S2x8192x32 main_cst_4
  let main_v16 : IVec S2x8192x32 1 := cmpf .olt main_v14 main_v15
  fn_part1 (F := F) main_v13 main_v16
-- ==== Kernel.lean ====
abbrev S2x8192x8x256 : Shape := ⟨4, ![2, 8192, 8, 256]⟩
abbrev S2x8192x8x32 : Shape := ⟨4, ![2, 8192, 8, 32]⟩
abbrev S2x8192x256 : Shape := ⟨3, ![2, 8192, 256]⟩
abbrev S2x8192x32 : Shape := ⟨3, ![2, 8192, 32]⟩
abbrev S256x8x64 : Shape := ⟨3, ![256, 8, 64]⟩
abbrev S_ : Shape := ⟨0, ![]⟩
abbrev S2x8192x8x96 : Shape := ⟨4, ![2, 8192, 8, 96]⟩
abbrev S2x8192x8x384 : Shape := ⟨4, ![2, 8192, 8, 384]⟩
abbrev S16384x8x384 : Shape := ⟨3, ![16384, 8, 384]⟩
abbrev S8x16384x384 : Shape := ⟨3, ![8, 16384, 384]⟩
abbrev S2x8192x96 : Shape := ⟨3, ![2, 8192, 96]⟩
abbrev S2x8192x384 : Shape := ⟨3, ![2, 8192, 384]⟩
abbrev S16384x384 : Shape := ⟨2, ![16384, 384]⟩
abbrev S64x256x256 : Shape := ⟨3, ![64, 256, 256]⟩
abbrev S8x256x512 : Shape := ⟨3, ![8, 256, 512]⟩
abbrev S256x1x64 : Shape := ⟨3, ![256, 1, 64]⟩
abbrev S256x64 : Shape := ⟨2, ![256, 64]⟩
abbrev S1 : Shape := ⟨1, ![1]⟩
abbrev S2 : Shape := ⟨1, ![2]⟩
abbrev S16384x512 : Shape := ⟨2, ![16384, 512]⟩
abbrev S8x512x384 : Shape := ⟨3, ![8, 512, 384]⟩
abbrev S8192x384 : Shape := ⟨2, ![8192, 384]⟩
abbrev S32x256x256 : Shape := ⟨3, ![32, 256, 256]⟩
abbrev S512x512 : Shape := ⟨2, ![512, 512]⟩
abbrev S1x1x4096 : Shape := ⟨3, ![1, 1, 4096]⟩
abbrev S1x256x4096 : Shape := ⟨3, ![1, 256, 4096]⟩
abbrev S512x384 : Shape := ⟨2, ![512, 384]⟩
abbrev S512x4096 : Shape := ⟨2, ![512, 4096]⟩
abbrev S4096x384 : Shape := ⟨2, ![4096, 384]⟩
abbrev S4096 : Shape := ⟨1, ![4096]⟩
abbrev S1x4096 : Shape := ⟨2, ![1, 4096]⟩
abbrev S1x256x256 : Shape := ⟨3, ![1, 256, 256]⟩
abbrev S256x256 : Shape := ⟨2, ![256, 256]⟩
abbrev S256x4096 : Shape := ⟨2, ![256, 4096]⟩
abbrev S256x512 : Shape := ⟨2, ![256, 512]⟩
abbrev S512x256 : Shape := ⟨2, ![512, 256]⟩
abbrev S1x256x512 : Shape := ⟨3, ![1, 256, 512]⟩

abbrev nBuf : Space → Nat
  | .hbm => 87
  | .vmem => 12
  | .smem => 0
  | _ => 0

abbrev bufTy : (tb : Table) → Fin (tcTables nBuf tb) → BufTy
  | .hbm, ⟨0, _⟩ => ⟨S2x8192x8x256, .f32⟩
  | .hbm, ⟨1, _⟩ => ⟨S2x8192x8x32, .f32⟩
  | .hbm, ⟨2, _⟩ => ⟨S2x8192x256, .f32⟩
  | .hbm, ⟨3, _⟩ => ⟨S2x8192x32, .f32⟩
  | .hbm, ⟨4, _⟩ => ⟨S256x8x64, .f32⟩
  | .hbm, ⟨5, _⟩ => ⟨S_, .f32⟩
  | .hbm, ⟨6, _⟩ => ⟨S2x8192x8x96, .f32⟩
  | .hbm, ⟨7, _⟩ => ⟨S2x8192x8x384, .f32⟩
  | .hbm, ⟨8, _⟩ => ⟨S16384x8x384, .f32⟩
  | .hbm, ⟨9, _⟩ => ⟨S8x16384x384, .f32⟩
  | .hbm, ⟨10, _⟩ => ⟨S8x16384x384, .bf16⟩
  | .hbm, ⟨11, _⟩ => ⟨S_, .f32⟩
  | .hbm, ⟨12, _⟩ => ⟨S2x8192x96, .f32⟩
  | .hbm, ⟨13, _⟩ => ⟨S2x8192x384, .f32⟩
  | .hbm, ⟨14, _⟩ => ⟨S16384x384, .f32⟩
  | .hbm, ⟨15, _⟩ => ⟨S16384x384, .bf16⟩
  | .hbm, ⟨16, _⟩ => ⟨S64x256x256, .f32⟩
  | .hbm, ⟨17, _⟩ => ⟨S64x256x256, .f32⟩
  | .hbm, ⟨18, _⟩ => ⟨S64x256x256, .bf16⟩
  | .hbm, ⟨19, _⟩ => ⟨S_, .f32⟩
  | .hbm, ⟨20, _⟩ => ⟨S8x256x512, .f32⟩
  | .hbm, ⟨21, _⟩ => ⟨S256x1x64, .f32⟩
  | .hbm, ⟨22, _⟩ => ⟨S256x64, .f32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S8x256x512, .f32⟩
  | .hbm, ⟨29, _⟩ => ⟨S256x1x64, .f32⟩
  | .hbm, ⟨30, _⟩ => ⟨S256x64, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S8x256x512, .f32⟩
  | .hbm, ⟨37, _⟩ => ⟨S256x1x64, .f32⟩
  | .hbm, ⟨38, _⟩ => ⟨S256x64, .f32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S8x256x512, .f32⟩
  | .hbm, ⟨45, _⟩ => ⟨S256x1x64, .f32⟩
  | .hbm, ⟨46, _⟩ => ⟨S256x64, .f32⟩
  | .hbm, ⟨47, _⟩ => ⟨S_, .i32⟩
  | .hbm, ⟨48, _⟩ => ⟨S1, .i32⟩
  | .hbm, ⟨49, _⟩ => ⟨S_, .i32⟩
  | .hbm, ⟨50, _⟩ => ⟨S1, .i32⟩
  | .hbm, ⟨51, _⟩ => ⟨S2, .i32⟩
  | .hbm, ⟨52, _⟩ => ⟨S8x256x512, .f32⟩
  | .hbm, ⟨53, _⟩ => ⟨S256x1x64, .f32⟩
  | .hbm, ⟨54, _⟩ => ⟨S256x64, .f32⟩
  | .hbm, ⟨55, _⟩ => ⟨S_, .i32⟩
  | .hbm, ⟨56, _⟩ => ⟨S1, .i32⟩
  | .hbm, ⟨57, _⟩ => ⟨S_, .i32⟩
  | .hbm, ⟨58, _⟩ => ⟨S1, .i32⟩
  | .hbm, ⟨59, _⟩ => ⟨S2, .i32⟩
  | .hbm, ⟨60, _⟩ => ⟨S8x256x512, .f32⟩
  | .hbm, ⟨61, _⟩ => ⟨S256x1x64, .f32⟩
  | .hbm, ⟨62, _⟩ => ⟨S256x64, .f32⟩
  | .hbm, ⟨63, _⟩ => ⟨S_, .i32⟩
  | .hbm, ⟨64, _⟩ => ⟨S1, .i32⟩
  | .hbm, ⟨65, _⟩ => ⟨S_, .i32⟩
  | .hbm, ⟨66, _⟩ => ⟨S1, .i32⟩
  | .hbm, ⟨67, _⟩ => ⟨S2, .i32⟩
  | .hbm, ⟨68, _⟩ => ⟨S8x256x512, .f32⟩
  | .hbm, ⟨69, _⟩ => ⟨S256x1x64, .f32⟩
  | .hbm, ⟨70, _⟩ => ⟨S256x64, .f32⟩
  | .hbm, ⟨71, _⟩ => ⟨S_, .i32⟩
  | .hbm, ⟨72, _⟩ => ⟨S1, .i32⟩
  | .hbm, ⟨73, _⟩ => ⟨S_, .i32⟩
  | .hbm, ⟨74, _⟩ => ⟨S1, .i32⟩
  | .hbm, ⟨75, _⟩ => ⟨S2, .i32⟩
  | .hbm, ⟨76, _⟩ => ⟨S8x256x512, .f32⟩
  | .hbm, ⟨77, _⟩ => ⟨S256x1x64, .f32⟩
  | .hbm, ⟨78, _⟩ => ⟨S256x64, .f32⟩
  | .hbm, ⟨79, _⟩ => ⟨S_, .i32⟩
  | .hbm, ⟨80, _⟩ => ⟨S1, .i32⟩
  | .hbm, ⟨81, _⟩ => ⟨S_, .i32⟩
  | .hbm, ⟨82, _⟩ => ⟨S1, .i32⟩
  | .hbm, ⟨83, _⟩ => ⟨S2, .i32⟩
  | .hbm, ⟨84, _⟩ => ⟨S8x256x512, .f32⟩
  | .hbm, ⟨85, _⟩ => ⟨S8x256x512, .bf16⟩
  | .hbm, ⟨86, _⟩ => ⟨S16384x512, .f32⟩
  | .local _ .vmem, ⟨0, _⟩ => ⟨S8x512x384, .bf16⟩
  | .local _ .vmem, ⟨1, _⟩ => ⟨S8x512x384, .bf16⟩
  | .local _ .vmem, ⟨2, _⟩ => ⟨S8192x384, .bf16⟩
  | .local _ .vmem, ⟨3, _⟩ => ⟨S8192x384, .bf16⟩
  | .local _ .vmem, ⟨4, _⟩ => ⟨S32x256x256, .bf16⟩
  | .local _ .vmem, ⟨5, _⟩ => ⟨S32x256x256, .bf16⟩
  | .local _ .vmem, ⟨6, _⟩ => ⟨S8x256x512, .bf16⟩
  | .local _ .vmem, ⟨7, _⟩ => ⟨S512x512, .f32⟩
  | .local _ .vmem, ⟨8, _⟩ => ⟨S512x512, .f32⟩
  | .local _ .vmem, ⟨9, _⟩ => ⟨S1x1x4096, .f32⟩
  | .local _ .vmem, ⟨10, _⟩ => ⟨S1x1x4096, .f32⟩
  | .local _ .vmem, ⟨11, _⟩ => ⟨S1x256x4096, .f32⟩
  | _, _ => ⟨S2x8192x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_c_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_7 : Ref sig .tc := ⟨.hbm, 47, rfl⟩
abbrev main_v33 : Ref sig .tc := ⟨.hbm, 48, rfl⟩
abbrev main_c_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_9 : Ref sig .tc := ⟨.hbm, 55, rfl⟩
abbrev main_v39 : Ref sig .tc := ⟨.hbm, 56, rfl⟩
abbrev main_c_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_11 : Ref sig .tc := ⟨.hbm, 63, rfl⟩
abbrev main_v45 : Ref sig .tc := ⟨.hbm, 64, rfl⟩
abbrev main_c_12 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_13 : Ref sig .tc := ⟨.hbm, 71, rfl⟩
abbrev main_v51 : Ref sig .tc := ⟨.hbm, 72, rfl⟩
abbrev main_c_14 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_15 : Ref sig .tc := ⟨.hbm, 79, rfl⟩
abbrev main_v57 : Ref sig .tc := ⟨.hbm, 80, rfl⟩
abbrev main_c_16 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c512_i32_5 : BitVec 32 := 512#32
  let v18 : BitVec 32 := Scalar.muli v17 c512_i32_5
  v18
def k0_off1 (i : grid0.Coords) : Fin 2 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c512_i32_5 : BitVec 32 := 512#32
  let v18 : BitVec 32 := Scalar.muli v17 c512_i32_5
  let v19 : BitVec 32 := v18
  let v20 : Index := Scalar.indexCast v19
  let c0 : Index := 0#32
  ![v20.toNat, 0]
def k0_off2 (i : grid0.Coords) (c0_i32_21 : BitVec 32) : Fin 3 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c2_i32 : BitVec 32 := 2#32
  let v56 : BitVec 32 := Scalar.muli v17 c2_i32
  let v57 : BitVec 32 := Scalar.addi v56 c0_i32_21
  let v58 : Index := Scalar.indexCast v57
  let c0_22 : Index := 0#32
  let c0_23 : Index := 0#32
  ![v58.toNat, 0, 0]
@[reducible] def k0_t1_loop (i : grid0.Coords) : Scf.Loop 32 :=
  let c0_i32_34 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v74 : BitVec 32 := Scalar.subi v17 c0_i32_34
  let c1_i32_35 : BitVec 32 := 1#32
  let v76 : BitVec 32 := Scalar.divsi v74 c1_i32_35
  let v77 : BitVec 32 := Scalar.muli v76 c1_i32_35
  let v78 : BitVec 32 := Scalar.addi c0_i32_34 v77
  let c1_i32_36 : BitVec 32 := 1#32
  ⟨c0_i32_34, v78, c1_i32_36⟩
def k0_mult2 (i : grid0.Coords) (k0_t1 : Fin (k0_t1_loop i).trips) : BitVec 32 :=
  let c0_i32_34 : BitVec 32 := 0#32
  let c1_i32_36 : BitVec 32 := 1#32
  let arg10 : BitVec 32 := Scf.iv c0_i32_34 c1_i32_36 k0_t1
  let c512_i32_72 : BitVec 32 := 512#32
  let v143 : BitVec 32 := Scalar.muli arg10 c512_i32_72
  v143
def k0_off3 (i : grid0.Coords) (k0_t1 : Fin (k0_t1_loop i).trips) : Fin 2 → Nat :=
  let c0_i32_34 : BitVec 32 := 0#32
  let c1_i32_36 : BitVec 32 := 1#32
  let arg10 : BitVec 32 := Scf.iv c0_i32_34 c1_i32_36 k0_t1
  let c512_i32_72 : BitVec 32 := 512#32
  let v143 : BitVec 32 := Scalar.muli arg10 c512_i32_72
  let v144 : BitVec 32 := v143
  let v145 : Index := Scalar.indexCast v144
  let c0_73 : Index := 0#32
  ![v145.toNat, 0]
def k0_off4 (i : grid0.Coords) (k0_t1 : Fin (k0_t1_loop i).trips) (c0_i32_94 : BitVec 32) : Fin 3 → Nat :=
  let c0_i32_34 : BitVec 32 := 0#32
  let c1_i32_36 : BitVec 32 := 1#32
  let arg10 : BitVec 32 := Scf.iv c0_i32_34 c1_i32_36 k0_t1
  let c2_i32_93 : BitVec 32 := 2#32
  let v178 : BitVec 32 := Scalar.muli arg10 c2_i32_93
  let v179 : BitVec 32 := Scalar.addi v178 c0_i32_94
  let v180 : Index := Scalar.indexCast v179
  let c0_95 : Index := 0#32
  let c0_96 : Index := 0#32
  ![v180.toNat, 0, 0]
@[reducible] def k0_t2_loop (i : grid0.Coords) : Scf.Loop 32 :=
  let c0_i32_34 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v74 : BitVec 32 := Scalar.subi v17 c0_i32_34
  let c1_i32_35 : BitVec 32 := 1#32
  let v76 : BitVec 32 := Scalar.divsi v74 c1_i32_35
  let v77 : BitVec 32 := Scalar.muli v76 c1_i32_35
  let v78 : BitVec 32 := Scalar.addi c0_i32_34 v77
  let v75 : BitVec 32 := Scalar.addi c0_i32_34 v74
  let c1_i32_37 : BitVec 32 := 1#32
  ⟨v78, v75, c1_i32_37⟩
def k0_mult3 (i : grid0.Coords) (k0_t2 : Fin (k0_t2_loop i).trips) : BitVec 32 :=
  let c0_i32_34 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v74 : BitVec 32 := Scalar.subi v17 c0_i32_34
  let c1_i32_35 : BitVec 32 := 1#32
  let v76 : BitVec 32 := Scalar.divsi v74 c1_i32_35
  let v77 : BitVec 32 := Scalar.muli v76 c1_i32_35
  let v78 : BitVec 32 := Scalar.addi c0_i32_34 v77
  let c1_i32_37 : BitVec 32 := 1#32
  let arg10 : BitVec 32 := Scf.iv v78 c1_i32_37 k0_t2
  let c512_i32_72 : BitVec 32 := 512#32
  let v143 : BitVec 32 := Scalar.muli arg10 c512_i32_72
  v143
def k0_off5 (i : grid0.Coords) (k0_t2 : Fin (k0_t2_loop i).trips) : Fin 2 → Nat :=
  let c0_i32_34 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v74 : BitVec 32 := Scalar.subi v17 c0_i32_34
  let c1_i32_35 : BitVec 32 := 1#32
  let v76 : BitVec 32 := Scalar.divsi v74 c1_i32_35
  let v77 : BitVec 32 := Scalar.muli v76 c1_i32_35
  let v78 : BitVec 32 := Scalar.addi c0_i32_34 v77
  let c1_i32_37 : BitVec 32 := 1#32
  let arg10 : BitVec 32 := Scf.iv v78 c1_i32_37 k0_t2
  let c512_i32_72 : BitVec 32 := 512#32
  let v143 : BitVec 32 := Scalar.muli arg10 c512_i32_72
  let v144 : BitVec 32 := v143
  let v145 : Index := Scalar.indexCast v144
  let c0_73 : Index := 0#32
  ![v145.toNat, 0]
def k0_off6 (i : grid0.Coords) (k0_t2 : Fin (k0_t2_loop i).trips) (c0_i32_94 : BitVec 32) : Fin 3 → Nat :=
  let c0_i32_34 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v74 : BitVec 32 := Scalar.subi v17 c0_i32_34
  let c1_i32_35 : BitVec 32 := 1#32
  let v76 : BitVec 32 := Scalar.divsi v74 c1_i32_35
  let v77 : BitVec 32 := Scalar.muli v76 c1_i32_35
  let v78 : BitVec 32 := Scalar.addi c0_i32_34 v77
  let c1_i32_37 : BitVec 32 := 1#32
  let arg10 : BitVec 32 := Scf.iv v78 c1_i32_37 k0_t2
  let c2_i32_93 : BitVec 32 := 2#32
  let v178 : BitVec 32 := Scalar.muli arg10 c2_i32_93
  let v179 : BitVec 32 := Scalar.addi v178 c0_i32_94
  let v180 : Index := Scalar.indexCast v179
  let c0_95 : Index := 0#32
  let c0_96 : Index := 0#32
  ![v180.toNat, 0, 0]
def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | "scale" => some (((Real.sqrt 96)⁻¹ : ℝ) : EReal)
  | _ => none
-- ==== ReferenceIdeal.lean ====
abbrev S2x8192x8x256 : Shape := ⟨4, ![2, 8192, 8, 256]⟩
abbrev S2x8192x8x32 : Shape := ⟨4, ![2, 8192, 8, 32]⟩
abbrev S2x8192x256 : Shape := ⟨3, ![2, 8192, 256]⟩
abbrev S2x8192x32 : Shape := ⟨3, ![2, 8192, 32]⟩
abbrev S256x8x64 : Shape := ⟨3, ![256, 8, 64]⟩
abbrev S8192 : Shape := ⟨1, ![8192]⟩
abbrev S2x8192x8192x8 : Shape := ⟨4, ![2, 8192, 8192, 8]⟩
abbrev S2x8x8192x8192 : Shape := ⟨4, ![2, 8, 8192, 8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x8x8192 : Shape := ⟨3, ![2, 8, 8192]⟩
abbrev S2x8x8192x1 : Shape := ⟨4, ![2, 8, 8192, 1]⟩
abbrev S2x256x8x8192 : Shape := ⟨4, ![2, 256, 8, 8192]⟩
abbrev S8x64x2x8192 : Shape := ⟨4, ![8, 64, 2, 8192]⟩
abbrev S2x8192x8x64 : Shape := ⟨4, ![2, 8192, 8, 64]⟩
abbrev S16384x512 : Shape := ⟨2, ![16384, 512]⟩

abbrev nBuf : Space → Nat
  | .hbm => 44
  | .vmem => 0
  | .smem => 0
  | _ => 0

abbrev bufTy : (tb : Table) → Fin (tcTables nBuf tb) → BufTy
  | .hbm, ⟨0, _⟩ => ⟨S2x8192x8x256, .f32⟩
  | .hbm, ⟨1, _⟩ => ⟨S2x8192x8x32, .f32⟩
  | .hbm, ⟨2, _⟩ => ⟨S2x8192x256, .f32⟩
  | .hbm, ⟨3, _⟩ => ⟨S2x8192x32, .f32⟩
  | .hbm, ⟨4, _⟩ => ⟨S256x8x64, .f32⟩
  | .hbm, ⟨5, _⟩ => ⟨S8192, .i32⟩
  | .hbm, ⟨6, _⟩ => ⟨S2x8192x8192x8, .f32⟩
  | .hbm, ⟨7, _⟩ => ⟨S2x8x8192x8192, .f32⟩
  | .hbm, ⟨8, _⟩ => ⟨S2x8192x8192x8, .f32⟩
  | .hbm, ⟨9, _⟩ => ⟨S2x8x8192x8192, .f32⟩
  | .hbm, ⟨10, _⟩ => ⟨S2x8x8192x8192, .f32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S_, .f32⟩
  | .hbm, ⟨17, _⟩ => ⟨S_, .f32⟩
  | .hbm, ⟨18, _⟩ => ⟨S2x8x8192x8192, .f32⟩
  | .hbm, ⟨19, _⟩ => ⟨S2x8x8192x8192, .f32⟩
  | .hbm, ⟨20, _⟩ => ⟨S_, .f32⟩
  | .hbm, ⟨21, _⟩ => ⟨S_, .f32⟩
  | .hbm, ⟨22, _⟩ => ⟨S2x8x8192x8192, .i1⟩
  | .hbm, ⟨23, _⟩ => ⟨S2x8x8192x8192, .f32⟩
  | .hbm, ⟨24, _⟩ => ⟨S2x8x8192x8192, .f32⟩
  | .hbm, ⟨25, _⟩ => ⟨S_, .f32⟩
  | .hbm, ⟨26, _⟩ => ⟨S2x8x8192, .f32⟩
  | .hbm, ⟨27, _⟩ => ⟨S_, .f32⟩
  | .hbm, ⟨28, _⟩ => ⟨S2x8x8192, .f32⟩
  | .hbm, ⟨29, _⟩ => ⟨S2x8x8192, .f32⟩
  | .hbm, ⟨30, _⟩ => ⟨S2x8x8192x1, .f32⟩
  | .hbm, ⟨31, _⟩ => ⟨S2x8x8192x8192, .f32⟩
  | .hbm, ⟨32, _⟩ => ⟨S2x8x8192x8192, .f32⟩
  | .hbm, ⟨33, _⟩ => ⟨S2x8x8192x8192, .f32⟩
  | .hbm, ⟨34, _⟩ => ⟨S_, .f32⟩
  | .hbm, ⟨35, _⟩ => ⟨S2x8x8192, .f32⟩
  | .hbm, ⟨36, _⟩ => ⟨S2x8x8192x1, .f32⟩
  | .hbm, ⟨37, _⟩ => ⟨S2x8x8192x8192, .f32⟩
  | .hbm, ⟨38, _⟩ => ⟨S2x8x8192x8192, .f32⟩
  | .hbm, ⟨39, _⟩ => ⟨S2x256x8x8192, .f32⟩
  | .hbm, ⟨40, _⟩ => ⟨S2x8192x8x256, .f32⟩
  | .hbm, ⟨41, _⟩ => ⟨S8x64x2x8192, .f32⟩
  | .hbm, ⟨42, _⟩ => ⟨S2x8192x8x64, .f32⟩
  | .hbm, ⟨43, _⟩ => ⟨S16384x512, .f32⟩
  | _, _ => ⟨S2x8192x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Keys.lean ====
abbrev S2x256x1024 : Shape := ⟨3, ![2, 256, 1024]⟩
abbrev S1024 : Shape := ⟨1, ![1024]⟩
abbrev S1024x1024 : Shape := ⟨2, ![1024, 1024]⟩
abbrev S512x1024 : Shape := ⟨2, ![512, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 5
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x1024, .f32⟩
  | .hbm, ⟨3, _⟩ => ⟨S512x1024, .f32⟩
  | .hbm, ⟨4, _⟩ => ⟨S1x1024, .f32⟩
  | .hbm, ⟨5, _⟩ => ⟨S1024x1024, .bf16⟩
  | .hbm, ⟨6, _⟩ => ⟨S512x512, .f32⟩
  | .hbm, ⟨7, _⟩ => ⟨S512x512, .f32⟩
  | .local _ .vmem, ⟨0, _⟩ => ⟨S512x1024, .f32⟩
  | .local _ .vmem, ⟨1, _⟩ => ⟨S1x1024, .f32⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KeysPlainIdeal.lean ====
abbrev S2x256x1024 : Shape := ⟨3, ![2, 256, 1024]⟩
abbrev S1024 : Shape := ⟨1, ![1024]⟩
abbrev S1024x1024 : Shape := ⟨2, ![1024, 1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S512x1024 : Shape := ⟨2, ![512, 1024]⟩
abbrev S512x512 : Shape := ⟨2, ![512, 512]⟩

abbrev nBuf : Space → Nat
  | .hbm => 23
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x1024, .f32⟩
  | .hbm, ⟨3, _⟩ => ⟨S2x256x1024, .f32⟩
  | .hbm, ⟨4, _⟩ => ⟨S_, .f32⟩
  | .hbm, ⟨5, _⟩ => ⟨S2x256, .f32⟩
  | .hbm, ⟨6, _⟩ => ⟨S2x256x1, .f32⟩
  | .hbm, ⟨7, _⟩ => ⟨S_, .f32⟩
  | .hbm, ⟨8, _⟩ => ⟨S2x256x1, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S2x256x1, .f32⟩
  | .hbm, ⟨14, _⟩ => ⟨S2x256x1024, .f32⟩
  | .hbm, ⟨15, _⟩ => ⟨S2x256x1024, .f32⟩
  | .hbm, ⟨16, _⟩ => ⟨S1x1x1024, .f32⟩
  | .hbm, ⟨17, _⟩ => ⟨S2x256x1024, .f32⟩
  | .hbm, ⟨18, _⟩ => ⟨S2x256x1024, .f32⟩
  | .hbm, ⟨19, _⟩ => ⟨S2x256x1024, .f32⟩
  | .hbm, ⟨20, _⟩ => ⟨S512x1024, .f32⟩
  | .hbm, ⟨21, _⟩ => ⟨S512x512, .f32⟩
  | .hbm, ⟨22, _⟩ => ⟨S512x512, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Merge.lean ====
abbrev S2x8192x1024 : Shape := ⟨3, ![2, 8192, 1024]⟩
abbrev S1024 : Shape := ⟨1, ![1024]⟩
abbrev S1024x8608 : Shape := ⟨2, ![1024, 8608]⟩
abbrev S4x512x1024 : Shape := ⟨3, ![4, 512, 1024]⟩
abbrev S1024x1024 : Shape := ⟨2, ![1024, 1024]⟩
abbrev S16384x512 : Shape := ⟨2, ![16384, 512]⟩
abbrev S1x1024 : Shape := ⟨2, ![1, 1024]⟩
abbrev S1024x2048 : Shape := ⟨2, ![1024, 2048]⟩
abbrev S1024x4096 : Shape := ⟨2, ![1024, 4096]⟩
abbrev S16384x1024 : Shape := ⟨2, ![16384, 1024]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1024x512 : Shape := ⟨2, ![1024, 512]⟩
abbrev S1x512x1024 : Shape := ⟨3, ![1, 512, 1024]⟩
abbrev S512x1024 : Shape := ⟨2, ![512, 1024]⟩

abbrev nBuf : Space → Nat
  | .hbm => 20
  | .vmem => 18
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x8608, .f32⟩
  | .hbm, ⟨3, _⟩ => ⟨S4x512x1024, .f32⟩
  | .hbm, ⟨4, _⟩ => ⟨S1024x1024, .f32⟩
  | .hbm, ⟨5, _⟩ => ⟨S1024, .f32⟩
  | .hbm, ⟨6, _⟩ => ⟨S16384x512, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S1x1024, .f32⟩
  | .hbm, ⟨11, _⟩ => ⟨S1024x2048, .f32⟩
  | .hbm, ⟨12, _⟩ => ⟨S1024x2048, .bf16⟩
  | .hbm, ⟨13, _⟩ => ⟨S1024x4096, .f32⟩
  | .hbm, ⟨14, _⟩ => ⟨S1024x4096, .bf16⟩
  | .hbm, ⟨15, _⟩ => ⟨S4x512x1024, .bf16⟩
  | .hbm, ⟨16, _⟩ => ⟨S1024x1024, .bf16⟩
  | .hbm, ⟨17, _⟩ => ⟨S16384x1024, .f32⟩
  | .hbm, ⟨18, _⟩ => ⟨S1x1024, .f32⟩
  | .hbm, ⟨19, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S1024x4096, .bf16⟩
  | .local _ .vmem, ⟨5, _⟩ => ⟨S4x512x1024, .bf16⟩
  | .local _ .vmem, ⟨6, _⟩ => ⟨S1024x1024, .bf16⟩
  | .local _ .vmem, ⟨7, _⟩ => ⟨S1x1024, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x1024, .f32⟩
  | .local _ .vmem, ⟨17, _⟩ => ⟨S256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergePlainIdeal.lean ====
abbrev S2x8192x1024 : Shape := ⟨3, ![2, 8192, 1024]⟩
abbrev S1024 : Shape := ⟨1, ![1024]⟩
abbrev S1024x8608 : Shape := ⟨2, ![1024, 8608]⟩
abbrev S4x512x1024 : Shape := ⟨3, ![4, 512, 1024]⟩
abbrev S1024x1024 : Shape := ⟨2, ![1024, 1024]⟩
abbrev S16384x512 : Shape := ⟨2, ![16384, 512]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x2048 : Shape := ⟨2, ![1024, 2048]⟩
abbrev S16384x2048 : Shape := ⟨2, ![16384, 2048]⟩
abbrev S16384x4x512 : Shape := ⟨3, ![16384, 4, 512]⟩
abbrev S1024x4096 : Shape := ⟨2, ![1024, 4096]⟩
abbrev S16384x4096 : Shape := ⟨2, ![16384, 4096]⟩
abbrev S16384x4x1024 : Shape := ⟨3, ![16384, 4, 1024]⟩
abbrev S16384x1x512 : Shape := ⟨3, ![16384, 1, 512]⟩
abbrev S4x1024x16384 : Shape := ⟨3, ![4, 1024, 16384]⟩

abbrev nBuf : Space → Nat
  | .hbm => 80
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x8608, .f32⟩
  | .hbm, ⟨3, _⟩ => ⟨S4x512x1024, .f32⟩
  | .hbm, ⟨4, _⟩ => ⟨S1024x1024, .f32⟩
  | .hbm, ⟨5, _⟩ => ⟨S1024, .f32⟩
  | .hbm, ⟨6, _⟩ => ⟨S16384x512, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S1024x2048, .f32⟩
  | .hbm, ⟨28, _⟩ => ⟨S16384x2048, .f32⟩
  | .hbm, ⟨29, _⟩ => ⟨S16384x4x512, .f32⟩
  | .hbm, ⟨30, _⟩ => ⟨S1024x4096, .f32⟩
  | .hbm, ⟨31, _⟩ => ⟨S16384x4096, .f32⟩
  | .hbm, ⟨32, _⟩ => ⟨S16384x4x1024, .f32⟩
  | .hbm, ⟨33, _⟩ => ⟨S16384x1x512, .f32⟩
  | .hbm, ⟨34, _⟩ => ⟨S16384x1x512, .f32⟩
  | .hbm, ⟨35, _⟩ => ⟨S16384x1x512, .f32⟩
  | .hbm, ⟨36, _⟩ => ⟨S16384x1x512, .f32⟩
  | .hbm, ⟨37, _⟩ => ⟨S16384x4x512, .f32⟩
  | .hbm, ⟨38, _⟩ => ⟨S16384x4x512, .f32⟩
  | .hbm, ⟨39, _⟩ => ⟨S16384x4x512, .f32⟩
  | .hbm, ⟨40, _⟩ => ⟨S_, .f32⟩
  | .hbm, ⟨41, _⟩ => ⟨S16384x4x512, .f32⟩
  | .hbm, ⟨42, _⟩ => ⟨S16384x4x512, .f32⟩
  | .hbm, ⟨43, _⟩ => ⟨S_, .f32⟩
  | .hbm, ⟨44, _⟩ => ⟨S16384x4x512, .f32⟩
  | .hbm, ⟨45, _⟩ => ⟨S16384x4x512, .f32⟩
  | .hbm, ⟨46, _⟩ => ⟨S16384x4x512, .f32⟩
  | .hbm, ⟨47, _⟩ => ⟨S16384x4x512, .f32⟩
  | .hbm, ⟨48, _⟩ => ⟨S4x1024x16384, .f32⟩
  | .hbm, ⟨49, _⟩ => ⟨S16384x4x1024, .f32⟩
  | .hbm, ⟨50, _⟩ => ⟨S16384x4x1024, .f32⟩
  | .hbm, ⟨51, _⟩ => ⟨S16384x4x1024, .f32⟩
  | .hbm, ⟨52, _⟩ => ⟨S_, .f32⟩
  | .hbm, ⟨53, _⟩ => ⟨S16384x4x1024, .f32⟩
  | .hbm, ⟨54, _⟩ => ⟨S16384x4x1024, .f32⟩
  | .hbm, ⟨55, _⟩ => ⟨S_, .f32⟩
  | .hbm, ⟨56, _⟩ => ⟨S16384x4x1024, .f32⟩
  | .hbm, ⟨57, _⟩ => ⟨S16384x4x1024, .f32⟩
  | .hbm, ⟨58, _⟩ => ⟨S16384x4x1024, .f32⟩
  | .hbm, ⟨59, _⟩ => ⟨S_, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S16384, .f32⟩
  | .hbm, ⟨67, _⟩ => ⟨S16384x1, .f32⟩
  | .hbm, ⟨68, _⟩ => ⟨S_, .f32⟩
  | .hbm, ⟨69, _⟩ => ⟨S16384x1, .f32⟩
  | .hbm, ⟨70, _⟩ => ⟨S16384x1, .f32⟩
  | .hbm, ⟨71, _⟩ => ⟨S_, .f32⟩
  | .hbm, ⟨72, _⟩ => ⟨S16384x1, .f32⟩
  | .hbm, ⟨73, _⟩ => ⟨S16384x1, .f32⟩
  | .hbm, ⟨74, _⟩ => ⟨S16384x1, .f32⟩
  | .hbm, ⟨75, _⟩ => ⟨S16384x1024, .f32⟩
  | .hbm, ⟨76, _⟩ => ⟨S16384x1024, .f32⟩
  | .hbm, ⟨77, _⟩ => ⟨S1x1024, .f32⟩
  | .hbm, ⟨78, _⟩ => ⟨S16384x1024, .f32⟩
  | .hbm, ⟨79, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_2 : Ref sig .tc := ⟨.hbm, 52, rfl⟩
abbrev main_v31 : Ref sig .tc := ⟨.hbm, 53, rfl⟩
abbrev main_v32 : Ref sig .tc := ⟨.hbm, 54, rfl⟩
abbrev main_cst_3 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_4 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_5 : Ref sig .tc := ⟨.hbm, 65, rfl⟩
abbrev main_v41 : Ref sig .tc := ⟨.hbm, 66, rfl⟩
abbrev main_v42 : Ref sig .tc := ⟨.hbm, 67, rfl⟩
abbrev main_cst_6 : Ref sig .tc := ⟨.hbm, 68, rfl⟩
abbrev main_v43 : Ref sig .tc := ⟨.hbm, 69, rfl⟩
abbrev main_v44 : Ref sig .tc := ⟨.hbm, 70, rfl⟩
abbrev main_cst_7 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩

abbrev nD : Nat := 1
abbrev τ : Topo := Topo.v7x

variable {F : FTy → Type} [FloatOps F]
-- ==== Project.lean ====
abbrev S2x8192x1024 : Shape := ⟨3, ![2, 8192, 1024]⟩
abbrev S1024 : Shape := ⟨1, ![1024]⟩
abbrev S1024x8608 : Shape := ⟨2, ![1024, 8608]⟩
abbrev S384 : Shape := ⟨1, ![384]⟩
abbrev S384x8x96 : Shape := ⟨3, ![384, 8, 96]⟩
abbrev S256 : Shape := ⟨1, ![256]⟩
abbrev S256x8x64 : Shape := ⟨3, ![256, 8, 64]⟩
abbrev S16 : Shape := ⟨1, ![16]⟩
abbrev S_ : Shape := ⟨0, ![]⟩
abbrev S32 : Shape := ⟨1, ![32]⟩
abbrev S1024x384 : Shape := ⟨2, ![1024, 384]⟩
abbrev S1024x256 : Shape := ⟨2, ![1024, 256]⟩
abbrev S1024x32 : Shape := ⟨2, ![1024, 32]⟩
abbrev S1024x512 : Shape := ⟨2, ![1024, 512]⟩
abbrev S1024x128 : Shape := ⟨2, ![1024, 128]⟩
abbrev S1024x2048 : Shape := ⟨2, ![1024, 2048]⟩
abbrev S1024x4096 : Shape := ⟨2, ![1024, 4096]⟩
abbrev S32x1 : Shape := ⟨2, ![32, 1]⟩
abbrev S1024x2688 : Shape := ⟨2, ![1024, 2688]⟩
abbrev S384x8x64 : Shape := ⟨3, ![384, 8, 64]⟩
abbrev S384x512 : Shape := ⟨2, ![384, 512]⟩
abbrev S384x8x32 : Shape := ⟨3, ![384, 8, 32]⟩
abbrev S384x256 : Shape := ⟨2, ![384, 256]⟩
abbrev S384x1024 : Shape := ⟨2, ![384, 1024]⟩
abbrev S8x256x384 : Shape := ⟨3, ![8, 256, 384]⟩
abbrev S32x32 : Shape := ⟨2, ![32, 32]⟩
abbrev S256x1x64 : Shape := ⟨3, ![256, 1, 64]⟩
abbrev S256x64 : Shape := ⟨2, ![256, 64]⟩
abbrev S64x256 : Shape := ⟨2, ![64, 256]⟩
abbrev S1 : Shape := ⟨1, ![1]⟩
abbrev S3 : Shape := ⟨1, ![3]⟩
abbrev S1x1024 : Shape := ⟨2, ![1, 1024]⟩
abbrev S1x384 : Shape := ⟨2, ![1, 384]⟩
abbrev S1x256 : Shape := ⟨2, ![1, 256]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S1x8192x1x32 : Shape := ⟨4, ![1, 8192, 1, 32]⟩
abbrev S1x8192x8x32 : Shape := ⟨4, ![1, 8192, 8, 32]⟩
abbrev S8192x256 : Shape := ⟨2, ![8192, 256]⟩
abbrev S16384x1024 : Shape := ⟨2, ![16384, 1024]⟩
abbrev S16384x256 : Shape := ⟨2, ![16384, 256]⟩
abbrev S16384x32 : Shape := ⟨2, ![16384, 32]⟩
abbrev S16384x384 : Shape := ⟨2, ![16384, 384]⟩
abbrev S8x16384x384 : Shape := ⟨3, ![8, 16384, 384]⟩
abbrev S16384x512 : Shape := ⟨2, ![16384, 512]⟩
abbrev S16384x128 : Shape := ⟨2, ![16384, 128]⟩
abbrev S64x256x256 : Shape := ⟨3, ![64, 256, 256]⟩
abbrev S8x16384x128 : Shape := ⟨3, ![8, 16384, 128]⟩
abbrev S64x128x256 : Shape := ⟨3, ![64, 128, 256]⟩
abbrev S64x1x256 : Shape := ⟨3, ![64, 1, 256]⟩
abbrev S256x1024 : Shape := ⟨2, ![256, 1024]⟩
abbrev S256x256 : Shape := ⟨2, ![256, 256]⟩
abbrev S256x32 : Shape := ⟨2, ![256, 32]⟩
abbrev S256x384 : Shape := ⟨2, ![256, 384]⟩
abbrev S256x512 : Shape := ⟨2, ![256, 512]⟩
abbrev S256x128 : Shape := ⟨2, ![256, 128]⟩
abbrev S1x256x256 : Shape := ⟨3, ![1, 256, 256]⟩
abbrev S8x256x128 : Shape := ⟨3, ![8, 256, 128]⟩
abbrev S1x128x256 : Shape := ⟨3, ![1, 128, 256]⟩
abbrev S1x1x256 : Shape := ⟨3, ![1, 1, 256]⟩
abbrev S256x1 : Shape := ⟨2, ![256, 1]⟩
abbrev S256x2688 : Shape := ⟨2, ![256, 2688]⟩
abbrev S1x256x384 : Shape := ⟨3, ![1, 256, 384]⟩
abbrev S1x256x128 : Shape := ⟨3, ![1, 256, 128]⟩
abbrev S1x128 : Shape := ⟨2, ![1, 128]⟩
abbrev S128x256 : Shape := ⟨2, ![128, 256]⟩
abbrev S128 : Shape := ⟨1, ![128]⟩

abbrev nBuf : Space → Nat
  | .hbm => 262
  | .vmem => 38
  | .smem => 0
  | _ => 0

abbrev hbmTy0_0 (i : Nat) : BufTy := match i % 128 with
  | 0 => ⟨S2x8192x1024, .f32⟩
  | 1 => ⟨S1024, .f32⟩
  | 2 => ⟨S1024x8608, .f32⟩
  | 3 => ⟨S384, .f32⟩
  | 4 => ⟨S384x8x96, .f32⟩
  | 5 => ⟨S256, .f32⟩
  | 6 => ⟨S256x8x64, .f32⟩
  | 7 => ⟨S16, .i32⟩
  | 8 => ⟨S_, .i32⟩
  | 9 => ⟨S16, .i32⟩
  | 10 => ⟨S16, .i32⟩
  | 11 => ⟨S16, .i32⟩
  | 12 => ⟨S32, .i32⟩
  | 13 => ⟨S1024x384, .f32⟩
  | 14 => ⟨S1024x256, .f32⟩
  | 15 => ⟨S1024x32, .f32⟩
  | 16 => ⟨S1024x512, .f32⟩
  | 17 => ⟨S1024x512, .f32⟩
  | 18 => ⟨S1024x128, .f32⟩
  | 19 => ⟨S1024x128, .f32⟩
  | 20 => ⟨S1024x512, .f32⟩
  | 21 => ⟨S1024x2048, .f32⟩
  | 22 => ⟨S1024x4096, .f32⟩
  | 23 => ⟨S_, .i32⟩
  | 24 => ⟨S_, .f32⟩
  | 25 => ⟨S1024x128, .f32⟩
  | 26 => ⟨S_, .i32⟩
  | 27 => ⟨S32, .i32⟩
  | 28 => ⟨S32, .i1⟩
  | 29 => ⟨S_, .i32⟩
  | 30 => ⟨S32, .i32⟩
  | 31 => ⟨S32, .i32⟩
  | 32 => ⟨S32, .i32⟩
  | 33 => ⟨S32x1, .i32⟩
  | 34 => ⟨S1024x32, .f32⟩
  | 35 => ⟨S_, .i32⟩
  | 36 => ⟨S_, .f32⟩
  | 37 => ⟨S1024x128, .f32⟩
  | 38 => ⟨S1024x2688, .f32⟩
  | 39 => ⟨S384x8x64, .f32⟩
  | 40 => ⟨S384x512, .f32⟩
  | 41 => ⟨S384x8x32, .f32⟩
  | 42 => ⟨S384x256, .f32⟩
  | 43 => ⟨S384x8x32, .f32⟩
  | 44 => ⟨S_, .i32⟩
  | 45 => ⟨S32, .i32⟩
  | 46 => ⟨S32, .i1⟩
  | 47 => ⟨S_, .i32⟩
  | 48 => ⟨S32, .i32⟩
  | 49 => ⟨S32, .i32⟩
  | 50 => ⟨S32, .i32⟩
  | 51 => ⟨S32x1, .i32⟩
  | 52 => ⟨S384x8x32, .f32⟩
  | 53 => ⟨S384x256, .f32⟩
  | 54 => ⟨S384x1024, .f32⟩
  | 55 => ⟨S_, .f32⟩
  | 56 => ⟨S8x256x384, .f32⟩
  | 57 => ⟨S32x32, .i32⟩
  | 58 => ⟨S32x32, .i32⟩
  | 59 => ⟨S_, .i32⟩
  | 60 => ⟨S32x32, .i32⟩
  | 61 => ⟨S32x32, .i32⟩
  | 62 => ⟨S32x32, .i1⟩
  | 63 => ⟨S32x32, .f32⟩
  | 64 => ⟨S256x1x64, .f32⟩
  | 65 => ⟨S256x64, .f32⟩
  | 66 => ⟨S64x256, .f32⟩
  | 67 => ⟨S_, .i32⟩
  | 68 => ⟨S1, .i32⟩
  | 69 => ⟨S_, .i32⟩
  | 70 => ⟨S1, .i32⟩
  | 71 => ⟨S_, .i32⟩
  | 72 => ⟨S1, .i32⟩
  | 73 => ⟨S3, .i32⟩
  | 74 => ⟨S8x256x384, .f32⟩
  | 75 => ⟨S_, .i32⟩
  | 76 => ⟨S1, .i32⟩
  | 77 => ⟨S_, .i32⟩
  | 78 => ⟨S1, .i32⟩
  | 79 => ⟨S_, .i32⟩
  | 80 => ⟨S1, .i32⟩
  | 81 => ⟨S3, .i32⟩
  | 82 => ⟨S8x256x384, .f32⟩
  | 83 => ⟨S256x1x64, .f32⟩
  | 84 => ⟨S256x64, .f32⟩
  | 85 => ⟨S64x256, .f32⟩
  | 86 => ⟨S_, .i32⟩
  | 87 => ⟨S1, .i32⟩
  | 88 => ⟨S_, .i32⟩
  | 89 => ⟨S1, .i32⟩
  | 90 => ⟨S_, .i32⟩
  | 91 => ⟨S1, .i32⟩
  | 92 => ⟨S3, .i32⟩
  | 93 => ⟨S8x256x384, .f32⟩
  | 94 => ⟨S_, .i32⟩
  | 95 => ⟨S1, .i32⟩
  | 96 => ⟨S_, .i32⟩
  | 97 => ⟨S1, .i32⟩
  | 98 => ⟨S_, .i32⟩
  | 99 => ⟨S1, .i32⟩
  | 100 => ⟨S3, .i32⟩
  | 101 => ⟨S8x256x384, .f32⟩
  | 102 => ⟨S256x1x64, .f32⟩
  | 103 => ⟨S256x64, .f32⟩
  | 104 => ⟨S64x256, .f32⟩
  | 105 => ⟨S_, .i32⟩
  | 106 => ⟨S1, .i32⟩
  | 107 => ⟨S_, .i32⟩
  | 108 => ⟨S1, .i32⟩
  | 109 => ⟨S_, .i32⟩
  | 110 => ⟨S1, .i32⟩
  | 111 => ⟨S3, .i32⟩
  | 112 => ⟨S8x256x384, .f32⟩
  | 113 => ⟨S_, .i32⟩
  | 114 => ⟨S1, .i32⟩
  | 115 => ⟨S_, .i32⟩
  | 116 => ⟨S1, .i32⟩
  | 117 => ⟨S_, .i32⟩
  | 118 => ⟨S1, .i32⟩
  | 119 => ⟨S3, .i32⟩
  | 120 => ⟨S8x256x384, .f32⟩
  | 121 => ⟨S256x1x64, .f32⟩
  | 122 => ⟨S256x64, .f32⟩
  | 123 => ⟨S64x256, .f32⟩
  | 124 => ⟨S_, .i32⟩
  | 125 => ⟨S1, .i32⟩
  | 126 => ⟨S_, .i32⟩
  | 127 => ⟨S1, .i32⟩
  | _ => ⟨S2x8192x1024, .f32⟩

abbrev hbmTy0_1 (i : Nat) : BufTy := match i % 128 with
  | 0 => ⟨S_, .i32⟩
  | 1 => ⟨S1, .i32⟩
  | 2 => ⟨S3, .i32⟩
  | 3 => ⟨S8x256x384, .f32⟩
  | 4 => ⟨S_, .i32⟩
  | 5 => ⟨S1, .i32⟩
  | 6 => ⟨S_, .i32⟩
  | 7 => ⟨S1, .i32⟩
  | 8 => ⟨S_, .i32⟩
  | 9 => ⟨S1, .i32⟩
  | 10 => ⟨S3, .i32⟩
  | 11 => ⟨S8x256x384, .f32⟩
  | 12 => ⟨S256x1x64, .f32⟩
  | 13 => ⟨S256x64, .f32⟩
  | 14 => ⟨S64x256, .f32⟩
  | 15 => ⟨S_, .i32⟩
  | 16 => ⟨S1, .i32⟩
  | 17 => ⟨S_, .i32⟩
  | 18 => ⟨S1, .i32⟩
  | 19 => ⟨S_, .i32⟩
  | 20 => ⟨S1, .i32⟩
  | 21 => ⟨S3, .i32⟩
  | 22 => ⟨S8x256x384, .f32⟩
  | 23 => ⟨S_, .i32⟩
  | 24 => ⟨S1, .i32⟩
  | 25 => ⟨S_, .i32⟩
  | 26 => ⟨S1, .i32⟩
  | 27 => ⟨S_, .i32⟩
  | 28 => ⟨S1, .i32⟩
  | 29 => ⟨S3, .i32⟩
  | 30 => ⟨S8x256x384, .f32⟩
  | 31 => ⟨S256x1x64, .f32⟩
  | 32 => ⟨S256x64, .f32⟩
  | 33 => ⟨S64x256, .f32⟩
  | 34 => ⟨S_, .i32⟩
  | 35 => ⟨S1, .i32⟩
  | 36 => ⟨S_, .i32⟩
  | 37 => ⟨S1, .i32⟩
  | 38 => ⟨S_, .i32⟩
  | 39 => ⟨S1, .i32⟩
  | 40 => ⟨S3, .i32⟩
  | 41 => ⟨S8x256x384, .f32⟩
  | 42 => ⟨S_, .i32⟩
  | 43 => ⟨S1, .i32⟩
  | 44 => ⟨S_, .i32⟩
  | 45 => ⟨S1, .i32⟩
  | 46 => ⟨S_, .i32⟩
  | 47 => ⟨S1, .i32⟩
  | 48 => ⟨S3, .i32⟩
  | 49 => ⟨S8x256x384, .f32⟩
  | 50 => ⟨S256x1x64, .f32⟩
  | 51 => ⟨S256x64, .f32⟩
  | 52 => ⟨S64x256, .f32⟩
  | 53 => ⟨S_, .i32⟩
  | 54 => ⟨S1, .i32⟩
  | 55 => ⟨S_, .i32⟩
  | 56 => ⟨S1, .i32⟩
  | 57 => ⟨S_, .i32⟩
  | 58 => ⟨S1, .i32⟩
  | 59 => ⟨S3, .i32⟩
  | 60 => ⟨S8x256x384, .f32⟩
  | 61 => ⟨S_, .i32⟩
  | 62 => ⟨S1, .i32⟩
  | 63 => ⟨S_, .i32⟩
  | 64 => ⟨S1, .i32⟩
  | 65 => ⟨S_, .i32⟩
  | 66 => ⟨S1, .i32⟩
  | 67 => ⟨S3, .i32⟩
  | 68 => ⟨S8x256x384, .f32⟩
  | 69 => ⟨S256x1x64, .f32⟩
  | 70 => ⟨S256x64, .f32⟩
  | 71 => ⟨S64x256, .f32⟩
  | 72 => ⟨S_, .i32⟩
  | 73 => ⟨S1, .i32⟩
  | 74 => ⟨S_, .i32⟩
  | 75 => ⟨S1, .i32⟩
  | 76 => ⟨S_, .i32⟩
  | 77 => ⟨S1, .i32⟩
  | 78 => ⟨S3, .i32⟩
  | 79 => ⟨S8x256x384, .f32⟩
  | 80 => ⟨S_, .i32⟩
  | 81 => ⟨S1, .i32⟩
  | 82 => ⟨S_, .i32⟩
  | 83 => ⟨S1, .i32⟩
  | 84 => ⟨S_, .i32⟩
  | 85 => ⟨S1, .i32⟩
  | 86 => ⟨S3, .i32⟩
  | 87 => ⟨S8x256x384, .f32⟩
  | 88 => ⟨S1024x2688, .bf16⟩
  | 89 => ⟨S384x1024, .bf16⟩
  | 90 => ⟨S8x256x384, .bf16⟩
  | 91 => ⟨S1x1024, .f32⟩
  | 92 => ⟨S1x384, .f32⟩
  | 93 => ⟨S1x256, .f32⟩
  | 94 => ⟨S8192, .i32⟩
  | 95 => ⟨S16, .f32⟩
  | 96 => ⟨S16, .f32⟩
  | 97 => ⟨S_, .f32⟩
  | 98 => ⟨S16, .f32⟩
  | 99 => ⟨S16, .f32⟩
  | 100 => ⟨S_, .f32⟩
  | 101 => ⟨S16, .f32⟩
  | 102 => ⟨S16, .f32⟩
  | 103 => ⟨S8192, .f32⟩
  | 104 => ⟨S8192x1, .f32⟩
  | 105 => ⟨S1x16, .f32⟩
  | 106 => ⟨S8192x16, .f32⟩
  | 107 => ⟨S8192x16, .f32⟩
  | 108 => ⟨S8192x16, .f32⟩
  | 109 => ⟨S8192x16, .f32⟩
  | 110 => ⟨S8192x16, .f32⟩
  | 111 => ⟨S8192x32, .f32⟩
  | 112 => ⟨S1x8192x1x32, .f32⟩
  | 113 => ⟨S1x8192x8x32, .f32⟩
  | 114 => ⟨S8192x256, .f32⟩
  | 115 => ⟨S8192x16, .f32⟩
  | 116 => ⟨S8192x32, .f32⟩
  | 117 => ⟨S1x8192x1x32, .f32⟩
  | 118 => ⟨S1x8192x8x32, .f32⟩
  | 119 => ⟨S8192x256, .f32⟩
  | 120 => ⟨S16384x1024, .f32⟩
  | 121 => ⟨S16384x256, .f32⟩
  | 122 => ⟨S16384x32, .f32⟩
  | 123 => ⟨S16384x384, .bf16⟩
  | 124 => ⟨S8x16384x384, .bf16⟩
  | 125 => ⟨S16384x512, .f32⟩
  | 126 => ⟨S16384x128, .f32⟩
  | 127 => ⟨S16384x128, .f32⟩
  | _ => ⟨S2x8192x1024, .f32⟩

abbrev hbmTy0_2 (i : Nat) : BufTy := match i % 128 with
  | 0 => ⟨S16384x512, .bf16⟩
  | 1 => ⟨S64x256x256, .bf16⟩
  | 2 => ⟨S8x16384x128, .bf16⟩
  | 3 => ⟨S16384x256, .bf16⟩
  | 4 => ⟨S64x128x256, .bf16⟩
  | 5 => ⟨S64x1x256, .f32⟩
  | _ => ⟨S2x8192x1024, .f32⟩

abbrev hbmTy (i : Nat) : BufTy := match i / 128 with
  | 0 => hbmTy0_0 i
  | 1 => hbmTy0_1 i
  | 2 => hbmTy0_2 i
  | _ => ⟨S2x8192x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2688, .bf16⟩
  | .local _ .vmem, ⟨4, _⟩ => ⟨S1x384, .f32⟩
  | .local _ .vmem, ⟨5, _⟩ => ⟨S1x256, .f32⟩
  | .local _ .vmem, ⟨6, _⟩ => ⟨S384x1024, .bf16⟩
  | .local _ .vmem, ⟨7, _⟩ => ⟨S8x256x384, .bf16⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x32, .f32⟩
  | .local _ .vmem, ⟨15, _⟩ => ⟨S256x32, .f32⟩
  | .local _ .vmem, ⟨16, _⟩ => ⟨S256x384, .bf16⟩
  | .local _ .vmem, ⟨17, _⟩ => ⟨S256x384, .bf16⟩
  | .local _ .vmem, ⟨18, _⟩ => ⟨S8x256x384, .bf16⟩
  | .local _ .vmem, ⟨19, _⟩ => ⟨S8x256x384, .bf16⟩
  | .local _ .vmem, ⟨20, _⟩ => ⟨S256x512, .f32⟩
  | .local _ .vmem, ⟨21, _⟩ => ⟨S256x512, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S256x512, .bf16⟩
  | .local _ .vmem, ⟨27, _⟩ => ⟨S256x512, .bf16⟩
  | .local _ .vmem, ⟨28, _⟩ => ⟨S1x256x256, .bf16⟩
  | .local _ .vmem, ⟨29, _⟩ => ⟨S1x256x256, .bf16⟩
  | .local _ .vmem, ⟨30, _⟩ => ⟨S8x256x128, .bf16⟩
  | .local _ .vmem, ⟨31, _⟩ => ⟨S8x256x128, .bf16⟩
  | .local _ .vmem, ⟨32, _⟩ => ⟨S256x256, .bf16⟩
  | .local _ .vmem, ⟨33, _⟩ => ⟨S256x256, .bf16⟩
  | .local _ .vmem, ⟨34, _⟩ => ⟨S1x128x256, .bf16⟩
  | .local _ .vmem, ⟨35, _⟩ => ⟨S1x128x256, .bf16⟩
  | .local _ .vmem, ⟨36, _⟩ => ⟨S1x1x256, .f32⟩
  | .local _ .vmem, ⟨37, _⟩ => ⟨S1x1x256, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_0 : Ref sig .tc := ⟨.hbm, 23, rfl⟩
abbrev main_call0_v0 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_call1_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_7 : Ref sig .tc := ⟨.hbm, 67, rfl⟩
abbrev main_v49 : Ref sig .tc := ⟨.hbm, 68, rfl⟩
abbrev main_c_8 : Ref sig .tc := ⟨.hbm, 69, rfl⟩
abbrev main_v50 : Ref sig .tc := ⟨.hbm, 70, rfl⟩
abbrev main_c_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_10 : Ref sig .tc := ⟨.hbm, 75, rfl⟩
abbrev main_v54 : Ref sig .tc := ⟨.hbm, 76, rfl⟩
abbrev main_c_11 : Ref sig .tc := ⟨.hbm, 77, rfl⟩
abbrev main_v55 : Ref sig .tc := ⟨.hbm, 78, rfl⟩
abbrev main_c_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_13 : Ref sig .tc := ⟨.hbm, 86, rfl⟩
abbrev main_v62 : Ref sig .tc := ⟨.hbm, 87, rfl⟩
abbrev main_c_14 : Ref sig .tc := ⟨.hbm, 88, rfl⟩
abbrev main_v63 : Ref sig .tc := ⟨.hbm, 89, rfl⟩
abbrev main_c_15 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_16 : Ref sig .tc := ⟨.hbm, 94, rfl⟩
abbrev main_v67 : Ref sig .tc := ⟨.hbm, 95, rfl⟩
abbrev main_c_17 : Ref sig .tc := ⟨.hbm, 96, rfl⟩
abbrev main_v68 : Ref sig .tc := ⟨.hbm, 97, rfl⟩
abbrev main_c_18 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_19 : Ref sig .tc := ⟨.hbm, 105, rfl⟩
abbrev main_v75 : Ref sig .tc := ⟨.hbm, 106, rfl⟩
abbrev main_c_20 : Ref sig .tc := ⟨.hbm, 107, rfl⟩
abbrev main_v76 : Ref sig .tc := ⟨.hbm, 108, rfl⟩
abbrev main_c_21 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_c_22 : Ref sig .tc := ⟨.hbm, 113, rfl⟩
abbrev main_v80 : Ref sig .tc := ⟨.hbm, 114, rfl⟩
abbrev main_c_23 : Ref sig .tc := ⟨.hbm, 115, rfl⟩
abbrev main_v81 : Ref sig .tc := ⟨.hbm, 116, rfl⟩
abbrev main_c_24 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_c_25 : Ref sig .tc := ⟨.hbm, 124, rfl⟩
abbrev main_v88 : Ref sig .tc := ⟨.hbm, 125, rfl⟩
abbrev main_c_26 : Ref sig .tc := ⟨.hbm, 126, rfl⟩
abbrev main_v89 : Ref sig .tc := ⟨.hbm, 127, rfl⟩
abbrev main_c_27 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_c_28 : Ref sig .tc := ⟨.hbm, 132, rfl⟩
abbrev main_v93 : Ref sig .tc := ⟨.hbm, 133, rfl⟩
abbrev main_c_29 : Ref sig .tc := ⟨.hbm, 134, rfl⟩
abbrev main_v94 : Ref sig .tc := ⟨.hbm, 135, rfl⟩
abbrev main_c_30 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_c_31 : Ref sig .tc := ⟨.hbm, 143, rfl⟩
abbrev main_v101 : Ref sig .tc := ⟨.hbm, 144, rfl⟩
abbrev main_c_32 : Ref sig .tc := ⟨.hbm, 145, rfl⟩
abbrev main_v102 : Ref sig .tc := ⟨.hbm, 146, rfl⟩
abbrev main_c_33 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_c_34 : Ref sig .tc := ⟨.hbm, 151, rfl⟩
abbrev main_v106 : Ref sig .tc := ⟨.hbm, 152, rfl⟩
abbrev main_c_35 : Ref sig .tc := ⟨.hbm, 153, rfl⟩
abbrev main_v107 : Ref sig .tc := ⟨.hbm, 154, rfl⟩
abbrev main_c_36 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_c_37 : Ref sig .tc := ⟨.hbm, 162, rfl⟩
abbrev main_v114 : Ref sig .tc := ⟨.hbm, 163, rfl⟩
abbrev main_c_38 : Ref sig .tc := ⟨.hbm, 164, rfl⟩
abbrev main_v115 : Ref sig .tc := ⟨.hbm, 165, rfl⟩
abbrev main_c_39 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_c_40 : Ref sig .tc := ⟨.hbm, 170, rfl⟩
abbrev main_v119 : Ref sig .tc := ⟨.hbm, 171, rfl⟩
abbrev main_c_41 : Ref sig .tc := ⟨.hbm, 172, rfl⟩
abbrev main_v120 : Ref sig .tc := ⟨.hbm, 173, rfl⟩
abbrev main_c_42 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_c_43 : Ref sig .tc := ⟨.hbm, 181, rfl⟩
abbrev main_v127 : Ref sig .tc := ⟨.hbm, 182, rfl⟩
abbrev main_c_44 : Ref sig .tc := ⟨.hbm, 183, rfl⟩
abbrev main_v128 : Ref sig .tc := ⟨.hbm, 184, rfl⟩
abbrev main_c_45 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_c_46 : Ref sig .tc := ⟨.hbm, 189, rfl⟩
abbrev main_v132 : Ref sig .tc := ⟨.hbm, 190, rfl⟩
abbrev main_c_47 : Ref sig .tc := ⟨.hbm, 191, rfl⟩
abbrev main_v133 : Ref sig .tc := ⟨.hbm, 192, rfl⟩
abbrev main_c_48 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_c_49 : Ref sig .tc := ⟨.hbm, 200, rfl⟩
abbrev main_v140 : Ref sig .tc := ⟨.hbm, 201, rfl⟩
abbrev main_c_50 : Ref sig .tc := ⟨.hbm, 202, rfl⟩
abbrev main_v141 : Ref sig .tc := ⟨.hbm, 203, rfl⟩
abbrev main_c_51 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_c_52 : Ref sig .tc := ⟨.hbm, 208, rfl⟩
abbrev main_v145 : Ref sig .tc := ⟨.hbm, 209, rfl⟩
abbrev main_c_53 : Ref sig .tc := ⟨.hbm, 210, rfl⟩
abbrev main_v146 : Ref sig .tc := ⟨.hbm, 211, rfl⟩
abbrev main_c_54 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_cst_55 : Ref sig .tc := ⟨.hbm, 225, rfl⟩
abbrev main_v159 : Ref sig .tc := ⟨.hbm, 226, rfl⟩
abbrev main_v160 : Ref sig .tc := ⟨.hbm, 227, rfl⟩
abbrev main_cst_56 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_v181_0 : Ref sig .tc := ⟨.hbm, 249, rfl⟩
abbrev main_v181_1 : Ref sig .tc := ⟨.hbm, 250, rfl⟩
abbrev main_v181_2 : Ref sig .tc := ⟨.hbm, 251, rfl⟩
abbrev main_v181_3 : Ref sig .tc := ⟨.hbm, 252, rfl⟩
abbrev main_v181_4 : Ref sig .tc := ⟨.hbm, 253, rfl⟩
abbrev main_v181_5 : Ref sig .tc := ⟨.hbm, 254, rfl⟩
abbrev main_v181_6 : Ref sig .tc := ⟨.hbm, 255, rfl⟩
abbrev main_v181_7 : Ref sig .tc := ⟨.hbm, 256, rfl⟩
abbrev main_v181_8 : Ref sig .tc := ⟨.hbm, 257, rfl⟩
abbrev main_v181_9 : Ref sig .tc := ⟨.hbm, 258, rfl⟩
abbrev main_v181_10 : Ref sig .tc := ⟨.hbm, 259, rfl⟩
abbrev main_v181_11 : Ref sig .tc := ⟨.hbm, 260, rfl⟩
abbrev main_v181_12 : Ref sig .tc := ⟨.hbm, 261, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x256x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x384 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x256x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x256x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x256x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x128x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x1x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== ProjectPlainIdeal.lean ====
abbrev S2x8192x1024 : Shape := ⟨3, ![2, 8192, 1024]⟩
abbrev S1024 : Shape := ⟨1, ![1024]⟩
abbrev S1024x8608 : Shape := ⟨2, ![1024, 8608]⟩
abbrev S384 : Shape := ⟨1, ![384]⟩
abbrev S384x8x96 : Shape := ⟨3, ![384, 8, 96]⟩
abbrev S256 : Shape := ⟨1, ![256]⟩
abbrev S256x8x64 : Shape := ⟨3, ![256, 8, 64]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x2464 : Shape := ⟨2, ![1024, 2464]⟩
abbrev S2x8192x2464 : Shape := ⟨3, ![2, 8192, 2464]⟩
abbrev S2x8192x384 : Shape := ⟨3, ![2, 8192, 384]⟩
abbrev S2x8192x256 : Shape := ⟨3, ![2, 8192, 256]⟩
abbrev S2x8192x32 : Shape := ⟨3, ![2, 8192, 32]⟩
abbrev S2x8192x512 : Shape := ⟨3, ![2, 8192, 512]⟩
abbrev S2x8192x128 : Shape := ⟨3, ![2, 8192, 128]⟩
abbrev S1x1x256 : Shape := ⟨3, ![1, 1, 256]⟩
abbrev S8192 : Shape := ⟨1, ![8192]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S2x8192x16 : Shape := ⟨3, ![2, 8192, 16]⟩
abbrev S1x8192x16 : Shape := ⟨3, ![1, 8192, 16]⟩
abbrev S16384x256 : Shape := ⟨2, ![16384, 256]⟩
abbrev S16384x32 : Shape := ⟨2, ![16384, 32]⟩
abbrev S16384x512 : Shape := ⟨2, ![16384, 512]⟩
abbrev S16384x128 : Shape := ⟨2, ![16384, 128]⟩

abbrev nBuf : Space → Nat
  | .hbm => 90
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x8608, .f32⟩
  | .hbm, ⟨3, _⟩ => ⟨S384, .f32⟩
  | .hbm, ⟨4, _⟩ => ⟨S384x8x96, .f32⟩
  | .hbm, ⟨5, _⟩ => ⟨S256, .f32⟩
  | .hbm, ⟨6, _⟩ => ⟨S256x8x64, .f32⟩
  | .hbm, ⟨7, _⟩ => ⟨S2x8192x1024, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S1x1x1024, .f32⟩
  | .hbm, ⟨21, _⟩ => ⟨S2x8192x1024, .f32⟩
  | .hbm, ⟨22, _⟩ => ⟨S2x8192x1024, .f32⟩
  | .hbm, ⟨23, _⟩ => ⟨S1024x2464, .f32⟩
  | .hbm, ⟨24, _⟩ => ⟨S2x8192x2464, .f32⟩
  | .hbm, ⟨25, _⟩ => ⟨S2x8192x384, .f32⟩
  | .hbm, ⟨26, _⟩ => ⟨S2x8192x256, .f32⟩
  | .hbm, ⟨27, _⟩ => ⟨S2x8192x32, .f32⟩
  | .hbm, ⟨28, _⟩ => ⟨S2x8192x512, .f32⟩
  | .hbm, ⟨29, _⟩ => ⟨S2x8192x512, .f32⟩
  | .hbm, ⟨30, _⟩ => ⟨S2x8192x128, .f32⟩
  | .hbm, ⟨31, _⟩ => ⟨S2x8192x128, .f32⟩
  | .hbm, ⟨32, _⟩ => ⟨S2x8192x512, .f32⟩
  | .hbm, ⟨33, _⟩ => ⟨S2x8192x256, .f32⟩
  | .hbm, ⟨34, _⟩ => ⟨S_, .f32⟩
  | .hbm, ⟨35, _⟩ => ⟨S2x8192, .f32⟩
  | .hbm, ⟨36, _⟩ => ⟨S2x8192x1, .f32⟩
  | .hbm, ⟨37, _⟩ => ⟨S_, .f32⟩
  | .hbm, ⟨38, _⟩ => ⟨S2x8192x1, .f32⟩
  | .hbm, ⟨39, _⟩ => ⟨S2x8192x1, .f32⟩
  | .hbm, ⟨40, _⟩ => ⟨S_, .f32⟩
  | .hbm, ⟨41, _⟩ => ⟨S2x8192x1, .f32⟩
  | .hbm, ⟨42, _⟩ => ⟨S2x8192x1, .f32⟩
  | .hbm, ⟨43, _⟩ => ⟨S2x8192x1, .f32⟩
  | .hbm, ⟨44, _⟩ => ⟨S2x8192x256, .f32⟩
  | .hbm, ⟨45, _⟩ => ⟨S2x8192x256, .f32⟩
  | .hbm, ⟨46, _⟩ => ⟨S1x1x256, .f32⟩
  | .hbm, ⟨47, _⟩ => ⟨S2x8192x256, .f32⟩
  | .hbm, ⟨48, _⟩ => ⟨S2x8192x256, .f32⟩
  | .hbm, ⟨49, _⟩ => ⟨S8192, .i32⟩
  | .hbm, ⟨50, _⟩ => ⟨S16, .f32⟩
  | .hbm, ⟨51, _⟩ => ⟨S16, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S_, .f32⟩
  | .hbm, ⟨56, _⟩ => ⟨S16, .f32⟩
  | .hbm, ⟨57, _⟩ => ⟨S16, .f32⟩
  | .hbm, ⟨58, _⟩ => ⟨S8192, .f32⟩
  | .hbm, ⟨59, _⟩ => ⟨S8192x1, .f32⟩
  | .hbm, ⟨60, _⟩ => ⟨S1x16, .f32⟩
  | .hbm, ⟨61, _⟩ => ⟨S8192x16, .f32⟩
  | .hbm, ⟨62, _⟩ => ⟨S8192x16, .f32⟩
  | .hbm, ⟨63, _⟩ => ⟨S8192x16, .f32⟩
  | .hbm, ⟨64, _⟩ => ⟨S2x8192x16, .f32⟩
  | .hbm, ⟨65, _⟩ => ⟨S2x8192x16, .f32⟩
  | .hbm, ⟨66, _⟩ => ⟨S8192x16, .f32⟩
  | .hbm, ⟨67, _⟩ => ⟨S1x8192x16, .f32⟩
  | .hbm, ⟨68, _⟩ => ⟨S2x8192x16, .f32⟩
  | .hbm, ⟨69, _⟩ => ⟨S2x8192x16, .f32⟩
  | .hbm, ⟨70, _⟩ => ⟨S8192x16, .f32⟩
  | .hbm, ⟨71, _⟩ => ⟨S1x8192x16, .f32⟩
  | .hbm, ⟨72, _⟩ => ⟨S2x8192x16, .f32⟩
  | .hbm, ⟨73, _⟩ => ⟨S2x8192x16, .f32⟩
  | .hbm, ⟨74, _⟩ => ⟨S2x8192x16, .f32⟩
  | .hbm, ⟨75, _⟩ => ⟨S8192x16, .f32⟩
  | .hbm, ⟨76, _⟩ => ⟨S1x8192x16, .f32⟩
  | .hbm, ⟨77, _⟩ => ⟨S2x8192x16, .f32⟩
  | .hbm, ⟨78, _⟩ => ⟨S2x8192x16, .f32⟩
  | .hbm, ⟨79, _⟩ => ⟨S8192x16, .f32⟩
  | .hbm, ⟨80, _⟩ => ⟨S1x8192x16, .f32⟩
  | .hbm, ⟨81, _⟩ => ⟨S2x8192x16, .f32⟩
  | .hbm, ⟨82, _⟩ => ⟨S2x8192x16, .f32⟩
  | .hbm, ⟨83, _⟩ => ⟨S2x8192x16, .f32⟩
  | .hbm, ⟨84, _⟩ => ⟨S2x8192x32, .f32⟩
  | .hbm, ⟨85, _⟩ => ⟨S16384x256, .f32⟩
  | .hbm, ⟨86, _⟩ => ⟨S16384x32, .f32⟩
  | .hbm, ⟨87, _⟩ => ⟨S16384x512, .f32⟩
  | .hbm, ⟨88, _⟩ => ⟨S16384x128, .f32⟩
  | .hbm, ⟨89, _⟩ => ⟨S16384x128, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩

abbrev nD : Nat := 1
abbrev τ : Topo := Topo.v7x

variable {F : FTy → Type} [FloatOps F]
-- ==== MergeSample.lean ====
abbrev S128x1x1024 : Shape := ⟨3, ![128, 1, 1024]⟩
abbrev S1024 : Shape := ⟨1, ![1024]⟩
abbrev S1024x8608 : Shape := ⟨2, ![1024, 8608]⟩
abbrev S4x512x1024 : Shape := ⟨3, ![4, 512, 1024]⟩
abbrev S1024x1024 : Shape := ⟨2, ![1024, 1024]⟩
abbrev S128x512 : Shape := ⟨2, ![128, 512]⟩
abbrev S1x1024 : Shape := ⟨2, ![1, 1024]⟩
abbrev S1024x2048 : Shape := ⟨2, ![1024, 2048]⟩
abbrev S1024x4096 : Shape := ⟨2, ![1024, 4096]⟩
abbrev S128x1024 : Shape := ⟨2, ![128, 1024]⟩
abbrev S128 : Shape := ⟨1, ![128]⟩
abbrev S128x1 : Shape := ⟨2, ![128, 1]⟩
abbrev S1024x512 : Shape := ⟨2, ![1024, 512]⟩
abbrev S1x512x1024 : Shape := ⟨3, ![1, 512, 1024]⟩
abbrev S512x1024 : Shape := ⟨2, ![512, 1024]⟩

abbrev nBuf : Space → Nat
  | .hbm => 20
  | .vmem => 12
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S1024x8608, .f32⟩
  | .hbm, ⟨3, _⟩ => ⟨S4x512x1024, .f32⟩
  | .hbm, ⟨4, _⟩ => ⟨S1024x1024, .f32⟩
  | .hbm, ⟨5, _⟩ => ⟨S1024, .f32⟩
  | .hbm, ⟨6, _⟩ => ⟨S128x512, .f32⟩
  | .hbm, ⟨7, _⟩ => ⟨S128x512, .f32⟩
  | .hbm, ⟨8, _⟩ => ⟨S128x512, .f32⟩
  | .hbm, ⟨9, _⟩ => ⟨S128x512, .f32⟩
  | .hbm, ⟨10, _⟩ => ⟨S1x1024, .f32⟩
  | .hbm, ⟨11, _⟩ => ⟨S1024x2048, .f32⟩
  | .hbm, ⟨12, _⟩ => ⟨S1024x2048, .bf16⟩
  | .hbm, ⟨13, _⟩ => ⟨S1024x4096, .f32⟩
  | .hbm, ⟨14, _⟩ => ⟨S1024x4096, .bf16⟩
  | .hbm, ⟨15, _⟩ => ⟨S4x512x1024, .bf16⟩
  | .hbm, ⟨16, _⟩ => ⟨S1024x1024, .bf16⟩
  | .hbm, ⟨17, _⟩ => ⟨S128x1024, .f32⟩
  | .hbm, ⟨18, _⟩ => ⟨S1x1024, .f32⟩
  | .hbm, ⟨19, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1024x2048, .bf16⟩
  | .local _ .vmem, ⟨3, _⟩ => ⟨S1024x4096, .bf16⟩
  | .local _ .vmem, ⟨4, _⟩ => ⟨S4x512x1024, .bf16⟩
  | .local _ .vmem, ⟨5, _⟩ => ⟨S1024x1024, .bf16⟩
  | .local _ .vmem, ⟨6, _⟩ => ⟨S1x1024, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== MergeSamplePlainIdeal.lean ====
abbrev S128x1x1024 : Shape := ⟨3, ![128, 1, 1024]⟩
abbrev S1024 : Shape := ⟨1, ![1024]⟩
abbrev S1024x8608 : Shape := ⟨2, ![1024, 8608]⟩
abbrev S4x512x1024 : Shape := ⟨3, ![4, 512, 1024]⟩
abbrev S1024x1024 : Shape := ⟨2, ![1024, 1024]⟩
abbrev S128x512 : Shape := ⟨2, ![128, 512]⟩
abbrev S128x1024 : Shape := ⟨2, ![128, 1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S1024x2048 : Shape := ⟨2, ![1024, 2048]⟩
abbrev S128x2048 : Shape := ⟨2, ![128, 2048]⟩
abbrev S128x4x512 : Shape := ⟨3, ![128, 4, 512]⟩
abbrev S1024x4096 : Shape := ⟨2, ![1024, 4096]⟩
abbrev S128x4096 : Shape := ⟨2, ![128, 4096]⟩
abbrev S128x4x1024 : Shape := ⟨3, ![128, 4, 1024]⟩
abbrev S128x1x512 : Shape := ⟨3, ![128, 1, 512]⟩
abbrev S4x1024x128 : Shape := ⟨3, ![4, 1024, 128]⟩

abbrev nBuf : Space → Nat
  | .hbm => 80
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S1024x8608, .f32⟩
  | .hbm, ⟨3, _⟩ => ⟨S4x512x1024, .f32⟩
  | .hbm, ⟨4, _⟩ => ⟨S1024x1024, .f32⟩
  | .hbm, ⟨5, _⟩ => ⟨S1024, .f32⟩
  | .hbm, ⟨6, _⟩ => ⟨S128x512, .f32⟩
  | .hbm, ⟨7, _⟩ => ⟨S128x512, .f32⟩
  | .hbm, ⟨8, _⟩ => ⟨S128x512, .f32⟩
  | .hbm, ⟨9, _⟩ => ⟨S128x512, .f32⟩
  | .hbm, ⟨10, _⟩ => ⟨S128x1024, .f32⟩
  | .hbm, ⟨11, _⟩ => ⟨S128x1024, .f32⟩
  | .hbm, ⟨12, _⟩ => ⟨S_, .f32⟩
  | .hbm, ⟨13, _⟩ => ⟨S128, .f32⟩
  | .hbm, ⟨14, _⟩ => ⟨S128x1, .f32⟩
  | .hbm, ⟨15, _⟩ => ⟨S_, .f32⟩
  | .hbm, ⟨16, _⟩ => ⟨S128x1, .f32⟩
  | .hbm, ⟨17, _⟩ => ⟨S128x1, .f32⟩
  | .hbm, ⟨18, _⟩ => ⟨S_, .f32⟩
  | .hbm, ⟨19, _⟩ => ⟨S128x1, .f32⟩
  | .hbm, ⟨20, _⟩ => ⟨S128x1, .f32⟩
  | .hbm, ⟨21, _⟩ => ⟨S128x1, .f32⟩
  | .hbm, ⟨22, _⟩ => ⟨S128x1024, .f32⟩
  | .hbm, ⟨23, _⟩ => ⟨S128x1024, .f32⟩
  | .hbm, ⟨24, _⟩ => ⟨S1x1024, .f32⟩
  | .hbm, ⟨25, _⟩ => ⟨S128x1024, .f32⟩
  | .hbm, ⟨26, _⟩ => ⟨S128x1024, .f32⟩
  | .hbm, ⟨27, _⟩ => ⟨S1024x2048, .f32⟩
  | .hbm, ⟨28, _⟩ => ⟨S128x2048, .f32⟩
  | .hbm, ⟨29, _⟩ => ⟨S128x4x512, .f32⟩
  | .hbm, ⟨30, _⟩ => ⟨S1024x4096, .f32⟩
  | .hbm, ⟨31, _⟩ => ⟨S128x4096, .f32⟩
  | .hbm, ⟨32, _⟩ => ⟨S128x4x1024, .f32⟩
  | .hbm, ⟨33, _⟩ => ⟨S128x1x512, .f32⟩
  | .hbm, ⟨34, _⟩ => ⟨S128x1x512, .f32⟩
  | .hbm, ⟨35, _⟩ => ⟨S128x1x512, .f32⟩
  | .hbm, ⟨36, _⟩ => ⟨S128x1x512, .f32⟩
  | .hbm, ⟨37, _⟩ => ⟨S128x4x512, .f32⟩
  | .hbm, ⟨38, _⟩ => ⟨S128x4x512, .f32⟩
  | .hbm, ⟨39, _⟩ => ⟨S128x4x512, .f32⟩
  | .hbm, ⟨40, _⟩ => ⟨S_, .f32⟩
  | .hbm, ⟨41, _⟩ => ⟨S128x4x512, .f32⟩
  | .hbm, ⟨42, _⟩ => ⟨S128x4x512, .f32⟩
  | .hbm, ⟨43, _⟩ => ⟨S_, .f32⟩
  | .hbm, ⟨44, _⟩ => ⟨S128x4x512, .f32⟩
  | .hbm, ⟨45, _⟩ => ⟨S128x4x512, .f32⟩
  | .hbm, ⟨46, _⟩ => ⟨S128x4x512, .f32⟩
  | .hbm, ⟨47, _⟩ => ⟨S128x4x512, .f32⟩
  | .hbm, ⟨48, _⟩ => ⟨S4x1024x128, .f32⟩
  | .hbm, ⟨49, _⟩ => ⟨S128x4x1024, .f32⟩
  | .hbm, ⟨50, _⟩ => ⟨S128x4x1024, .f32⟩
  | .hbm, ⟨51, _⟩ => ⟨S128x4x1024, .f32⟩
  | .hbm, ⟨52, _⟩ => ⟨S_, .f32⟩
  | .hbm, ⟨53, _⟩ => ⟨S128x4x1024, .f32⟩
  | .hbm, ⟨54, _⟩ => ⟨S128x4x1024, .f32⟩
  | .hbm, ⟨55, _⟩ => ⟨S_, .f32⟩
  | .hbm, ⟨56, _⟩ => ⟨S128x4x1024, .f32⟩
  | .hbm, ⟨57, _⟩ => ⟨S128x4x1024, .f32⟩
  | .hbm, ⟨58, _⟩ => ⟨S128x4x1024, .f32⟩
  | .hbm, ⟨59, _⟩ => ⟨S_, .f32⟩
  | .hbm, ⟨60, _⟩ => ⟨S128x1024, .f32⟩
  | .hbm, ⟨61, _⟩ => ⟨S128x1024, .f32⟩
  | .hbm, ⟨62, _⟩ => ⟨S128x1024, .f32⟩
  | .hbm, ⟨63, _⟩ => ⟨S128x1024, .f32⟩
  | .hbm, ⟨64, _⟩ => ⟨S128x1024, .f32⟩
  | .hbm, ⟨65, _⟩ => ⟨S_, .f32⟩
  | .hbm, ⟨66, _⟩ => ⟨S128, .f32⟩
  | .hbm, ⟨67, _⟩ => ⟨S128x1, .f32⟩
  | .hbm, ⟨68, _⟩ => ⟨S_, .f32⟩
  | .hbm, ⟨69, _⟩ => ⟨S128x1, .f32⟩
  | .hbm, ⟨70, _⟩ => ⟨S128x1, .f32⟩
  | .hbm, ⟨71, _⟩ => ⟨S_, .f32⟩
  | .hbm, ⟨72, _⟩ => ⟨S128x1, .f32⟩
  | .hbm, ⟨73, _⟩ => ⟨S128x1, .f32⟩
  | .hbm, ⟨74, _⟩ => ⟨S128x1, .f32⟩
  | .hbm, ⟨75, _⟩ => ⟨S128x1024, .f32⟩
  | .hbm, ⟨76, _⟩ => ⟨S128x1024, .f32⟩
  | .hbm, ⟨77, _⟩ => ⟨S1x1024, .f32⟩
  | .hbm, ⟨78, _⟩ => ⟨S128x1024, .f32⟩
  | .hbm, ⟨79, _⟩ => ⟨S128x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_2 : Ref sig .tc := ⟨.hbm, 52, rfl⟩
abbrev main_v31 : Ref sig .tc := ⟨.hbm, 53, rfl⟩
abbrev main_v32 : Ref sig .tc := ⟨.hbm, 54, rfl⟩
abbrev main_cst_3 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_4 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_5 : Ref sig .tc := ⟨.hbm, 65, rfl⟩
abbrev main_v41 : Ref sig .tc := ⟨.hbm, 66, rfl⟩
abbrev main_v42 : Ref sig .tc := ⟨.hbm, 67, rfl⟩
abbrev main_cst_6 : Ref sig .tc := ⟨.hbm, 68, rfl⟩
abbrev main_v43 : Ref sig .tc := ⟨.hbm, 69, rfl⟩
abbrev main_v44 : Ref sig .tc := ⟨.hbm, 70, rfl⟩
abbrev main_cst_7 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩

abbrev nD : Nat := 1
abbrev τ : Topo := Topo.v7x

variable {F : FTy → Type} [FloatOps F]
-- ==== ProjectSample.lean ====
abbrev S128x1x1024 : Shape := ⟨3, ![128, 1, 1024]⟩
abbrev S1024 : Shape := ⟨1, ![1024]⟩
abbrev S1024x8608 : Shape := ⟨2, ![1024, 8608]⟩
abbrev S384 : Shape := ⟨1, ![384]⟩
abbrev S384x8x96 : Shape := ⟨3, ![384, 8, 96]⟩
abbrev S256 : Shape := ⟨1, ![256]⟩
abbrev S256x8x64 : Shape := ⟨3, ![256, 8, 64]⟩
abbrev S128x15x512 : Shape := ⟨3, ![128, 15, 512]⟩
abbrev S16 : Shape := ⟨1, ![16]⟩
abbrev S_ : Shape := ⟨0, ![]⟩
abbrev S32 : Shape := ⟨1, ![32]⟩
abbrev S1024x384 : Shape := ⟨2, ![1024, 384]⟩
abbrev S1024x256 : Shape := ⟨2, ![1024, 256]⟩
abbrev S1024x32 : Shape := ⟨2, ![1024, 32]⟩
abbrev S1024x512 : Shape := ⟨2, ![1024, 512]⟩
abbrev S1024x128 : Shape := ⟨2, ![1024, 128]⟩
abbrev S1024x2048 : Shape := ⟨2, ![1024, 2048]⟩
abbrev S1024x4096 : Shape := ⟨2, ![1024, 4096]⟩
abbrev S32x1 : Shape := ⟨2, ![32, 1]⟩
abbrev S1024x2688 : Shape := ⟨2, ![1024, 2688]⟩
abbrev S384x8x64 : Shape := ⟨3, ![384, 8, 64]⟩
abbrev S384x512 : Shape := ⟨2, ![384, 512]⟩
abbrev S384x8x32 : Shape := ⟨3, ![384, 8, 32]⟩
abbrev S384x256 : Shape := ⟨2, ![384, 256]⟩
abbrev S384x1024 : Shape := ⟨2, ![384, 1024]⟩
abbrev S8x256x384 : Shape := ⟨3, ![8, 256, 384]⟩
abbrev S32x32 : Shape := ⟨2, ![32, 32]⟩
abbrev S256x1x64 : Shape := ⟨3, ![256, 1, 64]⟩
abbrev S256x64 : Shape := ⟨2, ![256, 64]⟩
abbrev S64x256 : Shape := ⟨2, ![64, 256]⟩
abbrev S1 : Shape := ⟨1, ![1]⟩
abbrev S3 : Shape := ⟨1, ![3]⟩
abbrev S1x1024 : Shape := ⟨2, ![1, 1024]⟩
abbrev S1x384 : Shape := ⟨2, ![1, 384]⟩
abbrev S1x256 : Shape := ⟨2, ![1, 256]⟩
abbrev S128 : Shape := ⟨1, ![128]⟩
abbrev S128x1 : Shape := ⟨2, ![128, 1]⟩
abbrev S1x16 : Shape := ⟨2, ![1, 16]⟩
abbrev S128x16 : Shape := ⟨2, ![128, 16]⟩
abbrev S128x32 : Shape := ⟨2, ![128, 32]⟩
abbrev S1x128x1x32 : Shape := ⟨4, ![1, 128, 1, 32]⟩
abbrev S1x128x8x32 : Shape := ⟨4, ![1, 128, 8, 32]⟩
abbrev S128x256 : Shape := ⟨2, ![128, 256]⟩
abbrev S128x1024 : Shape := ⟨2, ![128, 1024]⟩
abbrev S128x384 : Shape := ⟨2, ![128, 384]⟩
abbrev S8x128x384 : Shape := ⟨3, ![8, 128, 384]⟩
abbrev S128x512 : Shape := ⟨2, ![128, 512]⟩
abbrev S128x128 : Shape := ⟨2, ![128, 128]⟩
abbrev S128x2688 : Shape := ⟨2, ![128, 2688]⟩
abbrev S1x256x384 : Shape := ⟨3, ![1, 256, 384]⟩
abbrev S256x384 : Shape := ⟨2, ![256, 384]⟩
abbrev S1x128x384 : Shape := ⟨3, ![1, 128, 384]⟩
abbrev S128x14x512 : Shape := ⟨3, ![128, 14, 512]⟩
abbrev S128x1x512 : Shape := ⟨3, ![128, 1, 512]⟩

abbrev nBuf : Space → Nat
  | .hbm => 263
  | .vmem => 18
  | .smem => 0
  | _ => 0

abbrev hbmTy0_0 (i : Nat) : BufTy := match i % 128 with
  | 0 => ⟨S128x1x1024, .f32⟩
  | 1 => ⟨S1024, .f32⟩
  | 2 => ⟨S1024x8608, .f32⟩
  | 3 => ⟨S384, .f32⟩
  | 4 => ⟨S384x8x96, .f32⟩
  | 5 => ⟨S256, .f32⟩
  | 6 => ⟨S256x8x64, .f32⟩
  | 7 => ⟨S128x15x512, .f32⟩
  | 8 => ⟨S16, .i32⟩
  | 9 => ⟨S_, .i32⟩
  | 10 => ⟨S16, .i32⟩
  | 11 => ⟨S16, .i32⟩
  | 12 => ⟨S16, .i32⟩
  | 13 => ⟨S32, .i32⟩
  | 14 => ⟨S1024x384, .f32⟩
  | 15 => ⟨S1024x256, .f32⟩
  | 16 => ⟨S1024x32, .f32⟩
  | 17 => ⟨S1024x512, .f32⟩
  | 18 => ⟨S1024x512, .f32⟩
  | 19 => ⟨S1024x128, .f32⟩
  | 20 => ⟨S1024x128, .f32⟩
  | 21 => ⟨S1024x512, .f32⟩
  | 22 => ⟨S1024x2048, .f32⟩
  | 23 => ⟨S1024x4096, .f32⟩
  | 24 => ⟨S_, .i32⟩
  | 25 => ⟨S_, .f32⟩
  | 26 => ⟨S1024x128, .f32⟩
  | 27 => ⟨S_, .i32⟩
  | 28 => ⟨S32, .i32⟩
  | 29 => ⟨S32, .i1⟩
  | 30 => ⟨S_, .i32⟩
  | 31 => ⟨S32, .i32⟩
  | 32 => ⟨S32, .i32⟩
  | 33 => ⟨S32, .i32⟩
  | 34 => ⟨S32x1, .i32⟩
  | 35 => ⟨S1024x32, .f32⟩
  | 36 => ⟨S_, .i32⟩
  | 37 => ⟨S_, .f32⟩
  | 38 => ⟨S1024x128, .f32⟩
  | 39 => ⟨S1024x2688, .f32⟩
  | 40 => ⟨S384x8x64, .f32⟩
  | 41 => ⟨S384x512, .f32⟩
  | 42 => ⟨S384x8x32, .f32⟩
  | 43 => ⟨S384x256, .f32⟩
  | 44 => ⟨S384x8x32, .f32⟩
  | 45 => ⟨S_, .i32⟩
  | 46 => ⟨S32, .i32⟩
  | 47 => ⟨S32, .i1⟩
  | 48 => ⟨S_, .i32⟩
  | 49 => ⟨S32, .i32⟩
  | 50 => ⟨S32, .i32⟩
  | 51 => ⟨S32, .i32⟩
  | 52 => ⟨S32x1, .i32⟩
  | 53 => ⟨S384x8x32, .f32⟩
  | 54 => ⟨S384x256, .f32⟩
  | 55 => ⟨S384x1024, .f32⟩
  | 56 => ⟨S_, .f32⟩
  | 57 => ⟨S8x256x384, .f32⟩
  | 58 => ⟨S32x32, .i32⟩
  | 59 => ⟨S32x32, .i32⟩
  | 60 => ⟨S_, .i32⟩
  | 61 => ⟨S32x32, .i32⟩
  | 62 => ⟨S32x32, .i32⟩
  | 63 => ⟨S32x32, .i1⟩
  | 64 => ⟨S32x32, .f32⟩
  | 65 => ⟨S256x1x64, .f32⟩
  | 66 => ⟨S256x64, .f32⟩
  | 67 => ⟨S64x256, .f32⟩
  | 68 => ⟨S_, .i32⟩
  | 69 => ⟨S1, .i32⟩
  | 70 => ⟨S_, .i32⟩
  | 71 => ⟨S1, .i32⟩
  | 72 => ⟨S_, .i32⟩
  | 73 => ⟨S1, .i32⟩
  | 74 => ⟨S3, .i32⟩
  | 75 => ⟨S8x256x384, .f32⟩
  | 76 => ⟨S_, .i32⟩
  | 77 => ⟨S1, .i32⟩
  | 78 => ⟨S_, .i32⟩
  | 79 => ⟨S1, .i32⟩
  | 80 => ⟨S_, .i32⟩
  | 81 => ⟨S1, .i32⟩
  | 82 => ⟨S3, .i32⟩
  | 83 => ⟨S8x256x384, .f32⟩
  | 84 => ⟨S256x1x64, .f32⟩
  | 85 => ⟨S256x64, .f32⟩
  | 86 => ⟨S64x256, .f32⟩
  | 87 => ⟨S_, .i32⟩
  | 88 => ⟨S1, .i32⟩
  | 89 => ⟨S_, .i32⟩
  | 90 => ⟨S1, .i32⟩
  | 91 => ⟨S_, .i32⟩
  | 92 => ⟨S1, .i32⟩
  | 93 => ⟨S3, .i32⟩
  | 94 => ⟨S8x256x384, .f32⟩
  | 95 => ⟨S_, .i32⟩
  | 96 => ⟨S1, .i32⟩
  | 97 => ⟨S_, .i32⟩
  | 98 => ⟨S1, .i32⟩
  | 99 => ⟨S_, .i32⟩
  | 100 => ⟨S1, .i32⟩
  | 101 => ⟨S3, .i32⟩
  | 102 => ⟨S8x256x384, .f32⟩
  | 103 => ⟨S256x1x64, .f32⟩
  | 104 => ⟨S256x64, .f32⟩
  | 105 => ⟨S64x256, .f32⟩
  | 106 => ⟨S_, .i32⟩
  | 107 => ⟨S1, .i32⟩
  | 108 => ⟨S_, .i32⟩
  | 109 => ⟨S1, .i32⟩
  | 110 => ⟨S_, .i32⟩
  | 111 => ⟨S1, .i32⟩
  | 112 => ⟨S3, .i32⟩
  | 113 => ⟨S8x256x384, .f32⟩
  | 114 => ⟨S_, .i32⟩
  | 115 => ⟨S1, .i32⟩
  | 116 => ⟨S_, .i32⟩
  | 117 => ⟨S1, .i32⟩
  | 118 => ⟨S_, .i32⟩
  | 119 => ⟨S1, .i32⟩
  | 120 => ⟨S3, .i32⟩
  | 121 => ⟨S8x256x384, .f32⟩
  | 122 => ⟨S256x1x64, .f32⟩
  | 123 => ⟨S256x64, .f32⟩
  | 124 => ⟨S64x256, .f32⟩
  | 125 => ⟨S_, .i32⟩
  | 126 => ⟨S1, .i32⟩
  | 127 => ⟨S_, .i32⟩
  | _ => ⟨S128x1x1024, .f32⟩

abbrev hbmTy0_1 (i : Nat) : BufTy := match i % 128 with
  | 0 => ⟨S1, .i32⟩
  | 1 => ⟨S_, .i32⟩
  | 2 => ⟨S1, .i32⟩
  | 3 => ⟨S3, .i32⟩
  | 4 => ⟨S8x256x384, .f32⟩
  | 5 => ⟨S_, .i32⟩
  | 6 => ⟨S1, .i32⟩
  | 7 => ⟨S_, .i32⟩
  | 8 => ⟨S1, .i32⟩
  | 9 => ⟨S_, .i32⟩
  | 10 => ⟨S1, .i32⟩
  | 11 => ⟨S3, .i32⟩
  | 12 => ⟨S8x256x384, .f32⟩
  | 13 => ⟨S256x1x64, .f32⟩
  | 14 => ⟨S256x64, .f32⟩
  | 15 => ⟨S64x256, .f32⟩
  | 16 => ⟨S_, .i32⟩
  | 17 => ⟨S1, .i32⟩
  | 18 => ⟨S_, .i32⟩
  | 19 => ⟨S1, .i32⟩
  | 20 => ⟨S_, .i32⟩
  | 21 => ⟨S1, .i32⟩
  | 22 => ⟨S3, .i32⟩
  | 23 => ⟨S8x256x384, .f32⟩
  | 24 => ⟨S_, .i32⟩
  | 25 => ⟨S1, .i32⟩
  | 26 => ⟨S_, .i32⟩
  | 27 => ⟨S1, .i32⟩
  | 28 => ⟨S_, .i32⟩
  | 29 => ⟨S1, .i32⟩
  | 30 => ⟨S3, .i32⟩
  | 31 => ⟨S8x256x384, .f32⟩
  | 32 => ⟨S256x1x64, .f32⟩
  | 33 => ⟨S256x64, .f32⟩
  | 34 => ⟨S64x256, .f32⟩
  | 35 => ⟨S_, .i32⟩
  | 36 => ⟨S1, .i32⟩
  | 37 => ⟨S_, .i32⟩
  | 38 => ⟨S1, .i32⟩
  | 39 => ⟨S_, .i32⟩
  | 40 => ⟨S1, .i32⟩
  | 41 => ⟨S3, .i32⟩
  | 42 => ⟨S8x256x384, .f32⟩
  | 43 => ⟨S_, .i32⟩
  | 44 => ⟨S1, .i32⟩
  | 45 => ⟨S_, .i32⟩
  | 46 => ⟨S1, .i32⟩
  | 47 => ⟨S_, .i32⟩
  | 48 => ⟨S1, .i32⟩
  | 49 => ⟨S3, .i32⟩
  | 50 => ⟨S8x256x384, .f32⟩
  | 51 => ⟨S256x1x64, .f32⟩
  | 52 => ⟨S256x64, .f32⟩
  | 53 => ⟨S64x256, .f32⟩
  | 54 => ⟨S_, .i32⟩
  | 55 => ⟨S1, .i32⟩
  | 56 => ⟨S_, .i32⟩
  | 57 => ⟨S1, .i32⟩
  | 58 => ⟨S_, .i32⟩
  | 59 => ⟨S1, .i32⟩
  | 60 => ⟨S3, .i32⟩
  | 61 => ⟨S8x256x384, .f32⟩
  | 62 => ⟨S_, .i32⟩
  | 63 => ⟨S1, .i32⟩
  | 64 => ⟨S_, .i32⟩
  | 65 => ⟨S1, .i32⟩
  | 66 => ⟨S_, .i32⟩
  | 67 => ⟨S1, .i32⟩
  | 68 => ⟨S3, .i32⟩
  | 69 => ⟨S8x256x384, .f32⟩
  | 70 => ⟨S256x1x64, .f32⟩
  | 71 => ⟨S256x64, .f32⟩
  | 72 => ⟨S64x256, .f32⟩
  | 73 => ⟨S_, .i32⟩
  | 74 => ⟨S1, .i32⟩
  | 75 => ⟨S_, .i32⟩
  | 76 => ⟨S1, .i32⟩
  | 77 => ⟨S_, .i32⟩
  | 78 => ⟨S1, .i32⟩
  | 79 => ⟨S3, .i32⟩
  | 80 => ⟨S8x256x384, .f32⟩
  | 81 => ⟨S_, .i32⟩
  | 82 => ⟨S1, .i32⟩
  | 83 => ⟨S_, .i32⟩
  | 84 => ⟨S1, .i32⟩
  | 85 => ⟨S_, .i32⟩
  | 86 => ⟨S1, .i32⟩
  | 87 => ⟨S3, .i32⟩
  | 88 => ⟨S8x256x384, .f32⟩
  | 89 => ⟨S1024x2688, .bf16⟩
  | 90 => ⟨S384x1024, .bf16⟩
  | 91 => ⟨S8x256x384, .bf16⟩
  | 92 => ⟨S1x1024, .f32⟩
  | 93 => ⟨S1x384, .f32⟩
  | 94 => ⟨S1x256, .f32⟩
  | 95 => ⟨S_, .i32⟩
  | 96 => ⟨S128, .i32⟩
  | 97 => ⟨S16, .f32⟩
  | 98 => ⟨S16, .f32⟩
  | 99 => ⟨S_, .f32⟩
  | 100 => ⟨S16, .f32⟩
  | 101 => ⟨S16, .f32⟩
  | 102 => ⟨S_, .f32⟩
  | 103 => ⟨S16, .f32⟩
  | 104 => ⟨S16, .f32⟩
  | 105 => ⟨S128, .f32⟩
  | 106 => ⟨S128x1, .f32⟩
  | 107 => ⟨S1x16, .f32⟩
  | 108 => ⟨S128x16, .f32⟩
  | 109 => ⟨S128x16, .f32⟩
  | 110 => ⟨S128x16, .f32⟩
  | 111 => ⟨S128x16, .f32⟩
  | 112 => ⟨S128x16, .f32⟩
  | 113 => ⟨S128x32, .f32⟩
  | 114 => ⟨S1x128x1x32, .f32⟩
  | 115 => ⟨S1x128x8x32, .f32⟩
  | 116 => ⟨S128x256, .f32⟩
  | 117 => ⟨S128x16, .f32⟩
  | 118 => ⟨S128x32, .f32⟩
  | 119 => ⟨S1x128x1x32, .f32⟩
  | 120 => ⟨S1x128x8x32, .f32⟩
  | 121 => ⟨S128x256, .f32⟩
  | 122 => ⟨S128x1024, .f32⟩
  | 123 => ⟨S128x256, .f32⟩
  | 124 => ⟨S128x32, .f32⟩
  | 125 => ⟨S128x384, .bf16⟩
  | 126 => ⟨S8x128x384, .bf16⟩
  | 127 => ⟨S128x512, .f32⟩
  | _ => ⟨S128x1x1024, .f32⟩

abbrev hbmTy0_2 (i : Nat) : BufTy := match i % 128 with
  | 0 => ⟨S128x128, .f32⟩
  | 1 => ⟨S128x128, .f32⟩
  | 2 => ⟨S128x512, .bf16⟩
  | 3 => ⟨S128x512, .bf16⟩
  | 4 => ⟨S128x14x512, .f32⟩
  | 5 => ⟨S128x1x512, .f32⟩
  | 6 => ⟨S128x15x512, .f32⟩
  | _ => ⟨S128x1x1024, .f32⟩

abbrev hbmTy (i : Nat) : BufTy := match i / 128 with
  | 0 => hbmTy0_0 i
  | 1 => hbmTy0_1 i
  | 2 => hbmTy0_2 i
  | _ => ⟨S128x1x1024, .f32⟩

abbrev bufTy : (tb : Table) → Fin (tcTables nBuf tb) → BufTy
  | .hbm, ⟨i, _⟩ => hbmTy i
  | .local _ .vmem, ⟨0, _⟩ => ⟨S128x1024, .f32⟩
  | .local _ .vmem, ⟨1, _⟩ => ⟨S1x1024, .f32⟩
  | .local _ .vmem, ⟨2, _⟩ => ⟨S1024x2688, .bf16⟩
  | .local _ .vmem, ⟨3, _⟩ => ⟨S1x384, .f32⟩
  | .local _ .vmem, ⟨4, _⟩ => ⟨S1x256, .f32⟩
  | .local _ .vmem, ⟨5, _⟩ => ⟨S384x1024, .bf16⟩
  | .local _ .vmem, ⟨6, _⟩ => ⟨S8x256x384, .bf16⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x32, .f32⟩
  | .local _ .vmem, ⟨11, _⟩ => ⟨S128x384, .bf16⟩
  | .local _ .vmem, ⟨12, _⟩ => ⟨S8x128x384, .bf16⟩
  | .local _ .vmem, ⟨13, _⟩ => ⟨S128x512, .f32⟩
  | .local _ .vmem, ⟨14, _⟩ => ⟨S128x128, .f32⟩
  | .local _ .vmem, ⟨15, _⟩ => ⟨S128x128, .f32⟩
  | .local _ .vmem, ⟨16, _⟩ => ⟨S128x512, .bf16⟩
  | .local _ .vmem, ⟨17, _⟩ => ⟨S128x512, .bf16⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_0 : Ref sig .tc := ⟨.hbm, 24, rfl⟩
abbrev main_call0_v0 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_call1_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_7 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_c_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_10 : Ref sig .tc := ⟨.hbm, 76, rfl⟩
abbrev main_v54 : Ref sig .tc := ⟨.hbm, 77, rfl⟩
abbrev main_c_11 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_13 : Ref sig .tc := ⟨.hbm, 87, rfl⟩
abbrev main_v62 : Ref sig .tc := ⟨.hbm, 88, rfl⟩
abbrev main_c_14 : Ref sig .tc := ⟨.hbm, 89, rfl⟩
abbrev main_v63 : Ref sig .tc := ⟨.hbm, 90, rfl⟩
abbrev main_c_15 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_16 : Ref sig .tc := ⟨.hbm, 95, rfl⟩
abbrev main_v67 : Ref sig .tc := ⟨.hbm, 96, rfl⟩
abbrev main_c_17 : Ref sig .tc := ⟨.hbm, 97, rfl⟩
abbrev main_v68 : Ref sig .tc := ⟨.hbm, 98, rfl⟩
abbrev main_c_18 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_19 : Ref sig .tc := ⟨.hbm, 106, rfl⟩
abbrev main_v75 : Ref sig .tc := ⟨.hbm, 107, rfl⟩
abbrev main_c_20 : Ref sig .tc := ⟨.hbm, 108, rfl⟩
abbrev main_v76 : Ref sig .tc := ⟨.hbm, 109, rfl⟩
abbrev main_c_21 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_c_22 : Ref sig .tc := ⟨.hbm, 114, rfl⟩
abbrev main_v80 : Ref sig .tc := ⟨.hbm, 115, rfl⟩
abbrev main_c_23 : Ref sig .tc := ⟨.hbm, 116, rfl⟩
abbrev main_v81 : Ref sig .tc := ⟨.hbm, 117, rfl⟩
abbrev main_c_24 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_c_25 : Ref sig .tc := ⟨.hbm, 125, rfl⟩
abbrev main_v88 : Ref sig .tc := ⟨.hbm, 126, rfl⟩
abbrev main_c_26 : Ref sig .tc := ⟨.hbm, 127, rfl⟩
abbrev main_v89 : Ref sig .tc := ⟨.hbm, 128, rfl⟩
abbrev main_c_27 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_c_28 : Ref sig .tc := ⟨.hbm, 133, rfl⟩
abbrev main_v93 : Ref sig .tc := ⟨.hbm, 134, rfl⟩
abbrev main_c_29 : Ref sig .tc := ⟨.hbm, 135, rfl⟩
abbrev main_v94 : Ref sig .tc := ⟨.hbm, 136, rfl⟩
abbrev main_c_30 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_c_31 : Ref sig .tc := ⟨.hbm, 144, rfl⟩
abbrev main_v101 : Ref sig .tc := ⟨.hbm, 145, rfl⟩
abbrev main_c_32 : Ref sig .tc := ⟨.hbm, 146, rfl⟩
abbrev main_v102 : Ref sig .tc := ⟨.hbm, 147, rfl⟩
abbrev main_c_33 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_c_34 : Ref sig .tc := ⟨.hbm, 152, rfl⟩
abbrev main_v106 : Ref sig .tc := ⟨.hbm, 153, rfl⟩
abbrev main_c_35 : Ref sig .tc := ⟨.hbm, 154, rfl⟩
abbrev main_v107 : Ref sig .tc := ⟨.hbm, 155, rfl⟩
abbrev main_c_36 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_c_37 : Ref sig .tc := ⟨.hbm, 163, rfl⟩
abbrev main_v114 : Ref sig .tc := ⟨.hbm, 164, rfl⟩
abbrev main_c_38 : Ref sig .tc := ⟨.hbm, 165, rfl⟩
abbrev main_v115 : Ref sig .tc := ⟨.hbm, 166, rfl⟩
abbrev main_c_39 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_c_40 : Ref sig .tc := ⟨.hbm, 171, rfl⟩
abbrev main_v119 : Ref sig .tc := ⟨.hbm, 172, rfl⟩
abbrev main_c_41 : Ref sig .tc := ⟨.hbm, 173, rfl⟩
abbrev main_v120 : Ref sig .tc := ⟨.hbm, 174, rfl⟩
abbrev main_c_42 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_c_43 : Ref sig .tc := ⟨.hbm, 182, rfl⟩
abbrev main_v127 : Ref sig .tc := ⟨.hbm, 183, rfl⟩
abbrev main_c_44 : Ref sig .tc := ⟨.hbm, 184, rfl⟩
abbrev main_v128 : Ref sig .tc := ⟨.hbm, 185, rfl⟩
abbrev main_c_45 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_c_46 : Ref sig .tc := ⟨.hbm, 190, rfl⟩
abbrev main_v132 : Ref sig .tc := ⟨.hbm, 191, rfl⟩
abbrev main_c_47 : Ref sig .tc := ⟨.hbm, 192, rfl⟩
abbrev main_v133 : Ref sig .tc := ⟨.hbm, 193, rfl⟩
abbrev main_c_48 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_c_49 : Ref sig .tc := ⟨.hbm, 201, rfl⟩
abbrev main_v140 : Ref sig .tc := ⟨.hbm, 202, rfl⟩
abbrev main_c_50 : Ref sig .tc := ⟨.hbm, 203, rfl⟩
abbrev main_v141 : Ref sig .tc := ⟨.hbm, 204, rfl⟩
abbrev main_c_51 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_c_52 : Ref sig .tc := ⟨.hbm, 209, rfl⟩
abbrev main_v145 : Ref sig .tc := ⟨.hbm, 210, rfl⟩
abbrev main_c_53 : Ref sig .tc := ⟨.hbm, 211, rfl⟩
abbrev main_v146 : Ref sig .tc := ⟨.hbm, 212, rfl⟩
abbrev main_c_54 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_c_55 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_cst_56 : Ref sig .tc := ⟨.hbm, 227, rfl⟩
abbrev main_v159 : Ref sig .tc := ⟨.hbm, 228, rfl⟩
abbrev main_v160 : Ref sig .tc := ⟨.hbm, 229, rfl⟩
abbrev main_cst_57 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181_0 : Ref sig .tc := ⟨.hbm, 251, rfl⟩
abbrev main_v181_1 : Ref sig .tc := ⟨.hbm, 252, rfl⟩
abbrev main_v181_2 : Ref sig .tc := ⟨.hbm, 253, rfl⟩
abbrev main_v181_3 : Ref sig .tc := ⟨.hbm, 254, rfl⟩
abbrev main_v181_4 : Ref sig .tc := ⟨.hbm, 255, rfl⟩
abbrev main_v181_5 : Ref sig .tc := ⟨.hbm, 256, rfl⟩
abbrev main_v181_6 : Ref sig .tc := ⟨.hbm, 257, rfl⟩
abbrev main_v181_7 : Ref sig .tc := ⟨.hbm, 258, rfl⟩
abbrev main_v181_8 : Ref sig .tc := ⟨.hbm, 259, rfl⟩
abbrev main_v182 : Ref sig .tc := ⟨.hbm, 260, rfl⟩
abbrev main_v183 : Ref sig .tc := ⟨.hbm, 261, rfl⟩
abbrev main_v184 : Ref sig .tc := ⟨.hbm, 262, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x256x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x384 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S8x128x384 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S128x512 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]
-- ==== ProjectSamplePlainIdeal.lean ====
abbrev S128x1x1024 : Shape := ⟨3, ![128, 1, 1024]⟩
abbrev S1024 : Shape := ⟨1, ![1024]⟩
abbrev S1024x8608 : Shape := ⟨2, ![1024, 8608]⟩
abbrev S384 : Shape := ⟨1, ![384]⟩
abbrev S384x8x96 : Shape := ⟨3, ![384, 8, 96]⟩
abbrev S256 : Shape := ⟨1, ![256]⟩
abbrev S256x8x64 : Shape := ⟨3, ![256, 8, 64]⟩
abbrev S128x15x512 : Shape := ⟨3, ![128, 15, 512]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S1024x2464 : Shape := ⟨2, ![1024, 2464]⟩
abbrev S128x1x2464 : Shape := ⟨3, ![128, 1, 2464]⟩
abbrev S128x1x384 : Shape := ⟨3, ![128, 1, 384]⟩
abbrev S128x1x256 : Shape := ⟨3, ![128, 1, 256]⟩
abbrev S128x1x32 : Shape := ⟨3, ![128, 1, 32]⟩
abbrev S128x1x512 : Shape := ⟨3, ![128, 1, 512]⟩
abbrev S128x1x128 : Shape := ⟨3, ![128, 1, 128]⟩
abbrev S1x1x256 : Shape := ⟨3, ![1, 1, 256]⟩
abbrev S1 : Shape := ⟨1, ![1]⟩
abbrev S16 : Shape := ⟨1, ![16]⟩
abbrev S1x1 : Shape := ⟨2, ![1, 1]⟩
abbrev S1x16 : Shape := ⟨2, ![1, 16]⟩
abbrev S128x1x16 : Shape := ⟨3, ![128, 1, 16]⟩
abbrev S1x1x16 : Shape := ⟨3, ![1, 1, 16]⟩
abbrev S128x16x512 : Shape := ⟨3, ![128, 16, 512]⟩
abbrev S128x256 : Shape := ⟨2, ![128, 256]⟩
abbrev S128x32 : Shape := ⟨2, ![128, 32]⟩
abbrev S128x128 : Shape := ⟨2, ![128, 128]⟩

abbrev nBuf : Space → Nat
  | .hbm => 94
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S1024x8608, .f32⟩
  | .hbm, ⟨3, _⟩ => ⟨S384, .f32⟩
  | .hbm, ⟨4, _⟩ => ⟨S384x8x96, .f32⟩
  | .hbm, ⟨5, _⟩ => ⟨S256, .f32⟩
  | .hbm, ⟨6, _⟩ => ⟨S256x8x64, .f32⟩
  | .hbm, ⟨7, _⟩ => ⟨S128x15x512, .f32⟩
  | .hbm, ⟨8, _⟩ => ⟨S128x1x1024, .f32⟩
  | .hbm, ⟨9, _⟩ => ⟨S_, .f32⟩
  | .hbm, ⟨10, _⟩ => ⟨S128x1, .f32⟩
  | .hbm, ⟨11, _⟩ => ⟨S128x1x1, .f32⟩
  | .hbm, ⟨12, _⟩ => ⟨S_, .f32⟩
  | .hbm, ⟨13, _⟩ => ⟨S128x1x1, .f32⟩
  | .hbm, ⟨14, _⟩ => ⟨S128x1x1, .f32⟩
  | .hbm, ⟨15, _⟩ => ⟨S_, .f32⟩
  | .hbm, ⟨16, _⟩ => ⟨S128x1x1, .f32⟩
  | .hbm, ⟨17, _⟩ => ⟨S128x1x1, .f32⟩
  | .hbm, ⟨18, _⟩ => ⟨S128x1x1, .f32⟩
  | .hbm, ⟨19, _⟩ => ⟨S128x1x1024, .f32⟩
  | .hbm, ⟨20, _⟩ => ⟨S128x1x1024, .f32⟩
  | .hbm, ⟨21, _⟩ => ⟨S1x1x1024, .f32⟩
  | .hbm, ⟨22, _⟩ => ⟨S128x1x1024, .f32⟩
  | .hbm, ⟨23, _⟩ => ⟨S128x1x1024, .f32⟩
  | .hbm, ⟨24, _⟩ => ⟨S1024x2464, .f32⟩
  | .hbm, ⟨25, _⟩ => ⟨S128x1x2464, .f32⟩
  | .hbm, ⟨26, _⟩ => ⟨S128x1x384, .f32⟩
  | .hbm, ⟨27, _⟩ => ⟨S128x1x256, .f32⟩
  | .hbm, ⟨28, _⟩ => ⟨S128x1x32, .f32⟩
  | .hbm, ⟨29, _⟩ => ⟨S128x1x512, .f32⟩
  | .hbm, ⟨30, _⟩ => ⟨S128x1x512, .f32⟩
  | .hbm, ⟨31, _⟩ => ⟨S128x1x128, .f32⟩
  | .hbm, ⟨32, _⟩ => ⟨S128x1x128, .f32⟩
  | .hbm, ⟨33, _⟩ => ⟨S128x1x512, .f32⟩
  | .hbm, ⟨34, _⟩ => ⟨S128x1x256, .f32⟩
  | .hbm, ⟨35, _⟩ => ⟨S_, .f32⟩
  | .hbm, ⟨36, _⟩ => ⟨S128x1, .f32⟩
  | .hbm, ⟨37, _⟩ => ⟨S128x1x1, .f32⟩
  | .hbm, ⟨38, _⟩ => ⟨S_, .f32⟩
  | .hbm, ⟨39, _⟩ => ⟨S128x1x1, .f32⟩
  | .hbm, ⟨40, _⟩ => ⟨S128x1x1, .f32⟩
  | .hbm, ⟨41, _⟩ => ⟨S_, .f32⟩
  | .hbm, ⟨42, _⟩ => ⟨S128x1x1, .f32⟩
  | .hbm, ⟨43, _⟩ => ⟨S128x1x1, .f32⟩
  | .hbm, ⟨44, _⟩ => ⟨S128x1x1, .f32⟩
  | .hbm, ⟨45, _⟩ => ⟨S128x1x256, .f32⟩
  | .hbm, ⟨46, _⟩ => ⟨S128x1x256, .f32⟩
  | .hbm, ⟨47, _⟩ => ⟨S1x1x256, .f32⟩
  | .hbm, ⟨48, _⟩ => ⟨S128x1x256, .f32⟩
  | .hbm, ⟨49, _⟩ => ⟨S128x1x256, .f32⟩
  | .hbm, ⟨50, _⟩ => ⟨S1, .i32⟩
  | .hbm, ⟨51, _⟩ => ⟨S_, .i32⟩
  | .hbm, ⟨52, _⟩ => ⟨S1, .i32⟩
  | .hbm, ⟨53, _⟩ => ⟨S1, .i32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S1, .f32⟩
  | .hbm, ⟨63, _⟩ => ⟨S1x1, .f32⟩
  | .hbm, ⟨64, _⟩ => ⟨S1x16, .f32⟩
  | .hbm, ⟨65, _⟩ => ⟨S1x16, .f32⟩
  | .hbm, ⟨66, _⟩ => ⟨S1x16, .f32⟩
  | .hbm, ⟨67, _⟩ => ⟨S128x1x16, .f32⟩
  | .hbm, ⟨68, _⟩ => ⟨S128x1x16, .f32⟩
  | .hbm, ⟨69, _⟩ => ⟨S1x16, .f32⟩
  | .hbm, ⟨70, _⟩ => ⟨S1x1x16, .f32⟩
  | .hbm, ⟨71, _⟩ => ⟨S128x1x16, .f32⟩
  | .hbm, ⟨72, _⟩ => ⟨S128x1x16, .f32⟩
  | .hbm, ⟨73, _⟩ => ⟨S1x16, .f32⟩
  | .hbm, ⟨74, _⟩ => ⟨S1x1x16, .f32⟩
  | .hbm, ⟨75, _⟩ => ⟨S128x1x16, .f32⟩
  | .hbm, ⟨76, _⟩ => ⟨S128x1x16, .f32⟩
  | .hbm, ⟨77, _⟩ => ⟨S128x1x16, .f32⟩
  | .hbm, ⟨78, _⟩ => ⟨S1x16, .f32⟩
  | .hbm, ⟨79, _⟩ => ⟨S1x1x16, .f32⟩
  | .hbm, ⟨80, _⟩ => ⟨S128x1x16, .f32⟩
  | .hbm, ⟨81, _⟩ => ⟨S128x1x16, .f32⟩
  | .hbm, ⟨82, _⟩ => ⟨S1x16, .f32⟩
  | .hbm, ⟨83, _⟩ => ⟨S1x1x16, .f32⟩
  | .hbm, ⟨84, _⟩ => ⟨S128x1x16, .f32⟩
  | .hbm, ⟨85, _⟩ => ⟨S128x1x16, .f32⟩
  | .hbm, ⟨86, _⟩ => ⟨S128x1x16, .f32⟩
  | .hbm, ⟨87, _⟩ => ⟨S128x1x32, .f32⟩
  | .hbm, ⟨88, _⟩ => ⟨S128x16x512, .f32⟩
  | .hbm, ⟨89, _⟩ => ⟨S128x256, .f32⟩
  | .hbm, ⟨90, _⟩ => ⟨S128x32, .f32⟩
  | .hbm, ⟨91, _⟩ => ⟨S128x128, .f32⟩
  | .hbm, ⟨92, _⟩ => ⟨S128x128, .f32⟩
  | .hbm, ⟨93, _⟩ => ⟨S128x15x512, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩

abbrev nD : Nat := 1
abbrev τ : Topo := Topo.v7x

variable {F : FTy → Type} [FloatOps F]
-- ==== Proof.Trip.lean ====
/-
  The kernel's body as a fold. A grid point leaves in its three scratch buffers the running maximum, the running sum and
  the running weighted values of every column (one column per head and query of the block); the diagonal tile of the keys
  starts them (`start`), each earlier tile updates them (`next`). The runs of the body give the contents as lists of
  writes; here they are read back as the values `stateAt`, and the block the body writes is `finish` of the last of them.
-/
module

public import proofs.«01_k».proof.Proof.Gen.KernelIdeal.Frame
public import Idealize.ShloMosaic.Lib.Pipeline.Value
public import Idealize.ShloMosaic.Lib.VecWindow
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.ShloMosaic.Tactic

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The fold -/

/-- Key tile `j`: 512 consecutive keys of the batch entry's 8192. -/
def keys (x1 : Vec F S8192x384 .bf16) (j : ℕ) : Vec F S512x384 .bf16 :=
  fun y => x1 (ix2 (Fin.ofNat 8192 (j * 512 + (y 0).val)) (y 1))

/-- Value block `j`: 256 consecutive keys' latents, transposed. -/
def vals (x2 : Vec F S32x256x256 .bf16) (j : ℕ) : Vec F S1x256x256 .bf16 :=
  fun y => x2 (ix3 (Fin.ofNat 32 j) (y 1) (y 2))

/-- Head `h`'s block of the value projection. -/
def proj (x3 : Vec F S8x256x512 .bf16) (h : Fin 8) : Vec F S1x256x512 .bf16 :=
  fun y => x3 (ix3 h (y 1) (y 2))

/-- What the scratch buffers hold: maximum, sum, weighted values. -/
abbrev St (F : FTy → Type) [FloatOps F] := Vec F S1x1x4096 .f32 × Vec F S1x1x4096 .f32 × Vec F S1x256x4096 .f32

/-- After the diagonal tile. -/
def start (i : grid0.Coords) (q : Vec F S8x512x384 .bf16) (kk : Vec F S512x384 .bf16) (v0 v1 : Vec F S1x256x256 .bf16) : St F :=
  (k0_pay22 (k0_pay17 i) (k0_pay18 kk q), k0_pay23 (k0_pay17 i) (k0_pay18 kk q), k0_pay24 (k0_pay17 i) (k0_pay18 kk q) v0 v1)

/-- One more tile. -/
def next (q : Vec F S8x512x384 .bf16) (kk : Vec F S512x384 .bf16) (v0 v1 : Vec F S1x256x256 .bf16) (s : St F) : St F :=
  (k0_pay26 (k0_pay3 kk q s.1), k0_pay6 kk q s.1 s.2.1, k0_pay25 (k0_pay7 kk q s.1 s.2.2) (k0_pay8 kk q s.1) v0 v1)

/-- The tiles `0 … k - 1` on top of `s`. -/
def fold (q : Vec F S8x512x384 .bf16) (x1 : Vec F S8192x384 .bf16) (x2 : Vec F S32x256x256 .bf16) (s : St F) : ℕ → St F
  | 0 => s
  | k + 1 => next q (keys x1 k) (vals x2 (2 * k)) (vals x2 (2 * k + 1)) (fold q x1 x2 s k)

/-- The output block from the last state. -/
def finish (x3 : Vec F S8x256x512 .bf16) (s : St F) : Vec F S512x512 .f32 :=
  k0_pay32 (k0_pay29 s.2.2 s.2.1) (k0_pay30 s.2.2 s.2.1 (proj x3 0) (proj x3 1) (proj x3 2)) (k0_pay31 s.2.2 s.2.1)
    (proj x3 3) (proj x3 4) (proj x3 5) (proj x3 6) (proj x3 7)

/-! ## The offsets and the trip counts -/

/-- The diagonal tile is the tile of the block of queries. -/
theorem off1_eq (i : grid0.Coords) : k0_off1 i = ![(i 1).val * 512, 0] := by
  have h : ∀ a : Fin 16, ∀ i : grid0.Coords, i 1 = a → k0_off1 i = ![a.val * 512, 0] := by
    intro a i h
    unfold k0_off1
    rw [h]
    clear h
    revert a
    decide +kernel
  exact h (i 1) i rfl

theorem off2_eq (i : grid0.Coords) (e : Fin 2) : k0_off2 i (BitVec.ofNat 32 e.val) = ![2 * (i 1).val + e.val, 0, 0] := by
  have h : ∀ a : Fin 16, ∀ i : grid0.Coords, i 1 = a → k0_off2 i (BitVec.ofNat 32 e.val) = ![2 * a.val + e.val, 0, 0] := by
    intro a i h
    unfold k0_off2
    rw [h]
    clear h
    revert a e
    decide +kernel
  exact h (i 1) i rfl

theorem trips1 (i : grid0.Coords) : (k0_t1_loop i).trips = (i 1).val := by
  have h : ∀ a : Fin 16, ∀ i : grid0.Coords, i 1 = a → (k0_t1_loop i).trips = a.val := by
    intro a i h
    unfold k0_t1_loop
    rw [h]
    clear h
    revert a
    decide +kernel
  exact h (i 1) i rfl

theorem trips2 (i : grid0.Coords) : (k0_t2_loop i).trips = 0 := by
  have h : ∀ a : Fin 16, ∀ i : grid0.Coords, i 1 = a → (k0_t2_loop i).trips = 0 := by
    intro a i h
    unfold k0_t2_loop
    rw [h]
    clear h
    revert a
    decide +kernel
  exact h (i 1) i rfl

theorem lt16 (i : grid0.Coords) (k : Fin (k0_t1_loop i).trips) : k.val < 16 :=
  lt_trans (lt_of_lt_of_eq k.isLt (trips1 i)) (i 1).isLt

theorem off3_eq (i : grid0.Coords) (k : Fin (k0_t1_loop i).trips) : k0_off3 i k = ![k.val * 512, 0] := by
  unfold k0_off3
  have h : ∀ a : Fin 16, ![(Scalar.indexCast (Scalar.muli (Scf.iv 0#32 1#32 a.val) 512#32) : Index).toNat, 0] = ![a.val * 512, 0] := by
    decide +kernel
  exact h ⟨k.val, lt16 i k⟩

theorem off4_eq (i : grid0.Coords) (k : Fin (k0_t1_loop i).trips) (e : Fin 2) :
    k0_off4 i k (BitVec.ofNat 32 e.val) = ![2 * k.val + e.val, 0, 0] := by
  unfold k0_off4
  have h : ∀ (e : Fin 2) (a : Fin 16), ![(Scalar.indexCast (Scalar.addi (Scalar.muli (Scf.iv 0#32 1#32 a.val) 2#32) (BitVec.ofNat 32 e.val)) : Index).toNat, 0, 0]
      = ![2 * a.val + e.val, 0, 0] := by
    decide +kernel
  exact h e ⟨k.val, lt16 i k⟩

/-! ## Loads of part of a block -/

theorem ld_keys (x1 : Vec F S8192x384 .bf16) {off : Fin 2 → ℕ} (inb : ∀ a, off a + S512x384.size a ≤ S8192x384.size a) (j : ℕ) (hj : j < 16)
    (h : off = ![j * 512, 0]) : View.ld x1 (Rect.unit off S512x384.size inb) = keys x1 j := by
  subst h
  funext y
  unfold keys
  show x1 _ = x1 _
  congr 1
  funext a
  have h0 : (y 0).val < 512 := (y 0).isLt
  match a with
  | ⟨0, _⟩ =>
    apply Fin.ext
    show j * 512 + 1 * (y 0).val = (j * 512 + (y 0).val) % 8192
    rw [Nat.mod_eq_of_lt (by omega)]; omega
  | ⟨1, _⟩ =>
    apply Fin.ext
    show 0 + 1 * (y 1).val = (y 1).val
    omega

theorem ld_vals (x2 : Vec F S32x256x256 .bf16) {off : Fin 3 → ℕ} (inb : ∀ a, off a + S1x256x256.size a ≤ S32x256x256.size a) (j : ℕ) (hj : j < 32)
    (h : off = ![j, 0, 0]) : View.ld x2 (Rect.unit off S1x256x256.size inb) = vals x2 j := by
  subst h
  funext y
  unfold vals
  show x2 _ = x2 _
  congr 1
  funext a
  have h0 : (y 0).val < 1 := (y 0).isLt
  match a with
  | ⟨0, _⟩ =>
    apply Fin.ext
    show j + 1 * (y 0).val = j % 32
    rw [Nat.mod_eq_of_lt hj]; omega
  | ⟨1, _⟩ =>
    apply Fin.ext
    show 0 + 1 * (y 1).val = (y 1).val
    omega
  | ⟨2, _⟩ =>
    apply Fin.ext
    show 0 + 1 * (y 2).val = (y 2).val
    omega

theorem ld_proj (x3 : Vec F S8x256x512 .bf16) (h : Fin 8) (inb : ∀ a, (![h.val, 0, 0] : Fin 3 → ℕ) a + S1x256x512.size a ≤ S8x256x512.size a) :
    View.ld x3 (Rect.unit ![h.val, 0, 0] S1x256x512.size inb) = proj x3 h := by
  funext y
  unfold proj
  show x3 _ = x3 _
  congr 1
  funext a
  have h0 : (y 0).val < 1 := (y 0).isLt
  match a with
  | ⟨0, _⟩ =>
    apply Fin.ext
    show h.val + 1 * (y 0).val = h.val
    omega
  | ⟨1, _⟩ =>
    apply Fin.ext
    show 0 + 1 * (y 1).val = (y 1).val
    omega
  | ⟨2, _⟩ =>
    apply Fin.ext
    show 0 + 1 * (y 2).val = (y 2).val
    omega

/-! ## One trip, the loop, the body -/

section Body

variable (𝒱 : Variants) (c : Dev nD) (bd : Option 𝒱.V) (i : grid0.Coords)
  (arg2 : Memref sig .tc .vmem S8x512x384 .bf16) (harg2 : arg2.IsWhole) (arg3 : Memref sig .tc .vmem S8192x384 .bf16) (harg3 : arg3.IsWhole)
  (arg4 : Memref sig .tc .vmem S32x256x256 .bf16) (harg4 : arg4.IsWhole) (arg5 : Memref sig .tc .vmem S8x256x512 .bf16) (harg5 : arg5.IsWhole)
  (arg6 : Memref sig .tc .vmem S512x512 .f32) (harg6 : arg6.IsWhole) (arg7 : Memref sig .tc .vmem S1x1x4096 .f32) (harg7 : arg7.IsWhole)
  (arg8 : Memref sig .tc .vmem S1x1x4096 .f32) (harg8 : arg8.IsWhole) (arg9 : Memref sig .tc .vmem S1x256x4096 .f32) (harg9 : arg9.IsWhole)
  (v17 : BitVec 32)
  (x0 : Vec F S8x512x384 .bf16) (x1 : Vec F S8192x384 .bf16) (x2 : Vec F S32x256x256 .bf16) (x3 : Vec F S8x256x512 .bf16)

/-- One trip writes `next` of what the three scratch buffers hold, each whole. -/
theorem trip_pieces (k : Fin (k0_t1_loop i).trips)
    (f7 : BufTy.Contents (Elt F) arg7.view.ty) (f8 : BufTy.Contents (Elt F) arg8.view.ty) (f9 : BufTy.Contents (Elt F) arg9.view.ty) :
    tripL_k0_t1 (F := F) 𝒱 c bd i arg2 harg2 arg3 harg3 arg4 harg4 arg5 harg5 arg6 harg6 arg7 harg7 arg8 harg8 arg9 harg9 v17
        (harg2.unread x0) (harg3.unread x1) (harg4.unread x2) k f7 f8 f9
      = let s := next x0 (keys x1 k.val) (vals x2 (2 * k.val)) (vals x2 (2 * k.val + 1))
          (arg7.view.read (Elt F) f7, arg8.view.read (Elt F) f8, arg9.view.read (Elt F) f9)
        ([⟨Rect.unit ![0, 0, 0] S1x1x4096.size inb_S1x1x4096_S1x1x4096_0_0_0, s.1⟩],
         [⟨Rect.unit ![0, 0, 0] S1x1x4096.size inb_S1x1x4096_S1x1x4096_0_0_0, s.2.1⟩],
         [⟨Rect.unit ![0, 0, 0] S1x256x4096.size inb_S1x256x4096_S1x256x4096_0_0_0, s.2.2⟩]) := by
  have hk := lt16 i k
  unfold tripL_k0_t1 trip_k0_t1
  dsimp only
  sl_unfold_words
  simp only [View.readAt_eq_ld, harg2.read_unread, harg3.read_unread, harg4.read_unread, View.ld_unit_zero (S := S8x512x384) hz3,
    View.ld_unit_zero (S := S1x1x4096) hz3, View.ld_unit_zero (S := S1x256x4096) hz3]
  have eK := ld_keys x1 (k0_off3_inb i k) k.val hk (off3_eq i k)
  have e0 := ld_vals x2 (k0_off4_inb i k 0) (2 * k.val) (by omega) (off4_eq i k 0)
  have e1 := ld_vals x2 (k0_off4_inb i k 1) (2 * k.val + 1) (by omega) (off4_eq i k 1)
  rw [← eK, ← e0, ← e1]
  rfl

/-- A load of the whole of a buffer, covered by the pieces written, is what the buffer holds. -/
theorem readCov_whole {s : Shape} {e : EltTy} (v : View sig .tc .vmem s e) {off : Fin s.rank → ℕ} (hz : off = fun _ => 0)
    (inb : ∀ a, off a + s.size a ≤ s.size a) (L : List (View.Piece (Elt F) s e)) :
    v.readCov L (Rect.unit off s.size inb).toLoadRect = v.read (Elt F) (v.writes (Elt F) v.junk L) := by
  show v.readAt (Elt F) _ _ = _
  rw [View.readAt_eq_ld, View.ld_unit_zero hz]

/-- What the scratch buffers hold after `k` trips. -/
theorem loop_read (s : St F) (G7 : BufTy.Contents (Elt F) arg7.view.ty) (G8 : BufTy.Contents (Elt F) arg8.view.ty)
    (G9 : BufTy.Contents (Elt F) arg9.view.ty)
    (h : (arg7.view.read (Elt F) G7, arg8.view.read (Elt F) G8, arg9.view.read (Elt F) G9) = s) :
    ∀ k : ℕ, k ≤ (k0_t1_loop i).trips →
      let pb := pb_k0_t1 (F := F) 𝒱 c bd i arg2 harg2 arg3 harg3 arg4 harg4 arg5 harg5 arg6 harg6 arg7 harg7 arg8 harg8 arg9 harg9 v17
        (harg2.unread x0) (harg3.unread x1) (harg4.unread x2) G7 G8 G9 k
      (arg7.view.read (Elt F) (arg7.view.writes (Elt F) G7 pb.1), arg8.view.read (Elt F) (arg8.view.writes (Elt F) G8 pb.2.1),
        arg9.view.read (Elt F) (arg9.view.writes (Elt F) G9 pb.2.2)) = fold x0 x1 x2 s k := by
  intro k
  induction k with
  | zero => intro _; exact h
  | succ k ih =>
    intro hk
    have hs := ih (by omega)
    have hp := pb_k0_t1_succ (F := F) 𝒱 c bd i arg2 harg2 arg3 harg3 arg4 harg4 arg5 harg5 arg6 harg6 arg7 harg7 arg8 harg8 arg9 harg9 v17
      (harg2.unread x0) (harg3.unread x1) (harg4.unread x2) G7 G8 G9 ⟨k, by omega⟩
    rw [trip_pieces] at hp
    dsimp only at hp hs ⊢
    rw [hp, hs]
    refine Prod.ext ?_ (Prod.ext ?_ ?_)
    · exact View.read_writes_full arg7.view _ _ _ _
    · exact View.read_writes_full arg8.view _ _ _ _
    · exact View.read_writes_full arg9.view _ _ _ _

/-- What the scratch buffers hold after both loops, the second of which makes no trip; `a`, `b`, `d` is what the diagonal tile stored. -/
theorem scratch_read (v78 : BitVec 32) (a b : Vec F S1x1x4096 .f32) (d : Vec F S1x256x4096 .f32) :
    let p1 := fun G7 G8 G9 => pb_k0_t1 (F := F) 𝒱 c bd i arg2 harg2 arg3 harg3 arg4 harg4 arg5 harg5 arg6 harg6 arg7 harg7 arg8 harg8 arg9 harg9 v17
        (harg2.unread x0) (harg3.unread x1) (harg4.unread x2) G7 G8 G9 (Scf.trips (k0_t1_loop i).lb (k0_t1_loop i).ub (k0_t1_loop i).st)
    let p2 := fun G7 G8 G9 => pb_k0_t2 (F := F) 𝒱 c bd i arg2 harg2 arg3 harg3 arg4 harg4 arg5 harg5 arg6 harg6 arg7 harg7 arg8 harg8 arg9 harg9 v17 v78
        (harg2.unread x0) (harg3.unread x1) (harg4.unread x2) G7 G8 G9 (Scf.trips (k0_t2_loop i).lb (k0_t2_loop i).ub (k0_t2_loop i).st)
    let a0 := [⟨Rect.unit ![0, 0, 0] S1x1x4096.size inb_S1x1x4096_S1x1x4096_0_0_0, a⟩]
    let b0 := [⟨Rect.unit ![0, 0, 0] S1x1x4096.size inb_S1x1x4096_S1x1x4096_0_0_0, b⟩]
    let d0 := [⟨Rect.unit ![0, 0, 0] S1x256x4096.size inb_S1x256x4096_S1x256x4096_0_0_0, d⟩]
    let q1 := p1 (arg7.view.writes (Elt F) arg7.view.junk a0) (arg8.view.writes (Elt F) arg8.view.junk b0) (arg9.view.writes (Elt F) arg9.view.junk d0)
    let q2 := p2 (arg7.view.writes (Elt F) arg7.view.junk (q1.1 ++ a0)) (arg8.view.writes (Elt F) arg8.view.junk (q1.2.1 ++ b0))
      (arg9.view.writes (Elt F) arg9.view.junk (q1.2.2 ++ d0))
    arg9.view.readCov (q2.2.2 ++ (q1.2.2 ++ d0)) (Rect.unit ![0, 0, 0] S1x256x4096.size inb_S1x256x4096_S1x256x4096_0_0_0).toLoadRect
        = (fold x0 x1 x2 (a, b, d) (i 1).val).2.2
      ∧ arg8.view.readCov (q2.2.1 ++ (q1.2.1 ++ b0)) (Rect.unit ![0, 0, 0] S1x1x4096.size inb_S1x1x4096_S1x1x4096_0_0_0).toLoadRect
        = (fold x0 x1 x2 (a, b, d) (i 1).val).2.1 := by
  intro p1 p2 a0 b0 d0 q1 q2
  have t1 : Scf.trips (k0_t1_loop i).lb (k0_t1_loop i).ub (k0_t1_loop i).st = (i 1).val := trips1 i
  have t2 : Scf.trips (k0_t2_loop i).lb (k0_t2_loop i).ub (k0_t2_loop i).st = 0 := trips2 i
  have h2 : q2 = ([], [], []) := by
    show pb_k0_t2 (F := F) _ _ _ _ _ _ _ _ _ _ _ _ _ _ _ _ _ _ _ _ _ _ _ _ _ _ _ _ _ = _
    rw [t2]
    rfl
  have h := loop_read 𝒱 c bd i arg2 harg2 arg3 harg3 arg4 harg4 arg5 harg5 arg6 harg6 arg7 harg7 arg8 harg8 arg9 harg9 v17 x0 x1 x2 (a, b, d)
    (arg7.view.writes (Elt F) arg7.view.junk a0) (arg8.view.writes (Elt F) arg8.view.junk b0) (arg9.view.writes (Elt F) arg9.view.junk d0)
    (Prod.ext (View.read_writes_full arg7.view _ _ _ _) (Prod.ext (View.read_writes_full arg8.view _ _ _ _) (View.read_writes_full arg9.view _ _ _ _)))
    (i 1).val (le_of_eq (trips1 i).symm)
  rw [← t1] at h ⊢
  rw [h2]
  constructor
  · rw [readCov_whole (s := S1x256x4096) _ hz3]
    show arg9.view.read (Elt F) (arg9.view.writes (Elt F) arg9.view.junk (q1.2.2 ++ d0)) = _
    rw [View.writes_append]
    exact congrArg (fun z => z.2.2) h
  · rw [readCov_whole (s := S1x1x4096) _ hz3]
    show arg8.view.read (Elt F) (arg8.view.writes (Elt F) arg8.view.junk (q1.2.1 ++ b0)) = _
    rw [View.writes_append]
    exact congrArg (fun z => z.2.1) h

/-- The block the body writes. -/
theorem out_eq :
    out0_A_4 c i arg2 harg2 arg3 harg3 arg4 harg4 arg5 harg5 arg6 harg6 arg7 harg7 arg8 harg8 arg9 harg9 x0 x1 x2 x3
      = finish x3 (fold x0 x1 x2 (start i x0 (keys x1 (i 1).val) (vals x2 (2 * (i 1).val)) (vals x2 (2 * (i 1).val + 1))) (i 1).val) := by
  have hi : (i 1).val < 16 := (i 1).isLt
  have eK := ld_keys x1 (k0_off1_inb i) (i 1).val hi (off1_eq i)
  have e0 := ld_vals x2 (k0_off2_inb i 0) (2 * (i 1).val) (by omega) (off2_eq i 0)
  have e1 := ld_vals x2 (k0_off2_inb i 1) (2 * (i 1).val + 1) (by omega) (off2_eq i 1)
  unfold out0_A_4
  rw [View.read_writes_eq_canon _ _ _ (cover0_A_4 c i arg2 harg2 arg3 harg3 arg4 harg4 arg5 harg5 arg6 harg6 arg7 harg7 arg8 harg8 arg9 harg9 x0 x1 x2 x3)]
  unfold kernelRun0_A
  dsimp only
  rw [View.canon_unit_zero hz2]
  sl_unfold_words
  have R9 (v17 v78 : BitVec 32) (a b : Vec F S1x1x4096 .f32) (d : Vec F S1x256x4096 .f32) :=
    (scratch_read Variants.none c none i arg2 harg2 arg3 harg3 arg4 harg4 arg5 harg5 arg6 harg6 arg7 harg7 arg8 harg8 arg9 harg9 v17 x0 x1 x2 v78 a b d).1
  have R8 (v17 v78 : BitVec 32) (a b : Vec F S1x1x4096 .f32) (d : Vec F S1x256x4096 .f32) :=
    (scratch_read Variants.none c none i arg2 harg2 arg3 harg3 arg4 harg4 arg5 harg5 arg6 harg6 arg7 harg7 arg8 harg8 arg9 harg9 v17 x0 x1 x2 v78 a b d).2
  dsimp only at R9 R8
  rw [R9, R8]
  simp only [View.readAt_eq_ld, harg2.read_unread, harg3.read_unread, harg4.read_unread, harg5.read_unread, View.ld_unit_zero (S := S8x512x384) hz3]
  have p (h : Fin 8) inb := ld_proj x3 h inb
  unfold finish start
  rw [← eK, ← e0, ← e1, ← p 0 inb_S8x256x512_S1x256x512_0_0_0, ← p 1 inb_S8x256x512_S1x256x512_1_0_0, ← p 2 inb_S8x256x512_S1x256x512_2_0_0,
    ← p 3 inb_S8x256x512_S1x256x512_3_0_0, ← p 4 inb_S8x256x512_S1x256x512_4_0_0, ← p 5 inb_S8x256x512_S1x256x512_5_0_0,
    ← p 6 inb_S8x256x512_S1x256x512_6_0_0, ← p 7 inb_S8x256x512_S1x256x512_7_0_0]
  rfl

end Body

end Cert.KernelIdeal.Attn

end
-- ==== Proof.Host.lean ====
/-
  What the host code hands the kernel: the queries and the keys with their rotary parts behind them and zero lanes up to
  384, the values transposed block by block, and the value projection with head `h`'s 64 columns at `64 * h` and zeros
  elsewhere.
-/
module

public import proofs.«01_k».proof.Proof.Trip
public import Idealize.ShloMosaic.Lib.StableHlo.ReadAt
public import Idealize.ShloMosaic.Lib.Routing.OpsSet

@[expose] public section

set_option maxRecDepth 16384

noncomputable section

namespace Cert.KernelIdeal.Attn

open Cert.KernelIdeal Cert.KernelIdeal.Gen Idealize.ShloMosaic Idealize.ShloMosaic.TcCoe Idealize.ShloMosaic.Tactic

/-- Where an update of a head's block lands: the head, its own row, its own column from the block's first on. -/
theorem lands_at (k : S256x64.Idx) (idx : IVec S2 32) (a : Fin 3) :
    scatter_S8x256x512_S2_S256x64_01_0_02_0.start k idx a + (scatter_S8x256x512_S2_S256x64_01_0_02_0.window k a : ℤ)
      = ![(idx (ix1 0)).toInt, ((k 0).val : ℤ), (idx (ix1 1)).toInt + ((k 1).val : ℤ)] a := by
  have hk : scatter_S8x256x512_S2_S256x64_01_0_02_0.sKept = [1, 2] := by decide
  have i0 : ∀ h, scatter_S8x256x512_S2_S256x64_01_0_02_0.siIdx k ⟨0, h⟩ = ix1 0 := fun h => by
    funext b; match b with | ⟨0, _⟩ => rfl
  have i1 : ∀ h, scatter_S8x256x512_S2_S256x64_01_0_02_0.siIdx k ⟨1, h⟩ = ix1 1 := fun h => by
    funext b; match b with | ⟨0, _⟩ => rfl
  match a with
  | ⟨0, _⟩ =>
    have hw : scatter_S8x256x512_S2_S256x64_01_0_02_0.window k ⟨0, by decide⟩ = 0 := by
      unfold ScatterDims.window; rw [dif_neg (by rw [hk]; decide)]
    have hs : scatter_S8x256x512_S2_S256x64_01_0_02_0.start k idx ⟨0, by decide⟩ = (idx (ix1 0)).toInt := by
      unfold ScatterDims.start; rw [dif_pos (by decide)]; exact congrArg (fun z => (idx z).toInt) (i0 _)
    rw [hw, hs]; exact add_zero _
  | ⟨1, _⟩ =>
    have hw : scatter_S8x256x512_S2_S256x64_01_0_02_0.window k ⟨1, by decide⟩ = (k 0).val := by
      unfold ScatterDims.window; rw [dif_pos (by rw [hk]; decide)]; rfl
    have hs : scatter_S8x256x512_S2_S256x64_01_0_02_0.start k idx ⟨1, by decide⟩ = 0 := by
      unfold ScatterDims.start; rw [dif_neg (by decide)]
    rw [hw, hs]; exact zero_add _
  | ⟨2, _⟩ =>
    have hw : scatter_S8x256x512_S2_S256x64_01_0_02_0.window k ⟨2, by decide⟩ = (k 1).val := by
      unfold ScatterDims.window; rw [dif_pos (by rw [hk]; decide)]; rfl
    have hs : scatter_S8x256x512_S2_S256x64_01_0_02_0.start k idx ⟨2, by decide⟩ = (idx (ix1 1)).toInt := by
      unfold ScatterDims.start; rw [dif_pos (by decide)]; exact congrArg (fun z => (idx z).toInt) (i1 _)
    rw [hw, hs]; rfl

/-- Setting head `h`'s block. -/
theorem set_head (h : Fin 8) (x0 : S8x256x512.Idx → EReal) (idx : IVec S2 32) (upd : S256x64.Idx → EReal)
    (e0 : idx (ix1 0) = BitVec.ofNat 32 h.val) (e1 : idx (ix1 1) = BitVec.ofNat 32 (64 * h.val)) (g : Fin 8) (b : Fin 256) (e : Fin 512) :
    Host.scatter scatter_S8x256x512_S2_S256x64_01_0_02_0 (fun _ b => b) x0 idx upd (ix3 g b e)
      = if g = h ∧ e.val / 64 = h.val then upd (ix2 b ⟨e.val % 64, Nat.mod_lt _ (by decide)⟩) else x0 (ix3 g b e) := by
  have t0 : (idx (ix1 0)).toInt = (h.val : ℤ) := by
    rw [e0, BitVec.toInt_eq_toNat_of_lt (by rw [BitVec.toNat_ofNat]; omega), BitVec.toNat_ofNat, Nat.mod_eq_of_lt (by omega)]
  have t1 : (idx (ix1 1)).toInt = ((64 * h.val : ℕ) : ℤ) := by
    rw [e1, BitVec.toInt_eq_toNat_of_lt (by rw [BitVec.toNat_ofNat]; omega), BitVec.toNat_ofNat, Nat.mod_eq_of_lt (by omega)]
  have key : ∀ k : S256x64.Idx, scatter_S8x256x512_S2_S256x64_01_0_02_0.resultIdx? k idx = some (ix3 g b e)
      ↔ h.val = g.val ∧ (k 0).val = b.val ∧ 64 * h.val + (k 1).val = e.val := by
    intro k
    rw [Routing.resultIdx?_eq_some]
    constructor
    · intro q
      have q0 := (lands_at k idx 0).symm.trans (q 0)
      have q1 := (lands_at k idx 1).symm.trans (q 1)
      have q2 := (lands_at k idx 2).symm.trans (q 2)
      have q0' : (idx (ix1 0)).toInt = (g.val : ℤ) := q0
      have q1' : ((k 0).val : ℤ) = (b.val : ℤ) := q1
      have q2' : (idx (ix1 1)).toInt + ((k 1).val : ℤ) = (e.val : ℤ) := q2
      rw [t0] at q0'; rw [t1] at q2'
      omega
    · rintro ⟨q0, q1, q2⟩ a
      rw [lands_at]
      match a with
      | ⟨0, _⟩ => show (idx (ix1 0)).toInt = (g.val : ℤ); rw [t0]; omega
      | ⟨1, _⟩ => show ((k 0).val : ℤ) = (b.val : ℤ); omega
      | ⟨2, _⟩ => show (idx (ix1 1)).toInt + ((k 1).val : ℤ) = (e.val : ℤ); rw [t1]; omega
  split
  · next hh =>
    have hg : g.val = h.val := congrArg Fin.val hh.1
    refine Routing.scatter_set_hit _ x0 idx upd _ _ (fun k hk => ?_) (ix2 b ⟨e.val % 64, Nat.mod_lt _ (by decide)⟩) ((key _).2 ⟨hg.symm, rfl, ?_⟩)
    · obtain ⟨_, k0, k1⟩ := (key k).1 hk
      congr 1
      have hlt : (k 1).val < 64 := (k 1).isLt
      funext a
      match a with
      | ⟨0, _⟩ => exact Fin.ext k0
      | ⟨1, _⟩ => exact Fin.ext (show (k 1).val = e.val % 64 by omega)
    · show 64 * h.val + e.val % 64 = e.val
      omega
  · next hh =>
    refine Routing.scatter_set_miss _ x0 idx upd _ (fun k hk => hh ?_)
    obtain ⟨kg, _, k1⟩ := (key k).1 hk
    have hlt : (k 1).val < 64 := (k 1).isLt
    exact ⟨Fin.ext kg.symm, by omega⟩

variable (m : (ℓ : Loc nD τ sig) → Buf (Elt Ideal) ℓ) (c : Dev nD)

/-- The arguments. -/
abbrev qLat : S2x8192x8x256.Idx → EReal := m ((c : Thread nD τ).loc main_arg0)
abbrev qRope : S2x8192x8x32.Idx → EReal := m ((c : Thread nD τ).loc main_arg1)
abbrev lat : S2x8192x256.Idx → EReal := m ((c : Thread nD τ).loc main_arg2)
abbrev kRope : S2x8192x32.Idx → EReal := m ((c : Thread nD τ).loc main_arg3)
abbrev wUv : S256x8x64.Idx → EReal := m ((c : Thread nD τ).loc main_arg4)

/-- The queries at a lane. -/
theorem query_at (h : Fin 8) (b : Fin 2) (t : Fin 8192) (d : Fin 384) :
    V m c main_v4 (ix3 h ⟨b.val * 8192 + t.val, by omega⟩ d)
      = if hd : d.val < 256 then qLat m c (ix4 b t h ⟨d.val, hd⟩)
        else if hd' : d.val - 256 < 32 then qRope m c (ix4 b t h ⟨d.val - 256, hd'⟩) else 0 := by
  have e1 : (⟨(b.val * 8192 + t.val) / 8192, by omega⟩ : Fin 2) = b := Fin.ext (show (b.val * 8192 + t.val) / 8192 = b.val by omega)
  have e2 : (⟨(b.val * 8192 + t.val) % 8192, by omega⟩ : Fin 8192) = t := Fin.ext (show (b.val * 8192 + t.val) % 8192 = t.val by omega)
  unfold V hostOps0
  after_reads_at
  after_reads_at
  simp only [e1, e2]

/-- The keys at a lane. -/
theorem key_at (b : Fin 2) (t : Fin 8192) (d : Fin 384) :
    V m c main_v8 (ix2 ⟨b.val * 8192 + t.val, by omega⟩ d)
      = if hd : d.val < 256 then lat m c (ix3 b t ⟨d.val, hd⟩)
        else if hd' : d.val - 256 < 32 then kRope m c (ix3 b t ⟨d.val - 256, hd'⟩) else 0 := by
  have e1 : (⟨(b.val * 8192 + t.val) / 8192, by omega⟩ : Fin 2) = b := Fin.ext (show (b.val * 8192 + t.val) / 8192 = b.val by omega)
  have e2 : (⟨(b.val * 8192 + t.val) % 8192, by omega⟩ : Fin 8192) = t := Fin.ext (show (b.val * 8192 + t.val) % 8192 = t.val by omega)
  unfold V hostOps0
  after_reads_at
  after_reads_at
  simp only [e1, e2]

/-- The values, transposed in blocks of 256 keys. -/
theorem value_at (n : Fin 64) (e x : Fin 256) :
    V m c main_v11 (ix3 n e x) = lat m c (ix3 ⟨n.val / 32, by omega⟩ ⟨n.val % 32 * 256 + x.val, by omega⟩ e) := by
  unfold V hostOps0
  after_reads_at

/-- The packed value projection. -/
theorem proj_at (g : Fin 8) (b : Fin 256) (e : Fin 512) :
    V m c main_v61 (ix3 g b e) = if e.val / 64 = g.val then wUv m c (ix3 b g ⟨e.val % 64, Nat.mod_lt _ (by decide)⟩) else 0 := by
  unfold V hostOps0
  after_reads_simp
  pointwise []
  rw [set_head 7 _ _ _ ?_ ?_, set_head 6 _ _ _ ?_ ?_, set_head 5 _ _ _ ?_ ?_, set_head 4 _ _ _ ?_ ?_,
    set_head 3 _ _ _ ?_ ?_, set_head 2 _ _ _ ?_ ?_, set_head 1 _ _ _ ?_ ?_, set_head 0 _ _ _ ?_ ?_]
  · have hz : (broadcastInDim S8x256x512 ![] bcast_S_S8x256x512 (constant (F := Ideal) S_ FTy.f32 0#32) (ix3 g b e)) = (0 : EReal) := by pointwise []
    rw [hz]
    by_cases hg : e.val / 64 = g.val
    · rw [if_pos hg]
      have hc : ∀ h : Fin 8, (g = h ∧ e.val / 64 = h.val) ↔ g = h := fun h => ⟨And.left, fun q => ⟨q, q ▸ hg⟩⟩
      simp only [hc]
      clear hg hc hz
      fin_cases g <;> rfl
    · rw [if_neg hg]
      have hc : ∀ h : Fin 8, ¬ (g = h ∧ e.val / 64 = h.val) := fun h q => hg (q.1 ▸ q.2)
      simp only [hc, if_false]
  all_goals
    pointwise []
    after_reads_at

end Cert.KernelIdeal.Attn

end
-- ==== Proof.Blocks.lean ====
/-
  Which part of its array a window's block is, at each grid point, and that the output's blocks make up the output.
-/
module

public import proofs.«01_k».proof.Proof.Host
public import proofs.«01_k».proof.Proof.Gen.KernelIdeal.Value

@[expose] public section

set_option maxRecDepth 16384

noncomputable section

namespace Cert.KernelIdeal.Attn

open Cert.KernelIdeal Cert.KernelIdeal.Gen Cert.KernelIdeal.Value Idealize.ShloMosaic Idealize.ShloMosaic.TcCoe Idealize.ShloMosaic.Tactic

variable (m : (ℓ : Loc nD τ sig) → Buf (Elt Ideal) ℓ) (c : Dev nD)

theorem idx0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)

theorem idx1 : ∀ t : Fin cfg0.N, win0_1.index t 0 = t.val / 16 ∧ win0_1.index t 1 = 0 :=
  (by decide +kernel : ∀ t : Fin grid0.N, win0_1.index t 0 = t.val / 16 ∧ win0_1.index t 1 = 0)

theorem idx2 : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)

theorem idx3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)

theorem idx4 : ∀ t : Fin cfg0.N, win0_4.index t 0 = t.val ∧ win0_4.index t 1 = 0 :=
  (by decide +kernel : ∀ t : Fin grid0.N, win0_4.index t 0 = t.val ∧ win0_4.index t 1 = 0)

/-- The block of queries a point works on. -/
theorem tile_of : ∀ t : Fin cfg0.N, ((grid0.coords t) 1).val = t.val % 16 :=
  (by decide +kernel : ∀ t : Fin grid0.N, ((grid0.coords t) 1).val = t.val % 16)

theorem points : ∀ t : Fin cfg0.N, t.val < 32 :=
  (by decide +kernel : ∀ t : Fin grid0.N, t.val < 32)

theorem query_blk (t : Fin cfg0.N) (h : Fin 8) (r : Fin 512) (d : Fin 384) :
    (iblk m c 0 t : Vec Ideal S8x512x384 .bf16) (ix3 h r d)
      = V m c main_v4 (ix3 h ⟨t.val * 512 + r.val, by have := points t; omega⟩ d) := by
  have hi := idx0 t
  unfold iblk
  rw [View.read_apply]
  show V m c main_v4 _ = _
  congr 1
  funext a
  apply Fin.ext
  match a with
  | ⟨0, _⟩ => show win0_0.index t 0 * 8 + 1 * h.val = h.val; rw [hi.1]; omega
  | ⟨1, _⟩ => show win0_0.index t 1 * 512 + 1 * r.val = t.val * 512 + r.val; rw [hi.2.1]; omega
  | ⟨2, _⟩ => show win0_0.index t 2 * 384 + 1 * d.val = d.val; rw [hi.2.2]; omega

theorem key_blk (t : Fin cfg0.N) (k : Fin 8192) (d : Fin 384) :
    (iblk m c 1 t : Vec Ideal S8192x384 .bf16) (ix2 k d)
      = V m c main_v8 (ix2 ⟨t.val / 16 * 8192 + k.val, by have := points t; omega⟩ d) := by
  have hi := idx1 t
  unfold iblk
  rw [View.read_apply]
  show V m c main_v8 _ = _
  congr 1
  funext a
  apply Fin.ext
  match a with
  | ⟨0, _⟩ => show win0_1.index t 0 * 8192 + 1 * k.val = t.val / 16 * 8192 + k.val; rw [hi.1]; omega
  | ⟨1, _⟩ => show win0_1.index t 1 * 384 + 1 * d.val = d.val; rw [hi.2]; omega

theorem value_blk (t : Fin cfg0.N) (n : Fin 32) (e x : Fin 256) :
    (iblk m c 2 t : Vec Ideal S32x256x256 .bf16) (ix3 n e x)
      = V m c main_v11 (ix3 ⟨t.val / 16 * 32 + n.val, by have := points t; omega⟩ e x) := by
  have hi := idx2 t
  unfold iblk
  rw [View.read_apply]
  show V m c main_v11 _ = _
  congr 1
  funext a
  apply Fin.ext
  match a with
  | ⟨0, _⟩ => show win0_2.index t 0 * 32 + 1 * n.val = t.val / 16 * 32 + n.val; rw [hi.1]; omega
  | ⟨1, _⟩ => show win0_2.index t 1 * 256 + 1 * e.val = e.val; rw [hi.2.1]; omega
  | ⟨2, _⟩ => show win0_2.index t 2 * 256 + 1 * x.val = x.val; rw [hi.2.2]; omega

theorem proj_blk (t : Fin cfg0.N) (g : Fin 8) (b : Fin 256) (e : Fin 512) :
    (iblk m c 3 t : Vec Ideal S8x256x512 .bf16) (ix3 g b e) = V m c main_v61 (ix3 g b e) := by
  have hi := idx3 t
  unfold iblk
  rw [View.read_apply]
  show V m c main_v61 _ = _
  congr 1
  funext a
  apply Fin.ext
  match a with
  | ⟨0, _⟩ => show win0_3.index t 0 * 8 + 1 * g.val = g.val; rw [hi.1]; omega
  | ⟨1, _⟩ => show win0_3.index t 1 * 256 + 1 * b.val = b.val; rw [hi.2.1]; omega
  | ⟨2, _⟩ => show win0_3.index t 2 * 512 + 1 * e.val = e.val; rw [hi.2.2]; omega

theorem flushes : ∀ t : Fin cfg0.N, (cfg0.win 4).flush t = true :=
  (by decide +kernel : ∀ t : Fin grid0.N, win0_4.flush t = true)

/-- An array whose blocks are what the points write is the output. -/
theorem output_eq (G : S16384x512.Idx → EReal)
    (hG : ∀ (t : Fin cfg0.N) (r n : Fin 512),
      out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (ix2 r n)
        = G (ix2 ⟨t.val * 512 + r.val, by have := points t; omega⟩ n)) :
    (dats m 0 c).arrAt 4 cfg0.N = G := by
  refine (dats m 0 c).arrAt_eq_of_cover 4 G (fun t _ => ?_) fun i => ?_
  · rw [flushed4_A]
    funext y
    have hi := idx4 t
    refine Eq.trans ?_ (Eq.trans (hG t (y 0) (y 1)) ?_)
    · show out0_A_4 c _ _ _ _ _ _ _ _ _ _ _ _ _ _ _ _ _ _ _ _ _ _ = out0_A_4 c _ _ _ _ _ _ _ _ _ _ _ _ _ _ _ _ _ _ _ _ _ _
      congr 1
      funext a
      match a with
      | ⟨0, _⟩ => rfl
      | ⟨1, _⟩ => rfl
    · rw [View.read_apply]
      show G _ = G _
      congr 1
      funext a
      apply Fin.ext
      match a with
      | ⟨0, _⟩ => show t.val * 512 + (y 0).val = win0_4.index t 0 * 512 + 1 * (y 0).val; rw [hi.1]; omega
      | ⟨1, _⟩ => show (y 1).val = win0_4.index t 1 * 512 + 1 * (y 1).val; rw [hi.2]; omega
  · have h0 : (i 0 : Nat) < 16384 := (i 0).isLt
    have h1 : (i 1 : Nat) < 512 := (i 1).isLt
    have hN : cfg0.N = 32 := rfl
    obtain ⟨p, hp⟩ : ∃ p : Fin cfg0.N, p.val = (i 0).val / 512 := ⟨⟨(i 0).val / 512, by rw [hN]; omega⟩, rfl⟩
    refine ⟨p, flushes p, ?_⟩
    have hi := idx4 p
    show i ∈ ((View.whole main_v62).slice (win0_4.rect p)).set
    rw [View.set_slice_whole, Rect.mem_set_unit]
    intro a
    match a with
    | ⟨0, _⟩ =>
      show win0_4.index p 0 * 512 ≤ (i 0 : Nat) ∧ (i 0 : Nat) < win0_4.index p 0 * 512 + 512
      rw [hi.1, hp]
      omega
    | ⟨1, _⟩ =>
      show win0_4.index p 1 * 512 ≤ (i 1 : Nat) ∧ (i 1 : Nat) < win0_4.index p 1 * 512 + 512
      rw [hi.2]
      omega

end Cert.KernelIdeal.Attn
-- ==== Proof.Online.lean ====
/-
  Softmax-weighted sums over the extended reals, tile by tile. The weights are exponentials of finite scores; a running
  maximum is subtracted inside each exponential and cancels, whatever finite number it is.
-/
module

public import Idealize.ShloMosaic.Lib.Pointwise

@[expose] public section

noncomputable section

namespace Cert.Online

open Idealize.ShloMosaic

/-- A finite sum of real numbers, summed as extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- The maximum of finitely many scores, none `+∞` and one of them finite, is a real number. -/
theorem fold_max_real {ι : Type*} [Fintype ι] (f : ι → EReal) (hT : ∀ i, f i ≠ ⊤) (i0 : ι) (h0 : f i0 ≠ ⊥) :
    ∃ μ : ℝ, Finset.univ.fold max ⊥ f = μ := by
  have h1 : Finset.univ.fold max ⊥ f ≠ ⊤ :=
    ((Finset.fold_max_lt _).2 ⟨bot_lt_top, fun i _ => lt_top_iff_ne_top.2 (hT i)⟩).ne
  have h2 : Finset.univ.fold max ⊥ f ≠ ⊥ :=
    ((Finset.lt_fold_max _).2 (Or.inr ⟨i0, Finset.mem_univ _, bot_lt_iff_ne_bot.2 h0⟩)).ne'
  exact ⟨_, (EReal.coe_toReal h1 h2).symm⟩

/-- The weight of a finite score under the maximum `μ`. -/
theorem exp_sub (s μ : ℝ) : Ideal.exp ((s : EReal) - (μ : EReal)) = ((Real.exp s * Real.exp (-μ) : ℝ) : EReal) := by
  rw [← EReal.coe_sub, Ideal.exp_coe, ← Real.exp_add, sub_eq_add_neg]

/-- A score, or `-∞` where the mask hides it. -/
def masked (p : Prop) [Decidable p] (s : ℝ) : EReal := if p then (s : EReal) else ⊥

/-- The weight of a masked score: nothing where the mask hides it. -/
theorem exp_masked (p : Prop) [Decidable p] (s μ : ℝ) :
    Ideal.exp (masked p s - (μ : EReal)) = (((if p then Real.exp s else 0) * Real.exp (-μ) : ℝ) : EReal) := by
  unfold masked
  split
  · exact exp_sub s μ
  · rw [zero_mul, sub_eq_add_neg, EReal.bot_add, Ideal.exp_bot, EReal.coe_zero]

/-- The maximum of masked scores is a real number when the mask shows one. -/
theorem fold_masked {ι : Type*} [Fintype ι] (p : ι → Prop) [DecidablePred p] (s : ι → ℝ) (i0 : ι) (h0 : p i0) :
    ∃ μ : ℝ, Finset.univ.fold max ⊥ (fun i => masked (p i) (s i)) = μ := by
  refine fold_max_real _ (fun i => ?_) i0 ?_
  · unfold masked; split
    · exact EReal.coe_ne_top _
    · exact bot_ne_top
  · unfold masked; rw [if_pos h0]; exact EReal.coe_ne_bot _

/-- The masked weights' sum. -/
theorem sum_exp_masked {ι : Type*} [Fintype ι] (p : ι → Prop) [DecidablePred p] (s : ι → ℝ) (μ : ℝ) :
    ∑ i, Ideal.exp (masked (p i) (s i) - (μ : EReal)) = (((∑ i, if p i then Real.exp (s i) else 0) * Real.exp (-μ) : ℝ) : EReal) := by
  simp only [exp_masked, coe_sum, Finset.sum_mul]

/-- The weights' sum. -/
theorem sum_exp {ι : Type*} [Fintype ι] (s : ι → ℝ) (μ : ℝ) :
    ∑ i, Ideal.exp ((s i : EReal) - (μ : EReal)) = (((∑ i, Real.exp (s i)) * Real.exp (-μ) : ℝ) : EReal) := by
  simp only [exp_sub, coe_sum, Finset.sum_mul]

/-- A sum over 512 keys is the sum over the two blocks of 256. -/
theorem sum_halves (f : Fin 512 → ℝ) :
    ∑ t, f t = ∑ x : Fin 256, f ⟨x.val, by omega⟩ + ∑ x : Fin 256, f ⟨256 + x.val, by omega⟩ :=
  Fin.sum_univ_add (a := 256) (b := 256) f

/-- The normalised weighted sum: the maximum cancels. -/
theorem quot (N Z μ : ℝ) (hZ : 0 < Z) :
    Ideal.div ((N * Real.exp (-μ) : ℝ) : EReal) ((Z * Real.exp (-μ) : ℝ) : EReal) = ((N / Z : ℝ) : EReal) := by
  have hE : Real.exp (-μ) ≠ 0 := (Real.exp_pos _).ne'
  rw [Ideal.div_coe (mul_ne_zero hZ.ne' hE), ← EReal.coe_mul]
  congr 1
  field_simp

end Cert.Online

end
-- ==== Proof.Column.lean ====
/-
  One column of the scratch buffers: a head and a query of the block. After the diagonal tile and `k` earlier tiles it
  holds some finite maximum `μ`, the sum `Z` of the exponentials of the scores met and the sums `N` of the values they
  weight, both times `exp (-μ)`.
-/
module

public import proofs.«01_k».proof.Proof.Trip
public import proofs.«01_k».proof.Proof.Online

@[expose] public section

set_option maxRecDepth 16384

noncomputable section

namespace Cert.KernelIdeal.Attn

open Cert.KernelIdeal Cert.KernelIdeal.Gen Idealize.ShloMosaic Idealize.ShloMosaic.TcCoe Idealize.ShloMosaic.Tactic
open Cert.Online

theorem named_scale : (Named.named κ "scale" 0x3DD105EC#32 : Ideal .f32) = (((Real.sqrt 96)⁻¹ : ℝ) : EReal) := rfl
theorem named_mask : (Named.named κ "mask" 0xF149F2CA#32 : Ideal .f32) = (⊥ : EReal) := rfl
theorem neg_inf : (Ideal.ofBits .f32 0xFF800000#32 : EReal) = ⊥ := by decide +kernel

/-- The column of head `h` and query `r`. -/
abbrev col (h : Fin 8) (r : Fin 512) : Fin 4096 := ⟨h.val * 512 + r.val, by omega⟩

/-- What a column holds. -/
def Inv (s : St Ideal) (l : Fin 4096) (Z : ℝ) (N : Fin 256 → ℝ) : Prop :=
  ∃ μ : ℝ, s.1 (ix3 0 0 l) = (μ : EReal) ∧ s.2.1 (ix3 0 0 l) = ((Z * Real.exp (-μ) : ℝ) : EReal)
    ∧ ∀ e, s.2.2 (ix3 0 e l) = ((N e * Real.exp (-μ) : ℝ) : EReal)

/-- The tile of a block of queries, as the kernel's words compute it. -/
theorem tile_word (a : Fin 16) :
    Scalar.select
        (Scalar.andi
          (Scalar.cmpi CmpIPredicate.ne
            (Scalar.subi (Scalar.extui (Scalar.cmpi CmpIPredicate.sgt (Scalar.muli (BitVec.ofNat 32 a.val) 512#32) 0#32))
              (Scalar.extui (Scalar.cmpi CmpIPredicate.slt (Scalar.muli (BitVec.ofNat 32 a.val) 512#32) 0#32)))
            (Scalar.subi (Scalar.extui (Scalar.cmpi CmpIPredicate.sgt 512#32 0#32)) (Scalar.extui (Scalar.cmpi CmpIPredicate.slt 512#32 0#32))))
          (Scalar.cmpi CmpIPredicate.ne (Scalar.remsi (Scalar.muli (BitVec.ofNat 32 a.val) 512#32) 512#32) 0#32))
        (Scalar.subi (Scalar.divsi (Scalar.muli (BitVec.ofNat 32 a.val) 512#32) 512#32) 1#32)
        (Scalar.divsi (Scalar.muli (BitVec.ofNat 32 a.val) 512#32) 512#32)
      = BitVec.ofNat 32 a.val := by
  revert a
  decide +kernel

/-- The query of a column, from the column's number. -/
theorem query_word (h : Fin 8) (r : Fin 512) : IntOp.andi (BitVec.ofNat 32 (h.val * 512 + r.val)) 511#32 = BitVec.ofNat 32 r.val := by
  apply BitVec.eq_of_toNat_eq
  show (BitVec.ofNat 32 (h.val * 512 + r.val) &&& 511#32).toNat = _
  rw [BitVec.toNat_and, BitVec.toNat_ofNat, BitVec.toNat_ofNat, BitVec.toNat_ofNat, Nat.mod_eq_of_lt (by omega), Nat.mod_eq_of_lt (by omega : r.val < 2 ^ 32)]
  have := Nat.and_two_pow_sub_one_eq_mod (h.val * 512 + r.val) 9
  norm_num at this ⊢
  rw [this]
  omega

/-- The mask's comparison. -/
theorem le_word (a t r : ℕ) (ha : a < 16) (ht : t < 512) (hr : r < 512) :
    IntOp.cmpi CmpIPredicate.sle (IntOp.addi (Scalar.muli (BitVec.ofNat 32 a) 512#32) (BitVec.ofNat 32 t))
        (IntOp.addi (Scalar.muli (BitVec.ofNat 32 a) 512#32) (BitVec.ofNat 32 r)) = if t ≤ r then 1#1 else 0#1 := by
  have e : ∀ b : ℕ, b < 512 → (IntOp.addi (Scalar.muli (BitVec.ofNat 32 a) 512#32) (BitVec.ofNat 32 b)).toInt = ((a * 512 + b : ℕ) : ℤ) := by
    intro b hb
    have h : (IntOp.addi (Scalar.muli (BitVec.ofNat 32 a) 512#32) (BitVec.ofNat 32 b)) = BitVec.ofNat 32 (a * 512 + b) := by
      apply BitVec.eq_of_toNat_eq
      show ((BitVec.ofNat 32 a * 512#32) + BitVec.ofNat 32 b).toNat = _
      simp only [BitVec.toNat_add, BitVec.toNat_mul, BitVec.toNat_ofNat]
      omega
    rw [h, BitVec.toInt_eq_toNat_of_lt (by rw [BitVec.toNat_ofNat]; omega), BitVec.toNat_ofNat, Nat.mod_eq_of_lt (by omega)]
  show BitVec.ofBool (BitVec.sle _ _) = _
  unfold BitVec.sle
  rw [e t ht, e r hr]
  by_cases h : t ≤ r
  · rw [if_pos h, decide_eq_true (by omega)]; rfl
  · rw [if_neg h, decide_eq_false (by omega)]; rfl

/-- The causal mask of the diagonal tile: key `t` is shown to query `r` where `t ≤ r`. -/
theorem mask_at (i : grid0.Coords) (t : Fin 512) (h : Fin 8) (r : Fin 512) :
    k0_pay17 i (ix2 t (col h r)) = if t.val ≤ r.val then 1#1 else 0#1 := by
  have hi : (i 1).val < 16 := (i 1).isLt
  pointwise [k0_pay17]
  rw [tile_word (i 1), query_word]
  rw [le_word (i 1).val t.val r.val hi t.isLt r.isLt]

/-- Scores of a tile at a column. -/
theorem scores_at (q : Vec Ideal S8x512x384 .bf16) (kk : Vec Ideal S512x384 .bf16) (h : Fin 8) (r : Fin 512) (a : Fin 512 → ℝ)
    (ha : ∀ t, ∑ d, kk (ix2 t d) * q (ix3 h r d) = ((a t : ℝ) : EReal)) (t : Fin 512) :
    k0_pay1 kk q (ix2 t (col h r)) = ((a t * (Real.sqrt 96)⁻¹ : ℝ) : EReal) := by
  pointwise [k0_pay1]
  have e1 : (⟨(h.val * 512 + r.val) / 512, by omega⟩ : Fin 8) = h := Fin.ext (show (h.val * 512 + r.val) / 512 = h.val by omega)
  have e2 : (⟨(h.val * 512 + r.val) % 512, by omega⟩ : Fin 512) = r := Fin.ext (show (h.val * 512 + r.val) % 512 = r.val by omega)
  rw [named_scale]
  simp only [e1, e2]
  rw [ha, ← EReal.coe_mul]

/-- The weights of a tile times its values, summed over the tile's two blocks. -/
theorem values_at (v0 v1 : Vec Ideal S1x256x256 .bf16) (ν : Fin 512 → ℝ) (e : Fin 256) (p : Fin 512 → EReal) (w : Fin 512 → ℝ) (μ : ℝ)
    (hp : ∀ t, p t = ((w t * Real.exp (-μ) : ℝ) : EReal))
    (h0 : ∀ x : Fin 256, v0 (ix3 0 e x) = ((ν ⟨x.val, by omega⟩ : ℝ) : EReal))
    (h1 : ∀ x : Fin 256, v1 (ix3 0 e x) = ((ν ⟨256 + x.val, by omega⟩ : ℝ) : EReal)) :
    ∑ x : Fin 256, v0 (ix3 0 e x) * p ⟨x.val, by omega⟩ + ∑ x : Fin 256, v1 (ix3 0 e x) * p ⟨256 + x.val, by omega⟩
      = (((∑ t, ν t * w t) * Real.exp (-μ) : ℝ) : EReal) := by
  simp only [hp, h0, h1, ← EReal.coe_mul, coe_sum, ← EReal.coe_add]
  rw [sum_halves, add_mul, Finset.sum_mul, Finset.sum_mul]
  simp only [mul_assoc]

/-- The diagonal tile starts a column. -/
theorem inv_start (i : grid0.Coords) (q : Vec Ideal S8x512x384 .bf16) (kk : Vec Ideal S512x384 .bf16) (v0 v1 : Vec Ideal S1x256x256 .bf16)
    (h : Fin 8) (r : Fin 512) (a : Fin 512 → ℝ) (ν : Fin 256 → Fin 512 → ℝ)
    (ha : ∀ t, ∑ d, kk (ix2 t d) * q (ix3 h r d) = ((a t : ℝ) : EReal))
    (h0 : ∀ (e x : Fin 256), v0 (ix3 0 e x) = ((ν e ⟨x.val, by omega⟩ : ℝ) : EReal))
    (h1 : ∀ (e x : Fin 256), v1 (ix3 0 e x) = ((ν e ⟨256 + x.val, by omega⟩ : ℝ) : EReal)) :
    Inv (start i q kk v0 v1) (col h r) (∑ t : Fin 512, if t.val ≤ r.val then Real.exp (a t * (Real.sqrt 96)⁻¹) else 0)
      (fun e => ∑ t : Fin 512, ν e t * if t.val ≤ r.val then Real.exp (a t * (Real.sqrt 96)⁻¹) else 0) := by
  have hs : ∀ t, k0_pay19 (k0_pay17 i) (k0_pay18 kk q) (ix2 t (col h r)) = masked (t.val ≤ r.val) (a t * (Real.sqrt 96)⁻¹) := by
    intro t
    have hd : k0_pay18 kk q = k0_pay1 kk q := rfl
    rw [hd]
    pointwise [k0_pay19]
    rw [mask_at, scores_at q kk h r a ha t, named_mask]
    unfold masked Scalar.select
    split <;> rfl
  obtain ⟨μ, hμ⟩ := fold_masked (fun t : Fin 512 => t.val ≤ r.val) (fun t => a t * (Real.sqrt 96)⁻¹) r le_rfl
  have hm : k0_pay20 (k0_pay17 i) (k0_pay18 kk q) (ix2 0 (col h r)) = (μ : EReal) := by
    pointwise [k0_pay20]
    rw [neg_inf]
    simp only [hs]
    exact hμ
  have hp : ∀ t, k0_pay21 (k0_pay17 i) (k0_pay18 kk q) (ix2 t (col h r))
      = (((if t.val ≤ r.val then Real.exp (a t * (Real.sqrt 96)⁻¹) else 0) * Real.exp (-μ) : ℝ) : EReal) := by
    intro t
    pointwise [k0_pay21]
    rw [hs, hm, exp_masked]
  refine ⟨μ, ?_, ?_, fun e => ?_⟩
  · dsimp only [start]
    pointwise [k0_pay22]
    exact hm
  · dsimp only [start]
    pointwise [k0_pay23]
    simp only [hp, coe_sum, Finset.sum_mul]
  · dsimp only [start]
    pointwise [k0_pay24]
    exact values_at v0 v1 (ν e) e (fun t => k0_pay21 (k0_pay17 i) (k0_pay18 kk q) (ix2 t (col h r)))
      (fun t => if t.val ≤ r.val then Real.exp (a t * (Real.sqrt 96)⁻¹) else 0) μ hp (h0 e) (h1 e)

/-- What is stored for a row is the row. -/
theorem pay26_at (v : FVec Ideal S1x4096 .f32) (l : Fin 4096) : k0_pay26 v (ix3 0 0 l) = v (ix2 0 l) := by
  pointwise [k0_pay26]

/-- The new maximum of a column. -/
theorem pay3_at (q : Vec Ideal S8x512x384 .bf16) (kk : Vec Ideal S512x384 .bf16) (m : Vec Ideal S1x1x4096 .f32) (l : Fin 4096) :
    k0_pay3 kk q m (ix2 0 l) = max (m (ix3 0 0 l)) (Finset.univ.fold max ⊥ fun t => k0_pay1 kk q (ix2 t l)) := by
  refine (pay26_at (k0_pay3 kk q m) l).symm.trans ?_
  pointwise [k0_pay26, k0_pay3, k0_pay2]
  rw [neg_inf]

/-- A further tile joins a column. -/
theorem inv_next (q : Vec Ideal S8x512x384 .bf16) (kk : Vec Ideal S512x384 .bf16) (v0 v1 : Vec Ideal S1x256x256 .bf16)
    (h : Fin 8) (r : Fin 512) (a : Fin 512 → ℝ) (ν : Fin 256 → Fin 512 → ℝ) (s : St Ideal) (Z : ℝ) (N : Fin 256 → ℝ)
    (ha : ∀ t, ∑ d, kk (ix2 t d) * q (ix3 h r d) = ((a t : ℝ) : EReal))
    (h0 : ∀ (e x : Fin 256), v0 (ix3 0 e x) = ((ν e ⟨x.val, by omega⟩ : ℝ) : EReal))
    (h1 : ∀ (e x : Fin 256), v1 (ix3 0 e x) = ((ν e ⟨256 + x.val, by omega⟩ : ℝ) : EReal))
    (hI : Inv s (col h r) Z N) :
    Inv (next q kk v0 v1 s) (col h r) (Z + ∑ t : Fin 512, Real.exp (a t * (Real.sqrt 96)⁻¹))
      (fun e => N e + ∑ t : Fin 512, ν e t * Real.exp (a t * (Real.sqrt 96)⁻¹)) := by
  obtain ⟨μ, hm, hl, hacc⟩ := hI
  have hs := scores_at q kk h r a ha
  obtain ⟨ξ, hξ⟩ := fold_max_real (fun t : Fin 512 => ((a t * (Real.sqrt 96)⁻¹ : ℝ) : EReal)) (fun _ => EReal.coe_ne_top _) 0 (EReal.coe_ne_bot _)
  have hM : k0_pay3 kk q s.1 (ix2 0 (col h r)) = ((max μ ξ : ℝ) : EReal) := by
    rw [pay3_at, hm]
    simp only [hs]
    rw [hξ, ← EReal.coe_strictMono.monotone.map_max]
  have hα : k0_pay4 kk q s.1 (ix2 0 (col h r)) = ((Real.exp μ * Real.exp (-max μ ξ) : ℝ) : EReal) := by
    pointwise [k0_pay4, k0_pay2]
    rw [hM, hm, exp_sub]
  have hp : ∀ t, k0_pay5 kk q s.1 (ix2 t (col h r)) = ((Real.exp (a t * (Real.sqrt 96)⁻¹) * Real.exp (-max μ ξ) : ℝ) : EReal) := by
    intro t
    pointwise [k0_pay5]
    rw [hM, hs, exp_sub]
  have hc : Real.exp μ * Real.exp (-μ) = 1 := by rw [← Real.exp_add, add_neg_cancel, Real.exp_zero]
  have hk : ∀ z : ℝ, Real.exp μ * Real.exp (-max μ ξ) * (z * Real.exp (-μ)) = z * Real.exp (-max μ ξ) := by
    intro z
    calc _ = (Real.exp μ * Real.exp (-μ)) * (z * Real.exp (-max μ ξ)) := by ring
      _ = _ := by rw [hc, one_mul]
  refine ⟨max μ ξ, ?_, ?_, fun e => ?_⟩
  · dsimp only [next]
    pointwise [k0_pay26]
    exact hM
  · dsimp only [next]
    pointwise [k0_pay6]
    rw [hα, hl]
    simp only [hp]
    rw [coe_sum, ← EReal.coe_mul, ← EReal.coe_add, hk, add_mul, Finset.sum_mul]
  · dsimp only [next]
    pointwise [k0_pay25, k0_pay7, k0_pay8]
    rw [hα, hacc, ← EReal.coe_mul, hk]
    have hv := values_at v0 v1 (ν e) e (fun t => k0_pay5 kk q s.1 (ix2 t (col h r))) (fun t => Real.exp (a t * (Real.sqrt 96)⁻¹)) _ hp (h0 e) (h1 e)
    rw [hv]
    rw [← EReal.coe_add, add_mul]

end Cert.KernelIdeal.Attn

end
-- ==== Proof.Shown.lean ====
/-
  The quantities both programs are brought to: over the keys a query is shown, the sum of the exponentials of the scaled
  scores and the sums of the values they weight.
-/
module

public import proofs.«01_k».proof.Proof.Online

@[expose] public section

noncomputable section

namespace Cert.Online

/-- The weight of a key: the exponential of its scaled score. -/
def weight (σ : ℕ → ℝ) (k : ℕ) : ℝ := Real.exp (σ k * (Real.sqrt 96)⁻¹)

/-- The weights of the keys up to `q`. -/
def total (σ : ℕ → ℝ) (q : ℕ) : ℝ := ∑ k ∈ Finset.range (q + 1), weight σ k

/-- The values those weights mix. -/
def mixed (σ ν : ℕ → ℝ) (q : ℕ) : ℝ := ∑ k ∈ Finset.range (q + 1), ν k * weight σ k

theorem weight_pos (σ : ℕ → ℝ) (k : ℕ) : 0 < weight σ k := Real.exp_pos _

theorem total_pos (σ : ℕ → ℝ) (q : ℕ) : 0 < total σ q :=
  Finset.sum_pos (fun k _ => weight_pos σ k) ⟨0, Finset.mem_range.mpr (Nat.succ_pos q)⟩

/-- A sum over all keys of what is zero past `q` is the sum up to `q`. -/
theorem sum_shown (n q : ℕ) (hq : q < n) (f : ℕ → ℝ) :
    (∑ k : Fin n, if k.val ≤ q then f k.val else 0) = ∑ k ∈ Finset.range (q + 1), f k := by
  rw [Fin.sum_univ_eq_sum_range (fun k => if k ≤ q then f k else 0) n, ← Finset.sum_filter]
  congr 1
  ext k
  simp only [Finset.mem_filter, Finset.mem_range]
  omega

/-- The keys before a tile, and those of the tile up to `r`. -/
theorem sum_tile (b n r : ℕ) (hr : r < n) (f : ℕ → ℝ) :
    (∑ t : Fin n, if t.val ≤ r then f (b + t.val) else 0) + ∑ k ∈ Finset.range b, f k = ∑ k ∈ Finset.range (b + r + 1), f k := by
  rw [sum_shown n r hr (fun t => f (b + t)), add_comm, ← Finset.sum_range_add, add_assoc]

/-- One whole tile more. -/
theorem sum_next (j n : ℕ) (f : ℕ → ℝ) :
    (∑ k ∈ Finset.range (j * n), f k) + ∑ t : Fin n, f (j * n + t.val) = ∑ k ∈ Finset.range ((j + 1) * n), f k := by
  rw [Fin.sum_univ_eq_sum_range (fun t => f (j * n + t)) n, ← Finset.sum_range_add, Nat.succ_mul]

/-- The score of key `k` for a query of a head: the latent parts' product and the rotary parts'. -/
def score (Q : Fin 2 → Fin 8192 → Fin 8 → Fin 256 → ℝ) (R : Fin 2 → Fin 8192 → Fin 8 → Fin 32 → ℝ) (C : Fin 2 → Fin 8192 → Fin 256 → ℝ)
    (K : Fin 2 → Fin 8192 → Fin 32 → ℝ) (b : Fin 2) (h : Fin 8) (q : Fin 8192) (k : ℕ) : ℝ :=
  ∑ d, C b (Fin.ofNat 8192 k) d * Q b q h d + ∑ d, K b (Fin.ofNat 8192 k) d * R b q h d

/-- The latent of key `k` at one place. -/
def latent (C : Fin 2 → Fin 8192 → Fin 256 → ℝ) (b : Fin 2) (e : Fin 256) (k : ℕ) : ℝ := C b (Fin.ofNat 8192 k) e

/-- What the attention of a query comes to at one place: the mixed latents over the total weight, times the value
    projection. -/
def attended (Q : Fin 2 → Fin 8192 → Fin 8 → Fin 256 → ℝ) (R : Fin 2 → Fin 8192 → Fin 8 → Fin 32 → ℝ) (C : Fin 2 → Fin 8192 → Fin 256 → ℝ)
    (K : Fin 2 → Fin 8192 → Fin 32 → ℝ) (w : Fin 256 → Fin 8 → Fin 64 → EReal) (b : Fin 2) (q : Fin 8192) (n : Fin 512) : EReal :=
  ∑ e, ((mixed (score Q R C K b ⟨n.val / 64, by omega⟩ q) (latent C b e) q.val
      / total (score Q R C K b ⟨n.val / 64, by omega⟩ q) q.val : ℝ) : EReal)
    * w e ⟨n.val / 64, by omega⟩ ⟨n.val % 64, by omega⟩

end Cert.Online
-- ==== Proof.Tiles.lean ====
/-
  All tiles of a block of queries, and the output block: from scores and values that are finite, row `r` of the block
  ends at the mixed values over the total weight, times the value projection.
-/
module

public import proofs.«01_k».proof.Proof.Column
public import proofs.«01_k».proof.Proof.Shown

@[expose] public section

set_option maxRecDepth 16384

noncomputable section

namespace Cert.KernelIdeal.Attn

open Cert.KernelIdeal Cert.KernelIdeal.Gen Idealize.ShloMosaic Idealize.ShloMosaic.TcCoe Idealize.ShloMosaic.Tactic
open Cert.Online

/-- After the diagonal tile `n` and the tiles before it, a column holds the sums over the keys its query is shown. -/
theorem inv_fold (i : grid0.Coords) (x0 : Vec Ideal S8x512x384 .bf16) (x1 : Vec Ideal S8192x384 .bf16)
    (x2 : Vec Ideal S32x256x256 .bf16) (h : Fin 8) (r : Fin 512) (n : ℕ) (hn : n < 16) (σ : ℕ → ℝ) (ν : Fin 256 → ℕ → ℝ)
    (ha : ∀ k, k < 8192 → ∑ d, x1 (ix2 (Fin.ofNat 8192 k) d) * x0 (ix3 h r d) = ((σ k : ℝ) : EReal))
    (hv : ∀ (j : ℕ) (e x : Fin 256), j < 32 → x2 (ix3 (Fin.ofNat 32 j) e x) = ((ν e (j * 256 + x.val) : ℝ) : EReal)) :
    Inv (fold x0 x1 x2 (start i x0 (keys x1 n) (vals x2 (2 * n)) (vals x2 (2 * n + 1))) n) (col h r)
      (total σ (n * 512 + r.val)) (fun e => mixed σ (ν e) (n * 512 + r.val)) := by
  have hk : ∀ j, j < 16 → ∀ t : Fin 512, ∑ d, keys x1 j (ix2 t d) * x0 (ix3 h r d) = ((σ (j * 512 + t.val) : ℝ) : EReal) :=
    fun j hj t => ha (j * 512 + t.val) (by omega)
  have h0 : ∀ j, j < 16 → ∀ e x : Fin 256, vals x2 (2 * j) (ix3 0 e x) = ((ν e (j * 512 + x.val) : ℝ) : EReal) :=
    fun j hj e x => (hv (2 * j) e x (by omega)).trans (by rw [show 2 * j * 256 + x.val = j * 512 + x.val by omega])
  have h1 : ∀ j, j < 16 → ∀ e x : Fin 256, vals x2 (2 * j + 1) (ix3 0 e x) = ((ν e (j * 512 + (256 + x.val)) : ℝ) : EReal) :=
    fun j hj e x => (hv (2 * j + 1) e x (by omega)).trans (by rw [show (2 * j + 1) * 256 + x.val = j * 512 + (256 + x.val) by omega])
  have hs := inv_start i x0 (keys x1 n) (vals x2 (2 * n)) (vals x2 (2 * n + 1)) h r (fun t => σ (n * 512 + t.val))
    (fun e t => ν e (n * 512 + t.val)) (hk n hn) (h0 n hn) (h1 n hn)
  have hf : ∀ j, j ≤ n → Inv (fold x0 x1 x2 (start i x0 (keys x1 n) (vals x2 (2 * n)) (vals x2 (2 * n + 1))) j) (col h r)
      ((∑ t : Fin 512, if t.val ≤ r.val then weight σ (n * 512 + t.val) else 0) + ∑ k ∈ Finset.range (j * 512), weight σ k)
      (fun e => (∑ t : Fin 512, if t.val ≤ r.val then ν e (n * 512 + t.val) * weight σ (n * 512 + t.val) else 0)
        + ∑ k ∈ Finset.range (j * 512), ν e k * weight σ k) := by
    intro j
    induction j with
    | zero =>
      intro _
      simp only [Nat.zero_mul, Finset.range_zero, Finset.sum_empty, add_zero]
      simp only [mul_ite, mul_zero] at hs
      exact hs
    | succ j ih =>
      intro hj
      have hj' : j < 16 := by omega
      have hx := inv_next x0 (keys x1 j) (vals x2 (2 * j)) (vals x2 (2 * j + 1)) h r (fun t => σ (j * 512 + t.val))
        (fun e t => ν e (j * 512 + t.val)) _ _ _ (hk j hj') (h0 j hj') (h1 j hj') (ih (by omega))
      simp only [← sum_next j 512, ← add_assoc]
      exact hx
  have hl := hf n le_rfl
  rw [sum_tile (n * 512) 512 r.val r.isLt (weight σ)] at hl
  have hm : (fun e => (∑ t : Fin 512, if t.val ≤ r.val then ν e (n * 512 + t.val) * weight σ (n * 512 + t.val) else 0)
        + ∑ k ∈ Finset.range (n * 512), ν e k * weight σ k) = fun e => mixed σ (ν e) (n * 512 + r.val) :=
    funext fun e => sum_tile (n * 512) 512 r.val r.isLt (fun k => ν e k * weight σ k)
  rw [hm] at hl
  exact hl

/-- The output block at a row and a column, from the columns of its row. -/
theorem finish_at (x3 : Vec Ideal S8x256x512 .bf16) (s : St Ideal) (r n : Fin 512) (Z : Fin 8 → ℝ) (N : Fin 8 → Fin 256 → ℝ)
    (w : Fin 256 → EReal) (hZ : ∀ g, 0 < Z g) (hI : ∀ g, Inv s (col g r) (Z g) (N g))
    (hw : ∀ (g : Fin 8) (x : Fin 256), x3 (ix3 g x n) = if n.val / 64 = g.val then w x else 0) :
    finish x3 s (ix2 r n) = ∑ x, ((N ⟨n.val / 64, by omega⟩ x / Z ⟨n.val / 64, by omega⟩ : ℝ) : EReal) * w x := by
  have hd : ∀ (g : Fin 8) (l : Fin 4096), l = col g r → ∑ x : Fin 256, Ideal.div (s.2.2 (ix3 0 x l)) (s.2.1 (ix3 0 0 l)) * x3 (ix3 g x n)
      = if n.val / 64 = g.val then ∑ x : Fin 256, ((N g x / Z g : ℝ) : EReal) * w x else 0 := by
    rintro g l rfl
    obtain ⟨μ, _, hl, hacc⟩ := hI g
    simp only [hl, hacc, hw, quot _ _ μ (hZ g)]
    split
    · rfl
    · simp only [mul_zero, Finset.sum_const_zero]
  have hp : finish x3 s (ix2 r n) = ∑ g : Fin 8, if n.val / 64 = g.val then ∑ x : Fin 256, ((N g x / Z g : ℝ) : EReal) * w x else 0 := by
    rw [Fin.sum_univ_eight, ← hd 0 ⟨r.val, by omega⟩ (Fin.ext (show r.val = 0 * 512 + r.val by omega)), ← hd 1 ⟨512 + r.val, by omega⟩ rfl,
      ← hd 2 ⟨1024 + r.val, by omega⟩ rfl, ← hd 3 ⟨1536 + r.val, by omega⟩ rfl, ← hd 4 ⟨2048 + r.val, by omega⟩ rfl,
      ← hd 5 ⟨2560 + r.val, by omega⟩ rfl, ← hd 6 ⟨3072 + r.val, by omega⟩ rfl, ← hd 7 ⟨3584 + r.val, by omega⟩ rfl]
    pointwise [finish, k0_pay32, k0_pay31, k0_pay30, k0_pay29, proj]
  rw [hp, Finset.sum_eq_single (⟨n.val / 64, by omega⟩ : Fin 8)]
  · rw [if_pos rfl]
  · intro g _ hg
    rw [if_neg fun h => hg (Fin.ext h.symm)]
  · intro h
    exact absurd (Finset.mem_univ _) h

end Cert.KernelIdeal.Attn
-- ==== Proof.Out.lean ====
/-
  The kernel's output: every block is the attention of its queries.
-/
module

public import proofs.«01_k».proof.Proof.Blocks
public import proofs.«01_k».proof.Proof.Tiles

@[expose] public section

set_option maxRecDepth 16384

noncomputable section

namespace Cert.KernelIdeal.Attn

open Cert.KernelIdeal Cert.KernelIdeal.Gen Cert.KernelIdeal.Value Idealize.ShloMosaic Idealize.ShloMosaic.TcCoe Idealize.ShloMosaic.Tactic
open Cert.Online

/-- The 384 lanes: the latent's, the rotary part's and the unused ones. -/
theorem sum_lanes (f : Fin 384 → EReal) :
    ∑ d, f d = ∑ d : Fin 256, f ⟨d.val, by omega⟩ + ∑ d : Fin 32, f ⟨256 + d.val, by omega⟩ + ∑ d : Fin 96, f ⟨288 + d.val, by omega⟩ := by
  rw [show (∑ d : Fin 384, f d) = ∑ d : Fin (288 + 96), f d from rfl, Fin.sum_univ_add]
  refine congrArg₂ (· + ·) ?_ rfl
  rw [show (∑ d : Fin 288, f (Fin.castAdd 96 d)) = ∑ d : Fin (256 + 32), f (Fin.castAdd 96 d) from rfl, Fin.sum_univ_add]
  rfl

variable (m : (ℓ : Loc nD τ sig) → Buf (Elt Ideal) ℓ) (c : Dev nD)
variable (Q : Fin 2 → Fin 8192 → Fin 8 → Fin 256 → ℝ) (R : Fin 2 → Fin 8192 → Fin 8 → Fin 32 → ℝ) (C : Fin 2 → Fin 8192 → Fin 256 → ℝ)
  (K : Fin 2 → Fin 8192 → Fin 32 → ℝ)
variable (h0 : ∀ b q h d, qLat m c (ix4 b q h d) = ((Q b q h d : ℝ) : EReal)) (h1 : ∀ b q h d, qRope m c (ix4 b q h d) = ((R b q h d : ℝ) : EReal))
  (h2 : ∀ b k d, lat m c (ix3 b k d) = ((C b k d : ℝ) : EReal)) (h3 : ∀ b k d, kRope m c (ix3 b k d) = ((K b k d : ℝ) : EReal))

/-- The queries, the keys, and the blocks of a point, at the shapes they have. -/
abbrev qArr : S8x16384x384.Idx → EReal := V m c main_v4
abbrev kArr : S16384x384.Idx → EReal := V m c main_v8
abbrev qBlk (t : Fin cfg0.N) : Vec Ideal S8x512x384 .bf16 := iblk m c 0 t
abbrev kBlk (t : Fin cfg0.N) : Vec Ideal S8192x384 .bf16 := iblk m c 1 t
abbrev vBlk (t : Fin cfg0.N) : Vec Ideal S32x256x256 .bf16 := iblk m c 2 t
abbrev wBlk (t : Fin cfg0.N) : Vec Ideal S8x256x512 .bf16 := iblk m c 3 t

include h0 h1 h2 h3 in
/-- A key's product with a query, over all lanes. -/
theorem dot_at (b : Fin 2) (h : Fin 8) (q k : Fin 8192) :
    ∑ d, kArr m c (ix2 ⟨b.val * 8192 + k.val, by omega⟩ d) * qArr m c (ix3 h ⟨b.val * 8192 + q.val, by omega⟩ d)
      = ((score Q R C K b h q k.val : ℝ) : EReal) := by
  have hk : Fin.ofNat 8192 k.val = k := Fin.ext (Nat.mod_eq_of_lt k.isLt)
  refine Eq.trans (Finset.sum_congr rfl fun d _ => congrArg₂ (· * ·) (key_at m c b k d) (query_at m c h b q d)) ?_
  rw [sum_lanes]
  have e0 : ∀ d : Fin 256, d.val < 256 := fun d => d.isLt
  have e1 : ∀ d : Fin 32, ¬ 256 + d.val < 256 := fun d => by omega
  have e2 : ∀ d : Fin 32, 256 + d.val - 256 < 32 := fun d => by omega
  have e3 : ∀ d : Fin 96, ¬ 288 + d.val < 256 := fun d => by omega
  have e4 : ∀ d : Fin 96, ¬ 288 + d.val - 256 < 32 := fun d => by omega
  have e5 : ∀ (d : Fin 32) (hlt), (⟨256 + d.val - 256, hlt⟩ : Fin 32) = d := fun d _ => Fin.ext (show 256 + d.val - 256 = d.val by omega)
  simp only [e0, e1, e2, e3, e4, e5, dif_pos, dif_neg, not_false_eq_true, Fin.eta, h0, h1, h2, h3, mul_zero, Finset.sum_const_zero, add_zero,
    ← EReal.coe_mul, coe_sum, ← EReal.coe_add]
  unfold score
  rw [hk]

include h0 h1 h2 h3 in
/-- The kernel's output. -/
theorem output_at : (dats m 0 c).arrAt 4 cfg0.N = fun i : S16384x512.Idx =>
    attended Q R C K (fun e h v => wUv m c (ix3 e h v)) ⟨(i 0).val / 8192, by have h : (i 0).val < 16384 := (i 0).isLt; omega⟩
      ⟨(i 0).val % 8192, Nat.mod_lt _ (by decide)⟩ (i 1) := by
  refine output_eq m c _ fun t r n => ?_
  have ht := points t
  have hi := tile_of t
  obtain ⟨b, hb⟩ : ∃ b : Fin 2, b.val = t.val / 16 := ⟨⟨t.val / 16, by omega⟩, rfl⟩
  obtain ⟨q, hq⟩ : ∃ q : Fin 8192, q.val = t.val % 16 * 512 + r.val := ⟨⟨t.val % 16 * 512 + r.val, by omega⟩, rfl⟩
  have ha : ∀ (g : Fin 8) (k : ℕ), k < 8192 → ∑ d, kBlk m c t (ix2 (Fin.ofNat 8192 k) d)
      * qBlk m c t (ix3 g r d) = ((score Q R C K b g q k : ℝ) : EReal) := by
    intro g k hk
    refine Eq.trans (Finset.sum_congr rfl fun d _ => ?_) ((dot_at m c Q R C K h0 h1 h2 h3 b g q ⟨k, hk⟩))
    have hkk : (Fin.ofNat 8192 k).val = k := Nat.mod_eq_of_lt hk
    have eK : t.val / 16 * 8192 + (Fin.ofNat 8192 k).val = b.val * 8192 + k := by rw [hkk, hb]
    have eQ : t.val * 512 + r.val = b.val * 8192 + q.val := by omega
    have ek := key_blk m c t (Fin.ofNat 8192 k) d
    have eq := query_blk m c t g r d
    refine congrArg₂ (· * ·) (ek.trans (congrArg (V m c main_v8) ?_)) (eq.trans (congrArg (V m c main_v4) ?_))
    · exact congrArg (fun z => ix2 z d) (Fin.ext eK)
    · exact congrArg (fun z => ix3 g z d) (Fin.ext eQ)
  have hv : ∀ (j : ℕ) (e x : Fin 256), j < 32 → vBlk m c t (ix3 (Fin.ofNat 32 j) e x)
      = ((latent C b e (j * 256 + x.val) : ℝ) : EReal) := by
    intro j e x hj
    refine (value_blk m c t (Fin.ofNat 32 j) e x).trans ((value_at m c _ e x).trans ((h2 _ _ _).trans ?_))
    unfold latent
    congr 2
    · exact Fin.ext (show (t.val / 16 * 32 + j % 32) / 32 = b.val by omega)
    · exact Fin.ext (show (t.val / 16 * 32 + j % 32) % 32 * 256 + x.val = (j * 256 + x.val) % 8192 by omega)
  have hw : ∀ (g : Fin 8) (x : Fin 256), wBlk m c t (ix3 g x n)
      = if n.val / 64 = g.val then wUv m c (ix3 x ⟨n.val / 64, by omega⟩ ⟨n.val % 64, Nat.mod_lt _ (by decide)⟩) else 0 := by
    intro g x
    refine (proj_blk m c t g x n).trans ((proj_at m c g x n).trans ?_)
    by_cases hg : n.val / 64 = g.val
    · rw [if_pos hg, if_pos hg]
      congr 2
      exact Fin.ext hg.symm
    · rw [if_neg hg, if_neg hg]
  refine (congrFun (out_eq c (grid0.coords t) _ _ _ _ _ _ _ _ _ _ _ _ _ _ _ _ (qBlk m c t) (kBlk m c t) (vBlk m c t) (wBlk m c t)) (ix2 r n)).trans ?_
  refine (finish_at (wBlk m c t) _ r n (fun g => total (score Q R C K b g q) q.val) (fun g e => mixed (score Q R C K b g q) (latent C b e) q.val)
    (fun x => wUv m c (ix3 x ⟨n.val / 64, by omega⟩ ⟨n.val % 64, Nat.mod_lt _ (by decide)⟩)) (fun g => total_pos _ _) (fun g => ?_) hw).trans ?_
  rotate_left
  · have eb : (⟨(t.val * 512 + r.val) / 8192, by omega⟩ : Fin 2) = b := Fin.ext (show (t.val * 512 + r.val) / 8192 = b.val by omega)
    have e8 : (⟨(t.val * 512 + r.val) % 8192, Nat.mod_lt _ (by decide)⟩ : Fin 8192) = q :=
      Fin.ext (show (t.val * 512 + r.val) % 8192 = q.val by omega)
    show _ = attended Q R C K (fun e h v => wUv m c (ix3 e h v)) ⟨(t.val * 512 + r.val) / 8192, _⟩ ⟨(t.val * 512 + r.val) % 8192, _⟩ n
    rw [eb, e8]
    rfl
  · have hf := inv_fold (grid0.coords t) (qBlk m c t) (kBlk m c t) (vBlk m c t) g r ((grid0.coords t) 1).val ((grid0.coords t) 1).isLt
      (score Q R C K b g q) (fun e => latent C b e) (ha g) hv
    rw [show ((grid0.coords t) 1).val * 512 + r.val = q.val by rw [hi, hq]] at hf
    exact hf

end Cert.KernelIdeal.Attn
-- ==== Proof.Ref.lean ====
/-
  The reference at an index: its softmax over the keys a query is shown, with the maximum cancelling out.
-/
module

public import proofs.«01_k».proof.Proof.Shown
public import proofs.«01_k».proof.Proof.Gen.ReferenceIdeal.Read
public import Idealize.ShloMosaic.Lib.KernelVsHost
public import Idealize.ShloMosaic.Lib.WordCmp
public import Idealize.ShloMosaic.Lib.Pointwise

@[expose] public section

set_option maxRecDepth 16384

noncomputable section

namespace Cert.ReferenceIdeal.Attn

open Cert.ReferenceIdeal Cert.ReferenceIdeal.Gen Cert.ReferenceIdeal.Read Idealize.ShloMosaic Idealize.ShloMosaic.TcCoe Idealize.ShloMosaic.Tactic
open Cert.Online

theorem neg_inf : (Ideal.ofBits .f32 0xFF800000#32 : EReal) = ⊥ := by decide +kernel

theorem ninety_six : Ideal.ofBits .f32 0x42C00000#32 = ((96 : ℝ) : EReal) := by
  simp [Ideal.ofBits, Ideal.ieee, -EReal.coe_mul]; norm_num

/-- The greatest score of a query. -/
theorem top_at (x : FVec Ideal S2x8x8192x8192 .f32) (b : Fin 2) (h : Fin 8) (q : Fin 8192) :
    Host.reduce FloatOps.maximumf x (constant (F := Ideal) S_ .f32 0xFF800000#32) reducesTo_S2x8x8192x8192_S2x8x8192_d3 h_S_ (ix3 b h q)
      = Finset.univ.fold max ⊥ (fun k : Fin 8192 => x (ix4 b h q k)) := by
  rw [hostReduce_maximumf_eq_multiReduction x 0xFF800000#32 reducesTo_S2x8x8192x8192_S2x8x8192_d3 h_S_ (by decide) (by decide) rfl]
  pointwise []
  rw [neg_inf]

variable (x0 : S2x8192x8x256.Idx → EReal) (x1 : S2x8192x8x32.Idx → EReal) (x2 : S2x8192x256.Idx → EReal) (x3 : S2x8192x32.Idx → EReal)
  (x4 : S256x8x64.Idx → EReal)
variable (Q : Fin 2 → Fin 8192 → Fin 8 → Fin 256 → ℝ) (R : Fin 2 → Fin 8192 → Fin 8 → Fin 32 → ℝ) (C : Fin 2 → Fin 8192 → Fin 256 → ℝ)
  (K : Fin 2 → Fin 8192 → Fin 32 → ℝ)
variable (h0 : ∀ b q h d, x0 (ix4 b q h d) = ((Q b q h d : ℝ) : EReal)) (h1 : ∀ b q h d, x1 (ix4 b q h d) = ((R b q h d : ℝ) : EReal))
  (h2 : ∀ b k d, x2 (ix3 b k d) = ((C b k d : ℝ) : EReal)) (h3 : ∀ b k d, x3 (ix3 b k d) = ((K b k d : ℝ) : EReal))

include h0 h1 h2 h3 in
/-- A scaled score, hidden where the key comes after the query. -/
theorem scores_at (b : Fin 2) (h : Fin 8) (q k : Fin 8192) :
    val_main_v14 (F := Ideal) x0 x1 x2 x3 (ix4 b h q k) = masked (k.val ≤ q.val) (score Q R C K b h q k.val * (Real.sqrt 96)⁻¹) := by
  have hs : (Real.sqrt 96 : ℝ) ≠ 0 := (Real.sqrt_pos.2 (by norm_num)).ne'
  have hk : Fin.ofNat 8192 k.val = k := Fin.ext (Nat.mod_eq_of_lt k.isLt)
  pointwise [val_main_v14, val_main_v13, val_main_v12, val_main_v11, val_main_v10, val_main_v9, val_main_v8, val_main_v7, val_main_v6, val_main_v5, val_main_v4, val_main_v3, val_main_v2, val_main_v1, val_main_v0, val_main_call0_v0, val_main_call0_v1, val_main_call0_v2, val_main_cst, val_main_cst_0]
  simp only [h0, h1, h2, h3, ← EReal.coe_mul, coe_sum, ← EReal.coe_add]
  rw [ninety_six, Ideal.sqrt_coe, if_neg (by norm_num), Ideal.div_coe hs, WordCmp.cmpi_sle_ofNat (by omega) (by omega),
    show id (constant (F := Ideal) S_ FTy.f32 0xFF800000#32) ix0 = (⊥ : EReal) from neg_inf, ← EReal.coe_mul, one_div]
  unfold masked score
  rw [hk]
  by_cases hq : k.val ≤ q.val
  · rw [if_pos hq, decide_eq_true hq]; rfl
  · rw [if_neg hq, decide_eq_false hq]; rfl

include h0 h1 h2 h3 in
/-- The greatest score shown is a real number. -/
theorem greatest (b : Fin 2) (h : Fin 8) (q : Fin 8192) :
    ∃ μ : ℝ, val_main_v15 (F := Ideal) x0 x1 x2 x3 (ix3 b h q) = (μ : EReal) := by
  obtain ⟨μ, hμ⟩ := fold_masked (fun k : Fin 8192 => k.val ≤ q.val) (fun k => score Q R C K b h q k.val * (Real.sqrt 96)⁻¹) q le_rfl
  refine ⟨μ, (top_at (val_main_v14 (F := Ideal) x0 x1 x2 x3) b h q).trans (Eq.trans ?_ hμ)⟩
  exact congrArg (fun f => Finset.univ.fold max ⊥ f) (funext fun k => scores_at x0 x1 x2 x3 Q R C K h0 h1 h2 h3 b h q k)

/-- Where an exponential reads the greatest score. -/
theorem row_of (b : Fin 2) (h : Fin 8) (q k : Fin 8192) : idx_main_v18 (idx_main_v19 (ix4 b h q k)) = ix3 b h q :=
  funext fun a => match a with
    | ⟨0, _⟩ => rfl
    | ⟨1, _⟩ => rfl
    | ⟨2, _⟩ => rfl

include h0 h1 h2 h3 in
/-- The exponentials, all with the same maximum taken off. -/
theorem exps_at (b : Fin 2) (h : Fin 8) (q : Fin 8192) :
    ∃ μ : ℝ, ∀ k : Fin 8192, val_main_v21 (F := Ideal) x0 x1 x2 x3 (ix4 b h q k)
      = (((if k.val ≤ q.val then weight (score Q R C K b h q) k.val else 0) * Real.exp (-μ) : ℝ) : EReal) := by
  obtain ⟨μ, hμ⟩ := greatest x0 x1 x2 x3 Q R C K h0 h1 h2 h3 b h q
  refine ⟨μ, fun k => ?_⟩
  rw [val_main_v21_apply, val_main_v20_apply, val_main_v19_apply, val_main_v18_apply, row_of, val_main_v17_apply, val_main_v16_apply,
    val_main_cst_2_apply, hμ, scores_at x0 x1 x2 x3 Q R C K h0 h1 h2 h3 b h q k]
  have hm : FloatOps.maximumf (F := Ideal) (FloatOps.ofBits .f32 0xFF800000#32) (μ : EReal) = (μ : EReal) :=
    (congrArg (fun z => max z (μ : EReal)) neg_inf).trans (max_eq_right bot_le)
  rw [hm]
  exact exp_masked _ _ _

include h0 h1 h2 h3 in
/-- A key's share. -/
theorem share_at (b : Fin 2) (h : Fin 8) (q k : Fin 8192) :
    val_main_v25 (F := Ideal) x0 x1 x2 x3 (ix4 b h q k)
      = (((if k.val ≤ q.val then weight (score Q R C K b h q) k.val else 0) / total (score Q R C K b h q) q.val : ℝ) : EReal) := by
  obtain ⟨μ, hμ⟩ := exps_at x0 x1 x2 x3 Q R C K h0 h1 h2 h3 b h q
  have hz : val_main_v22 (F := Ideal) x0 x1 x2 x3 (ix3 b h q) = ((total (score Q R C K b h q) q.val * Real.exp (-μ) : ℝ) : EReal) := by
    pointwise [val_main_v22, val_main_cst_3]
    simp only [hμ, coe_sum, ← Finset.sum_mul]
    rw [sum_shown 8192 q.val q.isLt]
    rfl
  pointwise [val_main_v25, val_main_v24, val_main_v23]
  rw [hμ, hz, quot _ _ μ (total_pos _ _)]

include h0 h1 h2 h3 in
/-- The mixed latents over the total weight. -/
theorem mixed_at (b : Fin 2) (h : Fin 8) (q : Fin 8192) (e : Fin 256) :
    val_main_v27 (F := Ideal) x0 x1 x2 x3 (ix4 b q h e)
      = ((mixed (score Q R C K b h q) (latent C b e) q.val / total (score Q R C K b h q) q.val : ℝ) : EReal) := by
  have hk : ∀ k : Fin 8192, Fin.ofNat 8192 k.val = k := fun k => Fin.ext (Nat.mod_eq_of_lt k.isLt)
  pointwise [val_main_v27, val_main_v26]
  simp only [share_at x0 x1 x2 x3 Q R C K h0 h1 h2 h3, h2, ← EReal.coe_mul, coe_sum]
  congr 1
  unfold mixed
  rw [← sum_shown 8192 q.val q.isLt, Finset.sum_div]
  refine Finset.sum_congr rfl fun k _ => ?_
  unfold latent
  rw [hk]
  split
  · rw [mul_div_assoc]
  · rw [zero_div, mul_zero]

include h0 h1 h2 h3 in
/-- The reference's result. -/
theorem result_at (b : Fin 2) (q : Fin 8192) (n : Fin 512) :
    val_main_v30 (F := Ideal) x0 x1 x2 x3 x4 (ix2 ⟨b.val * 8192 + q.val, by omega⟩ n)
      = attended Q R C K (fun e h v => x4 (ix3 e h v)) b q n := by
  pointwise [val_main_v30, val_main_v29, val_main_v28]
  unfold attended
  refine Finset.sum_congr rfl fun e _ => ?_
  rw [mul_comm]
  rw [mixed_at x0 x1 x2 x3 Q R C K h0 h1 h2 h3]

end Cert.ReferenceIdeal.Attn
-- ==== Proof.Finite.lean ====
/-
  What the precondition says: the queries, the keys and the latents are real numbers.
-/
module

public import proofs.«01_k».proof.Defs
public import proofs.«01_k».proof.Proof.Gen.Pre_finite
public import Idealize.ShloMosaic.Lib.ReduceAll
public import Idealize.ShloMosaic.Lib.Pointwise

@[expose] public section

noncomputable section

namespace Cert.Pre_finite.Attn

open Cert.Pre_finite Cert.Pre_finite.Gen Idealize.ShloMosaic Idealize.ShloMosaic.TcCoe Idealize.ShloMosaic.Tactic

theorem pos_inf : (Ideal.ofBits .f32 0x7F800000#32 : EReal) = ⊤ := by decide +kernel

theorem and_one : ∀ a b : BitVec 1, IntOp.andi a b = 1#1 → a = 1#1 ∧ b = 1#1 := by decide

/-- An extended real whose magnitude is less than infinity is a real number. -/
theorem real_of_lt (x : EReal) (h : max x (-x) < ⊤) : ∃ r : ℝ, x = (r : EReal) := by
  induction x with
  | bot => simp at h
  | top => simp at h
  | coe r => exact ⟨r, rfl⟩

/-- One array of the precondition. -/
theorem real_at {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) hr hu j = 1#1) (i : s.Idx) : ∃ r : ℝ, x i = (r : EReal) := by
  have h := Host.reduce_andi_all _ _ _ _ j e i
  have h' : BitVec.ofBool (decide (max (x i) (-(x i)) < Ideal.ofBits .f32 0x7F800000#32)) = 1#1 := h
  rw [pos_inf] at h'
  refine real_of_lt _ ?_
  by_contra hn
  rw [decide_eq_false hn] at h'
  exact absurd h' (by decide)

theorem all_real (x0 : FVec Ideal S2x8192x8x256 .f32) (x1 : FVec Ideal S2x8192x8x32 .f32) (x2 : FVec Ideal S2x8192x256 .f32)
    (x3 : FVec Ideal S2x8192x32 .f32) (x4 : FVec Ideal S256x8x64 .f32) (h : fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ ∀ i, ∃ r : ℝ, x3 i = (r : EReal) := by
  have h' := congrFun h (Shape.Idx.first h_S_)
  obtain ⟨h123, e3⟩ := and_one _ _ h'
  obtain ⟨h12, e2⟩ := and_one _ _ h123
  obtain ⟨e0, e1⟩ := and_one _ _ h12
  exact ⟨real_at x0 _ _ _ _ e0, real_at x1 _ _ _ _ e1, real_at x2 _ _ _ _ e2, real_at x3 _ _ _ _ e3⟩

end Cert.Pre_finite.Attn
-- ==== Proof.Prompt.lean ====
/-
  The claims about the latent attention over the prompt.
-/
module

public import proofs.«01_k».proof.Defs
public import proofs.«01_k».proof.Proof.Gen.Kernel
public import proofs.«01_k».proof.Proof.Gen.Kernel.Frame
public import proofs.«01_k».proof.Proof.Gen.ReferenceIdeal.Run
public import proofs.«01_k».proof.Proof.Out
public import proofs.«01_k».proof.Proof.Ref
public import proofs.«01_k».proof.Proof.Finite

@[expose] public section

set_option maxRecDepth 16384

noncomputable section

namespace Cert.Prompt

open Idealize.ShloMosaic Idealize.ShloMosaic.TcCoe Idealize.SL.Sem Idealize.ShloMosaic.Tactic
open Cert.Online

theorem frame_p : Cert.quiescent_Kernel := fun m ρ _ => Cert.Kernel.Gen.frame m ρ

theorem frame_pi : Cert.quiescent_KernelIdeal := fun m ρ _ => Cert.KernelIdeal.Gen.frame m ρ

theorem frame_pi_finite : Cert.quiescent_KernelIdeal_pre_finite := fun m ρ _ => Cert.KernelIdeal.Gen.frame m ρ

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ri_finite : Cert.quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal :=
  ⟨IdealRules.named_const.statement Cert.KernelIdeal.κ "scale" .f32 0x3DD105EC#32 (((Real.sqrt 96)⁻¹ : ℝ) : EReal) rfl,
   IdealRules.named_const.statement Cert.KernelIdeal.κ "mask" .f32 0xF149F2CA#32 ⊥ rfl⟩

/-- One array, read both ways: the reference's result is the kernel's output. -/
theorem same (m : (ℓ : Loc Cert.KernelIdeal.nD Cert.KernelIdeal.τ Cert.KernelIdeal.sig) → Buf (Elt Ideal) ℓ) (c : Dev Cert.KernelIdeal.nD)
    (hp : Cert.Pre_finite.fn (F := Ideal) (Cert.KernelIdeal.Attn.qLat m c) (Cert.KernelIdeal.Attn.qRope m c) (Cert.KernelIdeal.Attn.lat m c)
      (Cert.KernelIdeal.Attn.kRope m c) (Cert.KernelIdeal.Attn.wUv m c) = fun _ => 1#1) :
    (Cert.ReferenceIdeal.Read.val_main_v30 (F := Ideal) (Cert.KernelIdeal.Attn.qLat m c) (Cert.KernelIdeal.Attn.qRope m c)
        (Cert.KernelIdeal.Attn.lat m c) (Cert.KernelIdeal.Attn.kRope m c) (Cert.KernelIdeal.Attn.wUv m c) : Cert.ReferenceIdeal.S16384x512.Idx → EReal)
      = (Cert.KernelIdeal.Gen.dats m 0 c).arrAt 4 Cert.KernelIdeal.cfg0.N := by
  obtain ⟨r0, r1, r2, r3⟩ := Cert.Pre_finite.Attn.all_real _ _ _ _ _ hp
  choose Q hQ using r0
  choose R hR using r1
  choose C hC using r2
  choose K hK using r3
  refine Eq.trans (funext fun i => ?_) (Cert.KernelIdeal.Attn.output_at m c (fun b q h d => Q (ix4 b q h d)) (fun b q h d => R (ix4 b q h d))
    (fun b k d => C (ix3 b k d)) (fun b k d => K (ix3 b k d)) (fun b q h d => hQ _) (fun b q h d => hR _) (fun b k d => hC _) (fun b k d => hK _)).symm
  have hi : (i 0).val < 16384 := (i 0).isLt
  have e : i = ix2 ⟨(i 0).val / 8192 * 8192 + (i 0).val % 8192, by omega⟩ (i 1) := funext fun a => match a with
    | ⟨0, _⟩ => Fin.ext (Nat.div_add_mod' _ _).symm
    | ⟨1, _⟩ => rfl
  refine (congrArg _ e).trans ?_
  exact Cert.ReferenceIdeal.Attn.result_at _ _ _ _ _ (fun b q h d => Q (ix4 b q h d)) (fun b q h d => R (ix4 b q h d))
    (fun b k d => C (ix3 b k d)) (fun b k d => K (ix3 b k d)) (fun b q h d => hQ _) (fun b q h d => hR _) (fun b k d => hC _) (fun b k d => hK _)
    ⟨(i 0).val / 8192, by omega⟩ ⟨(i 0).val % 8192, by omega⟩ (i 1)

theorem algebraic : Cert.algebraic_KernelIdeal_ReferenceIdeal_pre_finite := by
  intro m g m' g' hp hm
  refine ⟨fun c => (Cert.KernelIdeal.Gen.dats m 0 c).arrAt 4 Cert.KernelIdeal.cfg0.N, Cert.KernelIdeal.Value.run_blocks (F := Ideal) m g, ?_⟩
  refine (θ_run Cert.ReferenceIdeal.defs _ _).mono (fun r h c => ⟨(h c).1.trans ?_, (h c).2⟩) (Cert.ReferenceIdeal.Value.run (F := Ideal) m' g')
  obtain ⟨e0, e1, e2, e3, e4⟩ := hm c
  rw [Cert.ReferenceIdeal.Read.val_main_v30_eq, e0, e1, e2, e3, e4]
  exact same m c (hp c)

end Cert.Prompt
-- ==== Proof.Rows.lean ====
/-
  The mathematics of one row of the merge step: its root mean square norm, a branch under its two gates, and the sum of
  the branches through the output weights.
-/
module

public import Idealize.ShloMosaic.Lib.Pointwise

@[expose] public section

noncomputable section

namespace Cert.Rows

open Idealize.ShloMosaic

/-- A row over its root mean square, times the gains. -/
def norm (x g : Fin 1024 → EReal) (d : Fin 1024) : EReal :=
  x d * Ideal.rsqrt (Ideal.div (∑ k, x k * x k) (Ideal.ofBits .f32 0x44800000#32) + Ideal.ofBits .f32 0x358637BD#32) * g d

/-- The logistic function. -/
def gate (z : EReal) : EReal := Ideal.div 1 (1 + Ideal.exp (-z))

/-- A row times a matrix. -/
def times {n p : ℕ} (h : Fin n → EReal) (w : Fin n → Fin p → EReal) (d : Fin p) : EReal := ∑ k, h k * w k d

/-- One branch: its values under the inner gate, through its weights, under the outer gate. -/
def branch (h : Fin 1024 → EReal) (wz : Fin 1024 → Fin 512 → EReal) (wg : Fin 1024 → Fin 1024 → EReal) (o : Fin 512 → EReal)
    (w : Fin 512 → Fin 1024 → EReal) (d : Fin 1024) : EReal :=
  gate (times h wg d) * times (fun n => o n * (times h wz n * gate (times h wz n))) w d

/-- A row of the merge step, normed at the end. -/
def merged (x g : Fin 1024 → EReal) (wz : Fin 4 → Fin 1024 → Fin 512 → EReal) (wg : Fin 4 → Fin 1024 → Fin 1024 → EReal)
    (o : Fin 4 → Fin 512 → EReal) (w : Fin 4 → Fin 512 → Fin 1024 → EReal) (wo : Fin 1024 → Fin 1024 → EReal) (f : Fin 1024 → EReal) :
    Fin 1024 → EReal :=
  norm (fun d => x d + times (fun k => ∑ b, branch (norm x g) (wz b) (wg b) (o b) (w b) k) wo d) f

end Cert.Rows
-- ==== Proof.CacheBlocks.lean ====
/-
  The memory's keys and values: what the host code hands over, what the one grid point computes, and the two arrays that come out.
-/
module

public import proofs.«01_k».proof.Proof.Rows
public import proofs.«01_k».proof.Proof.Gen.KeysIdeal.Value
public import Idealize.ShloMosaic.Lib.StableHlo.ReadAt

@[expose] public section

set_option maxRecDepth 16384

noncomputable section

namespace Cert.KeysIdeal.Body

open Cert.KeysIdeal Cert.KeysIdeal.Gen Cert.KeysIdeal.Value Idealize.ShloMosaic Idealize.ShloMosaic.TcCoe Idealize.ShloMosaic.Tactic
open Cert.Rows

theorem hz2 : (![0, 0] : Fin 2 → ℕ) = fun _ => 0 := funext fun a => match a with | ⟨0, _⟩ => rfl | ⟨1, _⟩ => rfl

/-- A row's keys, left, and values, right. -/
theorem both_at (x : Vec Ideal S512x1024 .f32) (g : Vec Ideal S1x1024 .f32) (w : Vec Ideal S1024x1024 .bf16) (r : Fin 512) (d : Fin 1024) :
    k0_pay1 x g w (ix2 r d) = times (norm (fun k => x (ix2 r k)) (fun k => g (ix2 0 k))) (fun k d => w (ix2 k d)) d := by
  pointwise [k0_pay1]
  rfl

theorem left_at (x : Vec Ideal S512x1024 .f32) (g : Vec Ideal S1x1024 .f32) (w : Vec Ideal S1024x1024 .bf16) (r d : Fin 512) :
    out0_3 x g w (ix2 r d) = times (norm (fun k => x (ix2 r k)) (fun k => g (ix2 0 k))) (fun k d => w (ix2 k d)) ⟨d.val, by omega⟩ := by
  unfold out0_3
  rw [View.canon_unit_zero hz2, View.ld_unit_zero hz2 _ _, View.ld_unit_zero hz2 _ _, View.ld_unit_zero hz2 _ _]
  refine Eq.trans ?_ (both_at x g w r _)
  show k0_pay1 x g w _ = k0_pay1 x g w _
  congr 1
  funext a
  apply Fin.ext
  match a with
  | ⟨0, _⟩ => show 0 + r.val = r.val; omega
  | ⟨1, _⟩ => show 0 + d.val = d.val; omega

theorem right_at (x : Vec Ideal S512x1024 .f32) (g : Vec Ideal S1x1024 .f32) (w : Vec Ideal S1024x1024 .bf16) (r d : Fin 512) :
    out0_4 x g w (ix2 r d) = times (norm (fun k => x (ix2 r k)) (fun k => g (ix2 0 k))) (fun k d => w (ix2 k d)) ⟨512 + d.val, by omega⟩ := by
  unfold out0_4
  rw [View.canon_unit_zero hz2, View.ld_unit_zero hz2 _ _, View.ld_unit_zero hz2 _ _, View.ld_unit_zero hz2 _ _]
  refine Eq.trans ?_ (both_at x g w r _)
  show k0_pay1 x g w _ = k0_pay1 x g w _
  congr 1
  funext a
  apply Fin.ext
  match a with
  | ⟨0, _⟩ => show 0 + r.val = r.val; omega
  | ⟨1, _⟩ => show 512 + d.val = 512 + d.val; rfl

variable (m : (ℓ : Loc nD τ sig) → Buf (Elt Ideal) ℓ) (c : Dev nD)

/-- The arguments. -/
abbrev a0 : S2x256x1024.Idx → EReal := m ((c : Thread nD τ).loc main_arg0)
abbrev a1 : S1024.Idx → EReal := m ((c : Thread nD τ).loc main_arg1)
abbrev a2 : S1024x1024.Idx → EReal := m ((c : Thread nD τ).loc main_arg2)

theorem rows_at (t : Fin 512) (k : Fin 1024) :
    V m c main_v0 (ix2 t k) = a0 m c (ix3 ⟨t.val / 256, by omega⟩ ⟨t.val % 256, Nat.mod_lt _ (by decide)⟩ k) := by
  unfold V hostOps0
  after_reads_at

theorem gains_at (k : Fin 1024) : V m c main_v1 (ix2 0 k) = a1 m c (ix1 k) := by
  unfold V hostOps0
  after_reads_at

theorem weights_at (k d : Fin 1024) : V m c main_v2 (ix2 k d) = a2 m c (ix2 k d) := by
  unfold V hostOps0
  after_reads_at

theorem idx0 : ∀ t : Fin cfg0.N, win0_0.index t 0 = 0 ∧ win0_0.index t 1 = 0 :=
  (by decide +kernel : ∀ t : Fin grid0.N, win0_0.index t 0 = 0 ∧ win0_0.index t 1 = 0)

theorem idx1 : ∀ t : Fin cfg0.N, win0_1.index t 0 = 0 ∧ win0_1.index t 1 = 0 :=
  (by decide +kernel : ∀ t : Fin grid0.N, win0_1.index t 0 = 0 ∧ win0_1.index t 1 = 0)

theorem idx2 : ∀ t : Fin cfg0.N, win0_2.index t 0 = 0 ∧ win0_2.index t 1 = 0 :=
  (by decide +kernel : ∀ t : Fin grid0.N, win0_2.index t 0 = 0 ∧ win0_2.index t 1 = 0)

theorem idx3 : ∀ t : Fin cfg0.N, win0_3.index t 0 = 0 ∧ win0_3.index t 1 = 0 :=
  (by decide +kernel : ∀ t : Fin grid0.N, win0_3.index t 0 = 0 ∧ win0_3.index t 1 = 0)

theorem idx4 : ∀ t : Fin cfg0.N, win0_4.index t 0 = 0 ∧ win0_4.index t 1 = 0 :=
  (by decide +kernel : ∀ t : Fin grid0.N, win0_4.index t 0 = 0 ∧ win0_4.index t 1 = 0)

theorem rows_blk (t : Fin cfg0.N) (r : Fin 512) (k : Fin 1024) :
    (iblk m c 0 t : Vec Ideal S512x1024 .f32) (ix2 r k) = a0 m c (ix3 ⟨r.val / 256, by omega⟩ ⟨r.val % 256, Nat.mod_lt _ (by decide)⟩ k) := by
  have hi := idx0 t
  refine Eq.trans ?_ (rows_at m c r k)
  unfold iblk
  rw [View.read_apply]
  show V m c main_v0 _ = V m c main_v0 _
  congr 1
  funext a
  apply Fin.ext
  match a with
  | ⟨0, _⟩ => show win0_0.index t 0 * 512 + 1 * r.val = r.val; rw [hi.1]; omega
  | ⟨1, _⟩ => show win0_0.index t 1 * 1024 + 1 * k.val = k.val; rw [hi.2]; omega

theorem gains_blk (t : Fin cfg0.N) (k : Fin 1024) :
    (iblk m c 1 t : Vec Ideal S1x1024 .f32) (ix2 0 k) = a1 m c (ix1 k) := by
  have hi := idx1 t
  refine Eq.trans ?_ (gains_at m c k)
  unfold iblk
  rw [View.read_apply]
  show V m c main_v1 _ = V m c main_v1 _
  congr 1
  funext a
  apply Fin.ext
  match a with
  | ⟨0, _⟩ => show win0_1.index t 0 * 1 + 1 * 0 = 0; rw [hi.1]
  | ⟨1, _⟩ => show win0_1.index t 1 * 1024 + 1 * k.val = k.val; rw [hi.2]; omega

theorem weights_blk (t : Fin cfg0.N) (k : Fin 1024) (d : Fin 1024) :
    (iblk m c 2 t : Vec Ideal S1024x1024 .bf16) (ix2 k d) = a2 m c (ix2 k d) := by
  have hi := idx2 t
  refine Eq.trans ?_ (weights_at m c k d)
  unfold iblk
  rw [View.read_apply]
  show V m c main_v2 _ = V m c main_v2 _
  congr 1
  funext a
  apply Fin.ext
  match a with
  | ⟨0, _⟩ => show win0_2.index t 0 * 1024 + 1 * k.val = k.val; rw [hi.1]; omega
  | ⟨1, _⟩ => show win0_2.index t 1 * 1024 + 1 * d.val = d.val; rw [hi.2]; omega

/-- A row's keys and values, of the arguments. -/
abbrev both (r : Fin 512) (d : Fin 1024) : EReal :=
  times (norm (fun k => a0 m c (ix3 ⟨r.val / 256, by omega⟩ ⟨r.val % 256, Nat.mod_lt _ (by decide)⟩ k)) (fun k => a1 m c (ix1 k)))
    (fun k d => a2 m c (ix2 k d)) d

/-- The keys. -/
abbrev keys : S512x512.Idx → EReal := fun i => both m c (i 0) ⟨(i 1).val, by have h : (i 1).val < 512 := (i 1).isLt; omega⟩

/-- The values. -/
abbrev values : S512x512.Idx → EReal := fun i => both m c (i 0) ⟨512 + (i 1).val, by have h : (i 1).val < 512 := (i 1).isLt; omega⟩

theorem keys_blk (t : Fin cfg0.N) (r d : Fin 512) :
    out0_3 (iblk m c 0 t) (iblk m c 1 t) (iblk m c 2 t) (ix2 r d) = keys m c (ix2 r d) := by
  rw [left_at]
  simp only [rows_blk, gains_blk, weights_blk]
  rfl

theorem flushes3 : ∀ t : Fin cfg0.N, (cfg0.win 3).flush t = true :=
  (by decide +kernel : ∀ t : Fin grid0.N, win0_3.flush t = true)

theorem keys_eq : (dats m 0 c).arrAt 3 cfg0.N = keys m c := by
  refine (dats m 0 c).arrAt_eq_of_cover 3 (keys m c) (fun t _ => ?_) fun i => ?_
  · rw [flushed3]
    funext y
    have hi := idx3 t
    refine Eq.trans ?_ (Eq.trans (keys_blk m c t (y 0) (y 1)) ?_)
    · show out0_3 _ _ _ _ = out0_3 _ _ _ _
      congr 1
      funext a
      match a with
      | ⟨0, _⟩ => rfl
      | ⟨1, _⟩ => rfl
    · rw [View.read_apply]
      show keys m c _ = keys m c _
      congr 1
      funext a
      apply Fin.ext
      match a with
      | ⟨0, _⟩ => show (y 0).val = win0_3.index t 0 * 512 + 1 * (y 0).val; rw [hi.1]; omega
      | ⟨1, _⟩ => show (y 1).val = win0_3.index t 1 * 512 + 1 * (y 1).val; rw [hi.2]; omega
  · have h0 : (i 0 : Nat) < 512 := (i 0).isLt
    have h1 : (i 1 : Nat) < 512 := (i 1).isLt
    have hN : cfg0.N = 1 := rfl
    obtain ⟨p, _⟩ : ∃ p : Fin cfg0.N, p.val = 0 := ⟨⟨0, by rw [hN]; omega⟩, rfl⟩
    refine ⟨p, flushes3 p, ?_⟩
    have hi := idx3 p
    show i ∈ ((View.whole main_v3_0).slice (win0_3.rect p)).set
    rw [View.set_slice_whole, Rect.mem_set_unit]
    intro a
    match a with
    | ⟨0, _⟩ =>
      show win0_3.index p 0 * 512 ≤ (i 0 : Nat) ∧ (i 0 : Nat) < win0_3.index p 0 * 512 + 512
      rw [hi.1]
      omega
    | ⟨1, _⟩ =>
      show win0_3.index p 1 * 512 ≤ (i 1 : Nat) ∧ (i 1 : Nat) < win0_3.index p 1 * 512 + 512
      rw [hi.2]
      omega

theorem values_blk (t : Fin cfg0.N) (r d : Fin 512) :
    out0_4 (iblk m c 0 t) (iblk m c 1 t) (iblk m c 2 t) (ix2 r d) = values m c (ix2 r d) := by
  rw [right_at]
  simp only [rows_blk, gains_blk, weights_blk]
  rfl

theorem flushes4 : ∀ t : Fin cfg0.N, (cfg0.win 4).flush t = true :=
  (by decide +kernel : ∀ t : Fin grid0.N, win0_4.flush t = true)

theorem values_eq : (dats m 0 c).arrAt 4 cfg0.N = values m c := by
  refine (dats m 0 c).arrAt_eq_of_cover 4 (values m c) (fun t _ => ?_) fun i => ?_
  · rw [flushed4]
    funext y
    have hi := idx4 t
    refine Eq.trans ?_ (Eq.trans (values_blk m c t (y 0) (y 1)) ?_)
    · show out0_4 _ _ _ _ = out0_4 _ _ _ _
      congr 1
      funext a
      match a with
      | ⟨0, _⟩ => rfl
      | ⟨1, _⟩ => rfl
    · rw [View.read_apply]
      show values m c _ = values m c _
      congr 1
      funext a
      apply Fin.ext
      match a with
      | ⟨0, _⟩ => show (y 0).val = win0_4.index t 0 * 512 + 1 * (y 0).val; rw [hi.1]; omega
      | ⟨1, _⟩ => show (y 1).val = win0_4.index t 1 * 512 + 1 * (y 1).val; rw [hi.2]; omega
  · have h0 : (i 0 : Nat) < 512 := (i 0).isLt
    have h1 : (i 1 : Nat) < 512 := (i 1).isLt
    have hN : cfg0.N = 1 := rfl
    obtain ⟨p, _⟩ : ∃ p : Fin cfg0.N, p.val = 0 := ⟨⟨0, by rw [hN]; omega⟩, rfl⟩
    refine ⟨p, flushes4 p, ?_⟩
    have hi := idx4 p
    show i ∈ ((View.whole main_v3_1).slice (win0_4.rect p)).set
    rw [View.set_slice_whole, Rect.mem_set_unit]
    intro a
    match a with
    | ⟨0, _⟩ =>
      show win0_4.index p 0 * 512 ≤ (i 0 : Nat) ∧ (i 0 : Nat) < win0_4.index p 0 * 512 + 512
      rw [hi.1]
      omega
    | ⟨1, _⟩ =>
      show win0_4.index p 1 * 512 ≤ (i 1 : Nat) ∧ (i 1 : Nat) < win0_4.index p 1 * 512 + 512
      rw [hi.2]
      omega

end Cert.KeysIdeal.Body
-- ==== Proof.CacheRef.lean ====
/-
  The reference of the memory's keys and values, row by row.
-/
module

public import proofs.«01_k».proof.Proof.Rows
public import proofs.«01_k».proof.Proof.Gen.KeysPlainIdeal.Read
public import Idealize.ShloMosaic.Lib.KernelVsHost

@[expose] public section

set_option maxRecDepth 16384

noncomputable section

namespace Cert.KeysPlainIdeal.Body

open Cert.KeysPlainIdeal Cert.KeysPlainIdeal.Gen Cert.KeysPlainIdeal.Read Idealize.ShloMosaic Idealize.ShloMosaic.TcCoe Idealize.ShloMosaic.Tactic
open Cert.Rows

variable (x0 : S2x256x1024.Idx → EReal) (x1 : S1024.Idx → EReal) (x2 : S1024x1024.Idx → EReal)

theorem norm_at (b : Fin 2) (s : Fin 256) (k : Fin 1024) :
    val_main_v12 (F := Ideal) x0 x1 (ix3 b s k) = norm (fun k => x0 (ix3 b s k)) (fun k => x1 (ix1 k)) k := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  rfl

/-- A row's keys and values. -/
abbrev both (r : Fin 512) (d : Fin 1024) : EReal :=
  times (norm (fun k => x0 (ix3 ⟨r.val / 256, by omega⟩ ⟨r.val % 256, Nat.mod_lt _ (by decide)⟩ k)) (fun k => x1 (ix1 k)))
    (fun k d => x2 (ix2 k d)) d

theorem both_at (r : Fin 512) (d : Fin 1024) : val_main_v14 (F := Ideal) x0 x1 x2 (ix2 r d) = both x0 x1 x2 r d := by
  pointwise [val_main_v14, val_main_v13]
  simp only [norm_at]
  rfl

theorem keys_at (r d : Fin 512) : val_main_v15 (F := Ideal) x0 x1 x2 (ix2 r d) = both x0 x1 x2 r ⟨d.val, by omega⟩ := by
  pointwise [val_main_v15]
  simp only [both_at]

theorem values_at (r d : Fin 512) : val_main_v16 (F := Ideal) x0 x1 x2 (ix2 r d) = both x0 x1 x2 r ⟨512 + d.val, by omega⟩ := by
  pointwise [val_main_v16]
  simp only [both_at]

end Cert.KeysPlainIdeal.Body
-- ==== Proof.Cache.lean ====
/-
  The claims about the memory's keys and values.
-/
module

public import proofs.«01_k».proof.Defs
public import proofs.«01_k».proof.Proof.Gen.Keys
public import proofs.«01_k».proof.Proof.Gen.Keys.Frame
public import proofs.«01_k».proof.Proof.Gen.KeysPlainIdeal.Run
public import proofs.«01_k».proof.Proof.CacheBlocks
public import proofs.«01_k».proof.Proof.CacheRef

@[expose] public section

set_option maxRecDepth 16384

noncomputable section

namespace Cert.KeysCall

open Idealize.ShloMosaic Idealize.ShloMosaic.TcCoe Idealize.SL.Sem Idealize.ShloMosaic.Tactic

theorem frame_p : Cert.quiescent_Keys := fun m ρ _ => Cert.Keys.Gen.frame m ρ

theorem frame_pi : Cert.quiescent_KeysIdeal := fun m ρ _ => Cert.KeysIdeal.Gen.frame m ρ

theorem frame_ri : Cert.quiescent_KeysPlainIdeal := fun m ρ _ =>
  (θ_run Cert.KeysPlainIdeal.defs _ _).mono (fun r h => ⟨fun c => (h c).2.2, sem_eq_zero_of_no_sems (by decide) r.2⟩)
    (Cert.KeysPlainIdeal.Value.run (F := Ideal) m ρ)

theorem preserves : Cert.preserves_Keys_KeysIdeal := trivial

theorem algebraic : Cert.algebraic_KeysIdeal_KeysPlainIdeal := by
  intro m g m' g' _ hm
  refine ⟨fun c => (Cert.KeysIdeal.Gen.dats m 0 c).arrAt 3 Cert.KeysIdeal.cfg0.N, fun c => (Cert.KeysIdeal.Gen.dats m 0 c).arrAt 4 Cert.KeysIdeal.cfg0.N,
    Cert.KeysIdeal.Value.run_blocks (F := Ideal) m g, ?_⟩
  refine (θ_run Cert.KeysPlainIdeal.defs _ _).mono (fun r h c => ⟨(h c).1.trans ?_, (h c).2.1.trans ?_, (h c).2.2⟩)
    (Cert.KeysPlainIdeal.Value.run (F := Ideal) m' g')
  · obtain ⟨e0, e1, e2⟩ := hm c
    rw [Cert.KeysPlainIdeal.Read.val_main_v15_eq, e0, e1, e2]
    refine Eq.trans (funext fun i => ?_) (Cert.KeysIdeal.Body.keys_eq m c).symm
    have e : i = ix2 (i 0) (i 1) := funext fun a => match a with
      | ⟨0, _⟩ => rfl
      | ⟨1, _⟩ => rfl
    refine (congrArg _ e).trans ?_
    exact Cert.KeysPlainIdeal.Body.keys_at (Cert.KeysIdeal.Body.a0 m c) (Cert.KeysIdeal.Body.a1 m c) (Cert.KeysIdeal.Body.a2 m c) (i 0) (i 1)
  · obtain ⟨e0, e1, e2⟩ := hm c
    rw [Cert.KeysPlainIdeal.Read.val_main_v16_eq, e0, e1, e2]
    refine Eq.trans (funext fun i => ?_) (Cert.KeysIdeal.Body.values_eq m c).symm
    have e : i = ix2 (i 0) (i 1) := funext fun a => match a with
      | ⟨0, _⟩ => rfl
      | ⟨1, _⟩ => rfl
    refine (congrArg _ e).trans ?_
    exact Cert.KeysPlainIdeal.Body.values_at (Cert.KeysIdeal.Body.a0 m c) (Cert.KeysIdeal.Body.a1 m c) (Cert.KeysIdeal.Body.a2 m c) (i 0) (i 1)

end Cert.KeysCall
-- ==== Proof.MergeBody.lean ====
/-
  What the body of the merge step leaves in a block, row by row.
-/
module

public import proofs.«01_k».proof.Proof.Rows
public import proofs.«01_k».proof.Proof.Gen.MergeIdeal.Value

@[expose] public section

set_option maxRecDepth 16384

noncomputable section

namespace Cert.MergeIdeal.Body

open Cert.MergeIdeal Cert.MergeIdeal.Gen Idealize.ShloMosaic Idealize.ShloMosaic.TcCoe Idealize.ShloMosaic.Tactic
open Cert.Rows

variable (x : Vec Ideal S256x1024 .f32) (g : Vec Ideal S1x1024 .f32) (h : FVec Ideal S256x1024 .bf16) (wz : Vec Ideal S1024x512 .bf16)
  (wg : Vec Ideal S1024x1024 .bf16) (o : Vec Ideal S256x512 .f32) (w : Vec Ideal S1x512x1024 .bf16) (r : Fin 256) (d : Fin 1024)

/-- A branch, of the blocks the body reads for it. -/
abbrev one (h : Fin 1024 → EReal) : EReal :=
  branch h (fun k n => wz (ix2 k n)) (fun k n => wg (ix2 k n)) (fun n => o (ix2 r n)) (fun n d => w (ix3 0 n d)) d

theorem norm_at : k0_pay3 x g (ix2 r d) = norm (fun k => x (ix2 r k)) (fun k => g (ix2 0 k)) d := by
  pointwise [k0_pay3, k0_pay2]
  rfl

theorem first_at : k0_pay8 (k0_pay4 (F := Ideal)) (k0_pay5 x g wz o) (k0_pay6 x g wg) (k0_pay7 (F := Ideal)) w (ix2 r d)
    = one wz wg o w r d (norm (fun k => x (ix2 r k)) (fun k => g (ix2 0 k))) := by
  pointwise [k0_pay8, k0_pay4, k0_pay5, k0_pay6, k0_pay7]
  simp only [norm_at, zero_sub, zero_add]
  rfl

theorem second_at : k0_pay9 h wz wg o w (ix2 r d) = one wz wg o w r d (fun k => h (ix2 r k)) := by
  pointwise [k0_pay9]
  simp only [zero_sub]
  rfl

theorem third_at (a b : FVec Ideal S256x1024 .f32) :
    k0_pay10 h a b wz wg o w (ix2 r d) = a (ix2 r d) + b (ix2 r d) + one wz wg o w r d (fun k => h (ix2 r k)) := by
  pointwise [k0_pay10]
  simp only [zero_sub]
  rfl

theorem last_at (a : FVec Ideal S256x1024 .f32) (wo : Vec Ideal S1024x1024 .bf16) (f : Vec Ideal S1x1024 .f32) :
    k0_pay1 (k0_pay13 f) (k0_pay14 (k0_pay2 x) a (k0_pay11 h wz) (k0_pay12 h wg) o w wo) (ix2 r d)
      = norm (fun d => x (ix2 r d) + times (fun k => a (ix2 r k) + one wz wg o w r k (fun k => h (ix2 r k))) (fun k d => wo (ix2 k d)) d)
          (fun k => f (ix2 0 k)) d := by
  pointwise [k0_pay1, k0_pay13, k0_pay14, k0_pay2, k0_pay11, k0_pay12]
  simp only [zero_sub]
  rfl

/-- A load of columns. -/
theorem cols_at {n p q : ℕ} {e : EltTy} (y : Vec Ideal ⟨2, ![n, q]⟩ e) (o : ℕ) (inb) (k : Fin n) (i : Fin p) (h : o + i.val < q) :
    View.ld y (Rect.unit (s := ⟨2, ![n, q]⟩) ![0, o] ![n, p] inb) (ix2 k i) = y (ix2 k ⟨o + i.val, h⟩) := by
  show y _ = y _
  congr 1
  funext a
  apply Fin.ext
  match a with
  | ⟨0, _⟩ => show 0 + 1 * k.val = k.val; omega
  | ⟨1, _⟩ => show o + 1 * i.val = o + i.val; omega

/-- A load of one of four matrices. -/
theorem plane_at {n p : ℕ} {e : EltTy} (y : Vec Ideal ⟨3, ![4, n, p]⟩ e) (b : Fin 4) (inb) (k : Fin n) (i : Fin p) :
    View.ld y (Rect.unit (s := ⟨3, ![4, n, p]⟩) ![b.val, 0, 0] ![1, n, p] inb) (ix3 0 k i) = y (ix3 b k i) := by
  show y _ = y _
  congr 1
  funext a
  apply Fin.ext
  match a with
  | ⟨0, _⟩ => show b.val + 1 * 0 = b.val; omega
  | ⟨1, _⟩ => show 0 + 1 * k.val = k.val; omega
  | ⟨2, _⟩ => show 0 + 1 * i.val = i.val; omega

theorem hz2 : (![0, 0] : Fin 2 → ℕ) = fun _ => 0 := funext fun a => match a with | ⟨0, _⟩ => rfl | ⟨1, _⟩ => rfl

/-- A branch, of the arrays it is read from. -/
theorem one_at (y2 : Vec Ideal S1024x2048 .bf16) (y3 : Vec Ideal S1024x4096 .bf16) (y4 : Vec Ideal S4x512x1024 .bf16) (b : Fin 4) (oz og : ℕ)
    (hz : oz = b.val * 512) (hg : og = b.val * 1024) (iz ig ib) (h : Fin 1024 → EReal) :
    one (View.ld y2 (Rect.unit (s := S1024x2048) ![0, oz] S1024x512.size iz)) (View.ld y3 (Rect.unit (s := S1024x4096) ![0, og] S1024x1024.size ig)) o
        (View.ld y4 (Rect.unit (s := S4x512x1024) ![b.val, 0, 0] S1x512x1024.size ib)) r d h
      = branch h (fun k n => y2 (ix2 k ⟨b.val * 512 + n.val, by omega⟩)) (fun k n => y3 (ix2 k ⟨b.val * 1024 + n.val, by omega⟩))
          (fun n => o (ix2 r n)) (fun n d => y4 (ix3 b n d)) d := by
  subst hz hg
  have e2 : (fun (k : Fin 1024) (n : Fin 512) => View.ld y2 (Rect.unit (s := S1024x2048) ![0, b.val * 512] S1024x512.size iz) (ix2 k n))
      = fun k n => y2 (ix2 k ⟨b.val * 512 + n.val, by omega⟩) := funext fun k => funext fun n => cols_at y2 _ iz k n _
  have e3 : (fun (k : Fin 1024) (n : Fin 1024) => View.ld y3 (Rect.unit (s := S1024x4096) ![0, b.val * 1024] S1024x1024.size ig) (ix2 k n))
      = fun k n => y3 (ix2 k ⟨b.val * 1024 + n.val, by omega⟩) := funext fun k => funext fun n => cols_at y3 _ ig k n _
  have e4 : (fun (n : Fin 512) (d : Fin 1024) => View.ld y4 (Rect.unit (s := S4x512x1024) ![b.val, 0, 0] S1x512x1024.size ib) (ix3 0 n d))
      = fun n d => y4 (ix3 b n d) := funext fun n => funext fun d => plane_at y4 b ib n d
  unfold one
  rw [e2, e3, e4]

/-- A row of the block the body leaves. -/
theorem row_at (x0 : Vec Ideal S256x1024 .f32) (x1 : Vec Ideal S1x1024 .f32) (x2 : Vec Ideal S1024x2048 .bf16) (x3 : Vec Ideal S1024x4096 .bf16)
    (x4 : Vec Ideal S4x512x1024 .bf16) (x5 : Vec Ideal S1024x1024 .bf16) (x6 : Vec Ideal S1x1024 .f32)
    (x7 x8 x9 x10 : Vec Ideal S256x512 .f32) :
    out0_11 x0 x1 x2 x3 x4 x5 x6 x7 x8 x9 x10 (ix2 r d)
      = merged (fun k => x0 (ix2 r k)) (fun k => x1 (ix2 0 k)) (fun b k n => x2 (ix2 k ⟨b.val * 512 + n.val, by omega⟩))
          (fun b k n => x3 (ix2 k ⟨b.val * 1024 + n.val, by omega⟩)) (fun b n => ![x7, x8, x9, x10] b (ix2 r n)) (fun b n d => x4 (ix3 b n d))
          (fun k d => x5 (ix2 k d)) (fun k => x6 (ix2 0 k)) d := by
  have l0 : View.ld x0 r0_0 = x0 := View.ld_unit_zero hz2 _ _
  have l1 : View.ld x1 r0_1 = x1 := View.ld_unit_zero hz2 _ _
  have l5 : View.ld x5 r0_15 = x5 := View.ld_unit_zero hz2 _ _
  have l6 : View.ld x6 r0_1 = x6 := View.ld_unit_zero hz2 _ _
  have l7 : View.ld x7 r0_4 = x7 := View.ld_unit_zero hz2 _ _
  have l8 : View.ld x8 r0_4 = x8 := View.ld_unit_zero hz2 _ _
  have l9 : View.ld x9 r0_4 = x9 := View.ld_unit_zero hz2 _ _
  have l10 : View.ld x10 r0_4 = x10 := View.ld_unit_zero hz2 _ _
  have hn : (fun k => k0_pay3 x0 x1 (ix2 r k)) = norm (fun k => x0 (ix2 r k)) (fun k => x1 (ix2 0 k)) := funext fun k => norm_at x0 x1 r k
  unfold out0_11 k0_pay15
  rw [View.canon_unit_zero hz2, l0, l1, l5, l6, l7, l8, l9, l10, last_at]
  unfold merged
  refine congrArg (fun y => norm y (fun k => x6 (ix2 0 k)) d) (funext fun e => congrArg (fun a => x0 (ix2 r e) + times a (fun k d => x5 (ix2 k d)) e)
    (funext fun k => ?_))
  rw [third_at, second_at, first_at, hn, Fin.sum_univ_four]
  refine congrArg₂ (· + ·) (congrArg₂ (· + ·) (congrArg₂ (· + ·) ?_ ?_) ?_) ?_
  · exact one_at x7 r k x2 x3 x4 0 0 0 rfl rfl _ _ _ _
  · exact one_at x8 r k x2 x3 x4 1 512 1024 rfl rfl _ _ _ _
  · exact one_at x9 r k x2 x3 x4 2 1024 2048 rfl rfl _ _ _ _
  · exact one_at x10 r k x2 x3 x4 3 1536 3072 rfl rfl _ _ _ _

end Cert.MergeIdeal.Body
-- ==== Proof.MergeBlocks.lean ====
/-
  The merge step's blocks: which rows a grid point works on, what the host code hands over, and the array that comes out.
-/
module

public import proofs.«01_k».proof.Proof.MergeBody
public import Idealize.ShloMosaic.Lib.StableHlo.ReadAt

@[expose] public section

set_option maxRecDepth 16384

noncomputable section

namespace Cert.MergeIdeal.Body

open Cert.MergeIdeal Cert.MergeIdeal.Gen Cert.MergeIdeal.Value Idealize.ShloMosaic Idealize.ShloMosaic.TcCoe Idealize.ShloMosaic.Tactic
open Cert.Rows

variable (m : (ℓ : Loc nD τ sig) → Buf (Elt Ideal) ℓ) (c : Dev nD)

/-- The arguments. -/
abbrev a0 : S2x8192x1024.Idx → EReal := m ((c : Thread nD τ).loc main_arg0)
abbrev a1 : S1024.Idx → EReal := m ((c : Thread nD τ).loc main_arg1)
abbrev a2 : S1024x8608.Idx → EReal := m ((c : Thread nD τ).loc main_arg2)
abbrev a3 : S4x512x1024.Idx → EReal := m ((c : Thread nD τ).loc main_arg3)
abbrev a4 : S1024x1024.Idx → EReal := m ((c : Thread nD τ).loc main_arg4)
abbrev a5 : S1024.Idx → EReal := m ((c : Thread nD τ).loc main_arg5)
abbrev a6 : S16384x512.Idx → EReal := m ((c : Thread nD τ).loc main_arg6)
abbrev a7 : S16384x512.Idx → EReal := m ((c : Thread nD τ).loc main_arg7)
abbrev a8 : S16384x512.Idx → EReal := m ((c : Thread nD τ).loc main_arg8)
abbrev a9 : S16384x512.Idx → EReal := m ((c : Thread nD τ).loc main_arg9)

theorem rows_at (t : Fin 16384) (k : Fin 1024) :
    V m c main_v7 (ix2 t k) = a0 m c (ix3 ⟨t.val / 8192, by omega⟩ ⟨t.val % 8192, Nat.mod_lt _ (by decide)⟩ k) := by
  unfold V hostOps0
  after_reads_at

theorem gains_at (k : Fin 1024) : V m c main_v0 (ix2 0 k) = a1 m c (ix1 k) := by
  unfold V hostOps0
  after_reads_at

theorem inner_at (k : Fin 1024) (n : Fin 2048) : V m c main_v2 (ix2 k n) = a2 m c (ix2 k ⟨2464 + n.val, by omega⟩) := by
  unfold V hostOps0
  after_reads_at

theorem outer_at (k : Fin 1024) (n : Fin 4096) : V m c main_v4 (ix2 k n) = a2 m c (ix2 k ⟨4512 + n.val, by omega⟩) := by
  unfold V hostOps0
  after_reads_at

theorem weights_at (b : Fin 4) (n : Fin 512) (d : Fin 1024) : V m c main_v5 (ix3 b n d) = a3 m c (ix3 b n d) := by
  unfold V hostOps0
  after_reads_at

theorem out_weights_at (k d : Fin 1024) : V m c main_v6 (ix2 k d) = a4 m c (ix2 k d) := by
  unfold V hostOps0
  after_reads_at

theorem last_gains_at (k : Fin 1024) : V m c main_v8 (ix2 0 k) = a5 m c (ix1 k) := by
  unfold V hostOps0
  after_reads_at

theorem points : ∀ t : Fin cfg0.N, t.val < 64 :=
  (by decide +kernel : ∀ t : Fin grid0.N, t.val < 64)

theorem idx0 : ∀ t : Fin cfg0.N, win0_0.index t 0 = t.val ∧ win0_0.index t 1 = 0 :=
  (by decide +kernel : ∀ t : Fin grid0.N, win0_0.index t 0 = t.val ∧ win0_0.index t 1 = 0)

theorem idx1 : ∀ t : Fin cfg0.N, win0_1.index t 0 = 0 ∧ win0_1.index t 1 = 0 :=
  (by decide +kernel : ∀ t : Fin grid0.N, win0_1.index t 0 = 0 ∧ win0_1.index t 1 = 0)

theorem idx2 : ∀ t : Fin cfg0.N, win0_2.index t 0 = 0 ∧ win0_2.index t 1 = 0 :=
  (by decide +kernel : ∀ t : Fin grid0.N, win0_2.index t 0 = 0 ∧ win0_2.index t 1 = 0)

theorem idx3 : ∀ t : Fin cfg0.N, win0_3.index t 0 = 0 ∧ win0_3.index t 1 = 0 :=
  (by decide +kernel : ∀ t : Fin grid0.N, win0_3.index t 0 = 0 ∧ win0_3.index t 1 = 0)

theorem idx4 : ∀ t : Fin cfg0.N, win0_4.index t 0 = 0 ∧ win0_4.index t 1 = 0 ∧ win0_4.index t 2 = 0 :=
  (by decide +kernel : ∀ t : Fin grid0.N, win0_4.index t 0 = 0 ∧ win0_4.index t 1 = 0 ∧ win0_4.index t 2 = 0)

theorem idx5 : ∀ t : Fin cfg0.N, win0_5.index t 0 = 0 ∧ win0_5.index t 1 = 0 :=
  (by decide +kernel : ∀ t : Fin grid0.N, win0_5.index t 0 = 0 ∧ win0_5.index t 1 = 0)

theorem idx6 : ∀ t : Fin cfg0.N, win0_6.index t 0 = 0 ∧ win0_6.index t 1 = 0 :=
  (by decide +kernel : ∀ t : Fin grid0.N, win0_6.index t 0 = 0 ∧ win0_6.index t 1 = 0)

theorem idx7 : ∀ t : Fin cfg0.N, win0_7.index t 0 = t.val ∧ win0_7.index t 1 = 0 :=
  (by decide +kernel : ∀ t : Fin grid0.N, win0_7.index t 0 = t.val ∧ win0_7.index t 1 = 0)

theorem idx8 : ∀ t : Fin cfg0.N, win0_8.index t 0 = t.val ∧ win0_8.index t 1 = 0 :=
  (by decide +kernel : ∀ t : Fin grid0.N, win0_8.index t 0 = t.val ∧ win0_8.index t 1 = 0)

theorem idx9 : ∀ t : Fin cfg0.N, win0_9.index t 0 = t.val ∧ win0_9.index t 1 = 0 :=
  (by decide +kernel : ∀ t : Fin grid0.N, win0_9.index t 0 = t.val ∧ win0_9.index t 1 = 0)

theorem idx10 : ∀ t : Fin cfg0.N, win0_10.index t 0 = t.val ∧ win0_10.index t 1 = 0 :=
  (by decide +kernel : ∀ t : Fin grid0.N, win0_10.index t 0 = t.val ∧ win0_10.index t 1 = 0)

theorem idx11 : ∀ t : Fin cfg0.N, win0_11.index t 0 = t.val ∧ win0_11.index t 1 = 0 :=
  (by decide +kernel : ∀ t : Fin grid0.N, win0_11.index t 0 = t.val ∧ win0_11.index t 1 = 0)

theorem rows_blk (t : Fin cfg0.N) (r : Fin 256) (k : Fin 1024) :
    (iblk m c 0 t : Vec Ideal S256x1024 .f32) (ix2 r k) = a0 m c (ix3 ⟨(t.val * 256 + r.val) / 8192, by have := points t; omega⟩ ⟨(t.val * 256 + r.val) % 8192, Nat.mod_lt _ (by decide)⟩ k) := by
  have hi := idx0 t
  refine Eq.trans ?_ (rows_at m c ⟨t.val * 256 + r.val, by have := points t; omega⟩ k)
  unfold iblk
  rw [View.read_apply]
  show V m c main_v7 _ = V m c main_v7 _
  congr 1
  funext a
  apply Fin.ext
  match a with
  | ⟨0, _⟩ => show win0_0.index t 0 * 256 + 1 * r.val = t.val * 256 + r.val; rw [hi.1]; omega
  | ⟨1, _⟩ => show win0_0.index t 1 * 1024 + 1 * k.val = k.val; rw [hi.2]; omega

theorem gains_blk (t : Fin cfg0.N) (k : Fin 1024) :
    (iblk m c 1 t : Vec Ideal S1x1024 .f32) (ix2 0 k) = a1 m c (ix1 k) := by
  have hi := idx1 t
  refine Eq.trans ?_ (gains_at m c k)
  unfold iblk
  rw [View.read_apply]
  show V m c main_v0 _ = V m c main_v0 _
  congr 1
  funext a
  apply Fin.ext
  match a with
  | ⟨0, _⟩ => show win0_1.index t 0 * 1 + 1 * 0 = 0; rw [hi.1]
  | ⟨1, _⟩ => show win0_1.index t 1 * 1024 + 1 * k.val = k.val; rw [hi.2]; omega

theorem inner_blk (t : Fin cfg0.N) (k : Fin 1024) (n : Fin 2048) :
    (iblk m c 2 t : Vec Ideal S1024x2048 .bf16) (ix2 k n) = a2 m c (ix2 k ⟨2464 + n.val, by omega⟩) := by
  have hi := idx2 t
  refine Eq.trans ?_ (inner_at m c k n)
  unfold iblk
  rw [View.read_apply]
  show V m c main_v2 _ = V m c main_v2 _
  congr 1
  funext a
  apply Fin.ext
  match a with
  | ⟨0, _⟩ => show win0_2.index t 0 * 1024 + 1 * k.val = k.val; rw [hi.1]; omega
  | ⟨1, _⟩ => show win0_2.index t 1 * 2048 + 1 * n.val = n.val; rw [hi.2]; omega

theorem outer_blk (t : Fin cfg0.N) (k : Fin 1024) (n : Fin 4096) :
    (iblk m c 3 t : Vec Ideal S1024x4096 .bf16) (ix2 k n) = a2 m c (ix2 k ⟨4512 + n.val, by omega⟩) := by
  have hi := idx3 t
  refine Eq.trans ?_ (outer_at m c k n)
  unfold iblk
  rw [View.read_apply]
  show V m c main_v4 _ = V m c main_v4 _
  congr 1
  funext a
  apply Fin.ext
  match a with
  | ⟨0, _⟩ => show win0_3.index t 0 * 1024 + 1 * k.val = k.val; rw [hi.1]; omega
  | ⟨1, _⟩ => show win0_3.index t 1 * 4096 + 1 * n.val = n.val; rw [hi.2]; omega

theorem weights_blk (t : Fin cfg0.N) (b : Fin 4) (n : Fin 512) (d : Fin 1024) :
    (iblk m c 4 t : Vec Ideal S4x512x1024 .bf16) (ix3 b n d) = a3 m c (ix3 b n d) := by
  have hi := idx4 t
  refine Eq.trans ?_ (weights_at m c b n d)
  unfold iblk
  rw [View.read_apply]
  show V m c main_v5 _ = V m c main_v5 _
  congr 1
  funext a
  apply Fin.ext
  match a with
  | ⟨0, _⟩ => show win0_4.index t 0 * 4 + 1 * b.val = b.val; rw [hi.1]; omega
  | ⟨1, _⟩ => show win0_4.index t 1 * 512 + 1 * n.val = n.val; rw [hi.2.1]; omega
  | ⟨2, _⟩ => show win0_4.index t 2 * 1024 + 1 * d.val = d.val; rw [hi.2.2]; omega

theorem out_weights_blk (t : Fin cfg0.N) (k : Fin 1024) (d : Fin 1024) :
    (iblk m c 5 t : Vec Ideal S1024x1024 .bf16) (ix2 k d) = a4 m c (ix2 k d) := by
  have hi := idx5 t
  refine Eq.trans ?_ (out_weights_at m c k d)
  unfold iblk
  rw [View.read_apply]
  show V m c main_v6 _ = V m c main_v6 _
  congr 1
  funext a
  apply Fin.ext
  match a with
  | ⟨0, _⟩ => show win0_5.index t 0 * 1024 + 1 * k.val = k.val; rw [hi.1]; omega
  | ⟨1, _⟩ => show win0_5.index t 1 * 1024 + 1 * d.val = d.val; rw [hi.2]; omega

theorem last_gains_blk (t : Fin cfg0.N) (k : Fin 1024) :
    (iblk m c 6 t : Vec Ideal S1x1024 .f32) (ix2 0 k) = a5 m c (ix1 k) := by
  have hi := idx6 t
  refine Eq.trans ?_ (last_gains_at m c k)
  unfold iblk
  rw [View.read_apply]
  show V m c main_v8 _ = V m c main_v8 _
  congr 1
  funext a
  apply Fin.ext
  match a with
  | ⟨0, _⟩ => show win0_6.index t 0 * 1 + 1 * 0 = 0; rw [hi.1]
  | ⟨1, _⟩ => show win0_6.index t 1 * 1024 + 1 * k.val = k.val; rw [hi.2]; omega

theorem values0_blk (t : Fin cfg0.N) (r : Fin 256) (n : Fin 512) :
    (iblk m c 7 t : Vec Ideal S256x512 .f32) (ix2 r n) = a6 m c (ix2 ⟨t.val * 256 + r.val, by have := points t; omega⟩ n) := by
  have hi := idx7 t
  refine Eq.trans ?_ (congrFun (V_main_arg6 m c) _)
  unfold iblk
  rw [View.read_apply]
  show V m c main_arg6 _ = V m c main_arg6 _
  congr 1
  funext a
  apply Fin.ext
  match a with
  | ⟨0, _⟩ => show win0_7.index t 0 * 256 + 1 * r.val = t.val * 256 + r.val; rw [hi.1]; omega
  | ⟨1, _⟩ => show win0_7.index t 1 * 512 + 1 * n.val = n.val; rw [hi.2]; omega

theorem values1_blk (t : Fin cfg0.N) (r : Fin 256) (n : Fin 512) :
    (iblk m c 8 t : Vec Ideal S256x512 .f32) (ix2 r n) = a7 m c (ix2 ⟨t.val * 256 + r.val, by have := points t; omega⟩ n) := by
  have hi := idx8 t
  refine Eq.trans ?_ (congrFun (V_main_arg7 m c) _)
  unfold iblk
  rw [View.read_apply]
  show V m c main_arg7 _ = V m c main_arg7 _
  congr 1
  funext a
  apply Fin.ext
  match a with
  | ⟨0, _⟩ => show win0_8.index t 0 * 256 + 1 * r.val = t.val * 256 + r.val; rw [hi.1]; omega
  | ⟨1, _⟩ => show win0_8.index t 1 * 512 + 1 * n.val = n.val; rw [hi.2]; omega

theorem values2_blk (t : Fin cfg0.N) (r : Fin 256) (n : Fin 512) :
    (iblk m c 9 t : Vec Ideal S256x512 .f32) (ix2 r n) = a8 m c (ix2 ⟨t.val * 256 + r.val, by have := points t; omega⟩ n) := by
  have hi := idx9 t
  refine Eq.trans ?_ (congrFun (V_main_arg8 m c) _)
  unfold iblk
  rw [View.read_apply]
  show V m c main_arg8 _ = V m c main_arg8 _
  congr 1
  funext a
  apply Fin.ext
  match a with
  | ⟨0, _⟩ => show win0_9.index t 0 * 256 + 1 * r.val = t.val * 256 + r.val; rw [hi.1]; omega
  | ⟨1, _⟩ => show win0_9.index t 1 * 512 + 1 * n.val = n.val; rw [hi.2]; omega

theorem values3_blk (t : Fin cfg0.N) (r : Fin 256) (n : Fin 512) :
    (iblk m c 10 t : Vec Ideal S256x512 .f32) (ix2 r n) = a9 m c (ix2 ⟨t.val * 256 + r.val, by have := points t; omega⟩ n) := by
  have hi := idx10 t
  refine Eq.trans ?_ (congrFun (V_main_arg9 m c) _)
  unfold iblk
  rw [View.read_apply]
  show V m c main_arg9 _ = V m c main_arg9 _
  congr 1
  funext a
  apply Fin.ext
  match a with
  | ⟨0, _⟩ => show win0_10.index t 0 * 256 + 1 * r.val = t.val * 256 + r.val; rw [hi.1]; omega
  | ⟨1, _⟩ => show win0_10.index t 1 * 512 + 1 * n.val = n.val; rw [hi.2]; omega

theorem flushes : ∀ t : Fin cfg0.N, (cfg0.win 11).flush t = true :=
  (by decide +kernel : ∀ t : Fin grid0.N, win0_11.flush t = true)

/-- The merge step's result, of its arguments. -/
abbrev result : S16384x1024.Idx → EReal := fun i =>
  merged (fun k => a0 m c (ix3 ⟨(i 0).val / 8192, by have h : (i 0).val < 16384 := (i 0).isLt; omega⟩ ⟨(i 0).val % 8192, Nat.mod_lt _ (by decide)⟩ k))
    (fun k => a1 m c (ix1 k)) (fun b k n => a2 m c (ix2 k ⟨2464 + (b.val * 512 + n.val), by omega⟩))
    (fun b k n => a2 m c (ix2 k ⟨4512 + (b.val * 1024 + n.val), by omega⟩))
    (fun b n => ![a6 m c, a7 m c, a8 m c, a9 m c] b (ix2 (i 0) n)) (fun b n d => a3 m c (ix3 b n d)) (fun k d => a4 m c (ix2 k d))
    (fun k => a5 m c (ix1 k)) (i 1)

/-- What a grid point leaves is its rows of the result. -/
theorem block_eq (t : Fin cfg0.N) (r : Fin 256) (d : Fin 1024) :
    out0_11 (iblk m c 0 t) (iblk m c 1 t) (iblk m c 2 t) (iblk m c 3 t) (iblk m c 4 t) (iblk m c 5 t) (iblk m c 6 t) (iblk m c 7 t) (iblk m c 8 t)
        (iblk m c 9 t) (iblk m c 10 t) (ix2 r d)
      = result m c (ix2 ⟨t.val * 256 + r.val, by have := points t; omega⟩ d) := by
  rw [row_at]
  have ho : (fun (b : Fin 4) (n : Fin 512) => ![(iblk m c 7 t : Vec Ideal S256x512 .f32), iblk m c 8 t, iblk m c 9 t, iblk m c 10 t] b (ix2 r n))
      = fun b n => ![a6 m c, a7 m c, a8 m c, a9 m c] b (ix2 ⟨t.val * 256 + r.val, by have := points t; omega⟩ n) := by
    funext b n
    match b with
    | ⟨0, _⟩ => exact values0_blk m c t r n
    | ⟨1, _⟩ => exact values1_blk m c t r n
    | ⟨2, _⟩ => exact values2_blk m c t r n
    | ⟨3, _⟩ => exact values3_blk m c t r n
  rw [ho]
  simp only [rows_blk, gains_blk, inner_blk, outer_blk, weights_blk, out_weights_blk, last_gains_blk]
  rfl

/-- The array that comes out. -/
theorem output_eq : (dats m 0 c).arrAt 11 cfg0.N = result m c := by
  refine (dats m 0 c).arrAt_eq_of_cover 11 (result m c) (fun t _ => ?_) fun i => ?_
  · rw [flushed11]
    funext y
    have hi := idx11 t
    refine Eq.trans ?_ (Eq.trans (block_eq m c t (y 0) (y 1)) ?_)
    · show out0_11 _ _ _ _ _ _ _ _ _ _ _ _ = out0_11 _ _ _ _ _ _ _ _ _ _ _ _
      congr 1
      funext a
      match a with
      | ⟨0, _⟩ => rfl
      | ⟨1, _⟩ => rfl
    · rw [View.read_apply]
      show result m c _ = result m c _
      congr 1
      funext a
      apply Fin.ext
      match a with
      | ⟨0, _⟩ => show t.val * 256 + (y 0).val = win0_11.index t 0 * 256 + 1 * (y 0).val; rw [hi.1]; omega
      | ⟨1, _⟩ => show (y 1).val = win0_11.index t 1 * 1024 + 1 * (y 1).val; rw [hi.2]; omega
  · have h0 : (i 0 : Nat) < 16384 := (i 0).isLt
    have h1 : (i 1 : Nat) < 1024 := (i 1).isLt
    have hN : cfg0.N = 64 := rfl
    obtain ⟨p, hp⟩ : ∃ p : Fin cfg0.N, p.val = (i 0).val / 256 := ⟨⟨(i 0).val / 256, by rw [hN]; omega⟩, rfl⟩
    refine ⟨p, flushes p, ?_⟩
    have hi := idx11 p
    show i ∈ ((View.whole main_v9).slice (win0_11.rect p)).set
    rw [View.set_slice_whole, Rect.mem_set_unit]
    intro a
    match a with
    | ⟨0, _⟩ =>
      show win0_11.index p 0 * 256 ≤ (i 0 : Nat) ∧ (i 0 : Nat) < win0_11.index p 0 * 256 + 256
      rw [hi.1, hp]
      omega
    | ⟨1, _⟩ =>
      show win0_11.index p 1 * 1024 ≤ (i 1 : Nat) ∧ (i 1 : Nat) < win0_11.index p 1 * 1024 + 1024
      rw [hi.2]
      omega

end Cert.MergeIdeal.Body
-- ==== Proof.MergeRef.lean ====
/-
  The merge step's reference, row by row.
-/
module

public import proofs.«01_k».proof.Proof.Rows
public import proofs.«01_k».proof.Proof.Gen.MergePlainIdeal.Read
public import Idealize.ShloMosaic.Lib.KernelVsHost

@[expose] public section

set_option maxRecDepth 16384

noncomputable section

namespace Cert.MergePlainIdeal.Body

open Cert.MergePlainIdeal Cert.MergePlainIdeal.Gen Cert.MergePlainIdeal.Read Idealize.ShloMosaic Idealize.ShloMosaic.TcCoe Idealize.ShloMosaic.Tactic
open Cert.Rows

variable (x0 : S2x8192x1024.Idx → EReal) (x1 : S1024.Idx → EReal) (x2 : S1024x8608.Idx → EReal) (x3 : S4x512x1024.Idx → EReal)
  (x4 : S1024x1024.Idx → EReal) (x5 : S1024.Idx → EReal) (x6 x7 x8 x9 : S16384x512.Idx → EReal) (t : Fin 16384)

/-- A row of the input. -/
abbrev row (k : Fin 1024) : EReal := x0 (ix3 ⟨t.val / 8192, by omega⟩ ⟨t.val % 8192, Nat.mod_lt _ (by decide)⟩ k)

theorem norm_at (k : Fin 1024) : val_main_v13 (F := Ideal) x0 x1 (ix2 t k) = norm (row x0 t) (fun k => x1 (ix1 k)) k := by
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]
  rfl

theorem inner_at (b : Fin 4) (n : Fin 512) :
    val_main_v16 (F := Ideal) x0 x1 x2 (ix3 t b n)
      = times (norm (row x0 t) (fun k => x1 (ix1 k))) (fun k n => x2 (ix2 k ⟨2464 + (b.val * 512 + n.val), by omega⟩)) n := by
  pointwise [val_main_v16, val_main_v15, val_main_v14]
  simp only [norm_at]
  rfl

theorem outer_at (b : Fin 4) (d : Fin 1024) :
    val_main_v19 (F := Ideal) x0 x1 x2 (ix3 t b d)
      = times (norm (row x0 t) (fun k => x1 (ix1 k))) (fun k n => x2 (ix2 k ⟨4512 + (b.val * 1024 + n.val), by omega⟩)) d := by
  pointwise [val_main_v19, val_main_v18, val_main_v17]
  simp only [norm_at]
  rfl

theorem stacked_at (b : Fin 4) (n : Fin 512) : val_main_v24 (F := Ideal) x6 x7 x8 x9 (ix3 t b n) = ![x6, x7, x8, x9] b (ix2 t n) := by
  match b with
  | ⟨0, _⟩ =>
    pointwise [val_main_v24, val_main_v20, val_main_v21, val_main_v22, val_main_v23]
  | ⟨1, _⟩ =>
    pointwise [val_main_v24, val_main_v20, val_main_v21, val_main_v22, val_main_v23]
  | ⟨2, _⟩ =>
    pointwise [val_main_v24, val_main_v20, val_main_v21, val_main_v22, val_main_v23]
  | ⟨3, _⟩ =>
    pointwise [val_main_v24, val_main_v20, val_main_v21, val_main_v22, val_main_v23]

/-- A branch of a row. -/
abbrev one (b : Fin 4) (d : Fin 1024) : EReal :=
  branch (norm (row x0 t) (fun k => x1 (ix1 k))) (fun k n => x2 (ix2 k ⟨2464 + (b.val * 512 + n.val), by omega⟩))
    (fun k n => x2 (ix2 k ⟨4512 + (b.val * 1024 + n.val), by omega⟩)) (fun n => ![x6, x7, x8, x9] b (ix2 t n)) (fun n d => x3 (ix3 b n d)) d

theorem branch_at (b : Fin 4) (d : Fin 1024) :
    val_main_v35 (F := Ideal) x0 x1 x2 x3 x6 x7 x8 x9 (ix3 t b d) = one x0 x1 x2 x3 x6 x7 x8 x9 t b d := by
  pointwise [val_main_v35, val_main_v34, val_main_v33, val_main_v32, val_main_v31, val_main_v30, val_main_v29, val_main_v28, val_main_v27, val_main_v26,
    val_main_v25, val_main_call0_v5, val_main_call0_v4, val_main_call0_v3, val_main_call0_v2, val_main_call0_v1, val_main_call0_v0,
    val_main_call0_cst, val_main_call0_cst_0, val_main_cst_2, val_main_cst_3]
  simp only [inner_at, outer_at, stacked_at]
  unfold one branch gate
  refine congrArg (_ * ·) (Finset.sum_congr rfl fun n _ => mul_comm _ _)

theorem summed_at (d : Fin 1024) :
    val_main_v39 (F := Ideal) x0 x1 x2 x3 x4 x6 x7 x8 x9 (ix2 t d)
      = row x0 t d + times (fun k => ∑ b, one x0 x1 x2 x3 x6 x7 x8 x9 t b k) (fun k d => x4 (ix2 k d)) d := by
  pointwise [val_main_v39, val_main_v38, val_main_v37, val_main_v36, val_main_cst_4]
  simp only [branch_at]
  rfl

/-- The reference's result. -/
theorem result_at (d : Fin 1024) :
    val_main_v52 (F := Ideal) x0 x1 x2 x3 x4 x5 x6 x7 x8 x9 (ix2 t d)
      = merged (row x0 t) (fun k => x1 (ix1 k)) (fun b k n => x2 (ix2 k ⟨2464 + (b.val * 512 + n.val), by omega⟩))
          (fun b k n => x2 (ix2 k ⟨4512 + (b.val * 1024 + n.val), by omega⟩)) (fun b n => ![x6, x7, x8, x9] b (ix2 t n)) (fun b n d => x3 (ix3 b n d))
          (fun k d => x4 (ix2 k d)) (fun k => x5 (ix1 k)) d := by
  pointwise [val_main_v52, val_main_v51, val_main_v50, val_main_v49, val_main_v48, val_main_v47, val_main_v46, val_main_v45, val_main_v44,
    val_main_v43, val_main_v42, val_main_v41, val_main_v40, val_main_cst_5, val_main_cst_6, val_main_cst_7]
  simp only [summed_at]
  rfl

end Cert.MergePlainIdeal.Body
-- ==== Proof.Join.lean ====
/-
  The claims about the step that merges the branches.
-/
module

public import proofs.«01_k».proof.Defs
public import proofs.«01_k».proof.Proof.Gen.Merge
public import proofs.«01_k».proof.Proof.Gen.Merge.Frame
public import proofs.«01_k».proof.Proof.Gen.MergePlainIdeal.Run
public import proofs.«01_k».proof.Proof.MergeBlocks
public import proofs.«01_k».proof.Proof.MergeRef

@[expose] public section

set_option maxRecDepth 16384

noncomputable section

namespace Cert.MergeCall

open Idealize.ShloMosaic Idealize.ShloMosaic.TcCoe Idealize.SL.Sem Idealize.ShloMosaic.Tactic

theorem frame_p : Cert.quiescent_Merge := fun m ρ _ => Cert.Merge.Gen.frame m ρ

theorem frame_pi : Cert.quiescent_MergeIdeal := fun m ρ _ => Cert.MergeIdeal.Gen.frame m ρ

theorem frame_ri : Cert.quiescent_MergePlainIdeal := fun m ρ _ =>
  (θ_run Cert.MergePlainIdeal.defs _ _).mono (fun r h => ⟨fun c => (h c).2, sem_eq_zero_of_no_sems (by decide) r.2⟩)
    (Cert.MergePlainIdeal.Value.run (F := Ideal) m ρ)

theorem preserves : Cert.preserves_Merge_MergeIdeal := trivial

theorem algebraic : Cert.algebraic_MergeIdeal_MergePlainIdeal := by
  intro m g m' g' _ hm
  refine ⟨fun c => (Cert.MergeIdeal.Gen.dats m 0 c).arrAt 11 Cert.MergeIdeal.cfg0.N, Cert.MergeIdeal.Value.run_blocks (F := Ideal) m g, ?_⟩
  refine (θ_run Cert.MergePlainIdeal.defs _ _).mono (fun r h c => ⟨(h c).1.trans ?_, (h c).2⟩) (Cert.MergePlainIdeal.Value.run (F := Ideal) m' g')
  obtain ⟨e0, e1, e2, e3, e4, e5, e6, e7, e8, e9⟩ := hm c
  rw [Cert.MergePlainIdeal.Read.val_main_v52_eq, e0, e1, e2, e3, e4, e5, e6, e7, e8, e9]
  refine Eq.trans (funext fun i => ?_) (Cert.MergeIdeal.Body.output_eq m c).symm
  have e : i = ix2 (i 0) (i 1) := funext fun a => match a with
    | ⟨0, _⟩ => rfl
    | ⟨1, _⟩ => rfl
  refine (congrArg _ e).trans ?_
  exact Cert.MergePlainIdeal.Body.result_at (Cert.MergeIdeal.Body.a0 m c) (Cert.MergeIdeal.Body.a1 m c) (Cert.MergeIdeal.Body.a2 m c)
    (Cert.MergeIdeal.Body.a3 m c) (Cert.MergeIdeal.Body.a4 m c) (Cert.MergeIdeal.Body.a5 m c) (Cert.MergeIdeal.Body.a6 m c)
    (Cert.MergeIdeal.Body.a7 m c) (Cert.MergeIdeal.Body.a8 m c) (Cert.MergeIdeal.Body.a9 m c) (i 0) (i 1)

end Cert.MergeCall
-- ==== Proof.Turn.lean ====
/-
  The mathematics of one row of the input projection: the norm of a latent and the rotary turn of a key.
-/
module

public import proofs.«01_k».proof.Proof.Rows

@[expose] public section

noncomputable section

namespace Cert.Rows

open Idealize.ShloMosaic

/-- A latent over its root mean square, times the gains. -/
def latent (y g : Fin 256 → EReal) (d : Fin 256) : EReal :=
  y d * Ideal.rsqrt (Ideal.div (∑ k, y k * y k) (Ideal.ofBits .f32 0x43800000#32) + Ideal.ofBits .f32 0x358637BD#32) * g d

/-- The angle of a position at a frequency. -/
def angle (s i : ℕ) : EReal :=
  (FloatOps.sitofp (F := Ideal) FTy.f32 (BitVec.ofNat 32 s) : EReal)
    * Ideal.pow (Ideal.ofBits .f32 0x461C4000#32)
        (Ideal.div (-(FloatOps.sitofp (F := Ideal) FTy.f32 (BitVec.ofNat 32 i) : EReal)) (Ideal.ofBits .f32 0x41800000#32))

/-- A key turned by its position: the left half against the right. -/
def turned (y : Fin 32 → EReal) (s : ℕ) (d : Fin 32) : EReal :=
  if h : d.val < 16 then y d * Ideal.cos (angle s d.val) - y ⟨16 + d.val, by omega⟩ * Ideal.sin (angle s d.val)
  else y d * Ideal.cos (angle s (d.val - 16)) + y ⟨d.val - 16, by omega⟩ * Ideal.sin (angle s (d.val - 16))

/-- The turn as one sum: a table of cosines and one of sines, negative on the left, and the key with its halves exchanged. -/
theorem turned_eq (y z : Fin 32 → EReal) (s : ℕ) (d : Fin 32) (co si : EReal)
    (hz : z d = y ⟨if d.val < 16 then 16 + d.val else d.val - 16, by split <;> omega⟩)
    (hc : co = Ideal.cos (angle s (if d.val < 16 then d.val else d.val - 16)))
    (hs : si = if d.val < 16 then -Ideal.sin (angle s d.val) else Ideal.sin (angle s (d.val - 16))) :
    y d * co + z d * si = turned y s d := by
  unfold turned
  rw [hz, hc, hs]
  by_cases h : d.val < 16
  · rw [dif_pos h]
    simp only [if_pos h]
    rw [mul_neg]
    rfl
  · rw [dif_neg h]
    simp only [if_neg h]

end Cert.Rows
-- ==== Proof.InputBody.lean ====
/-
  What the body of the input projection leaves in its blocks, row by row.
-/
module

public import proofs.«01_k».proof.Proof.Turn
public import proofs.«01_k».proof.Proof.Gen.ProjectIdeal.Frame

@[expose] public section

set_option maxRecDepth 16384

noncomputable section

namespace Cert.ProjectIdeal.Body

open Cert.ProjectIdeal Cert.ProjectIdeal.Gen Idealize.ShloMosaic Idealize.ShloMosaic.TcCoe Idealize.ShloMosaic.Tactic
open Cert.Rows

variable (i : grid0.Coords) (x : Vec Ideal S256x1024 .f32) (g : Vec Ideal S1x1024 .f32) (w : Vec Ideal S1024x2688 .bf16) (x3 : Vec Ideal S1x384 .f32)
  (kv : Vec Ideal S1x256 .f32) (x5 : Vec Ideal S384x1024 .bf16) (x6 : Vec Ideal S8x256x384 .bf16) (co si : Vec Ideal S256x256 .f32) (r : Fin 256)

theorem hz2 : (![0, 0] : Fin 2 → ℕ) = fun _ => 0 := funext fun a => match a with | ⟨0, _⟩ => rfl | ⟨1, _⟩ => rfl

/-- A row times the packed weights. -/
abbrev packed (e : Fin 2688) : EReal := times (norm (fun k => x (ix2 r k)) (fun k => g (ix2 0 k))) (fun k e => w (ix2 k e)) e

theorem packed_at (e : Fin 2688) : k0_pay3 x g w (ix2 r e) = packed x g w r e := by
  pointwise [k0_pay3]
  rfl

theorem whole_at (e : Fin 2688) : k0_pay49 i x g w x3 kv x5 x6 co si (ix2 r e) = packed x g w r e := by
  unfold k0_pay49
  rw [View.ld_unit_zero hz2 _ _, View.ld_unit_zero hz2 _ _, View.ld_unit_zero hz2 _ _]
  exact packed_at x g w r e

theorem latent_at (d : Fin 256) :
    out0_9 i x g w x3 kv x5 x6 co si (ix2 r d) = latent (fun d => packed x g w r ⟨384 + d.val, by omega⟩) (fun d => kv (ix2 0 d)) d := by
  unfold out0_9 k0_pay52
  rw [View.canon_unit_zero hz2, View.ld_unit_zero hz2 _ _, View.ld_unit_zero hz2 _ _, View.ld_unit_zero hz2 _ _, View.ld_unit_zero hz2 _ _]
  pointwise [k0_pay6]
  simp only [packed_at]
  rfl

theorem rope_at (d : Fin 32) :
    out0_10 i x g w x3 kv x5 x6 co si (ix2 r d) = packed x g w r ⟨2432 + d.val, by omega⟩ * co (ix2 r ⟨d.val, by omega⟩)
      + packed x g w r ⟨2560 + d.val, by omega⟩ * si (ix2 r ⟨d.val, by omega⟩) := by
  unfold out0_10 k0_pay50 k0_pay51
  rw [View.canon_unit_zero hz2, View.ld_unit_zero hz2 _ _, View.ld_unit_zero hz2 _ _]
  pointwise [k0_pay8, k0_pay7, k0_pay4, k0_pay5]
  simp only [whole_at]

theorem pool_at (d : Fin 512) : out0_13 i x g w x3 kv x5 x6 co si (ix2 r d) = packed x g w r ⟨640 + d.val, by omega⟩ := by
  unfold out0_13
  rw [View.canon_unit_zero hz2]
  pointwise [k0_pay24]
  simp only [whole_at]

theorem keys_at (d : Fin 128) : out0_14 i x g w x3 kv x5 x6 co si (ix2 r d) = packed x g w r ⟨1664 + d.val, by omega⟩ := by
  unfold out0_14
  rw [View.canon_unit_zero hz2]
  pointwise [k0_pay26]
  simp only [whole_at]

theorem values_at (d : Fin 128) : out0_15 i x g w x3 kv x5 x6 co si (ix2 r d) = packed x g w r ⟨1792 + d.val, by omega⟩ := by
  unfold out0_15
  rw [View.canon_unit_zero hz2]
  pointwise [k0_pay27]
  simp only [whole_at]

end Cert.ProjectIdeal.Body
-- ==== Proof.InputHost.lean ====
/-
  What the host code hands the input projection: the rows, the gains, the packed weights and the rotary tables.
-/
module

public import proofs.«01_k».proof.Proof.Turn
public import proofs.«01_k».proof.Proof.Gen.ProjectIdeal.Frame
public import Idealize.ShloMosaic.Lib.StableHlo.ReadAt

@[expose] public section

set_option maxRecDepth 16384

noncomputable section

namespace Cert.ProjectIdeal.Body

open Cert.ProjectIdeal Cert.ProjectIdeal.Gen Idealize.ShloMosaic Idealize.ShloMosaic.TcCoe Idealize.ShloMosaic.Tactic
open Cert.Rows

/-- Columns taken at given places. -/
theorem take_at (x : S1024x32.Idx → EReal) (idx : IVec S32x1 32) (k : Fin 1024) (d j : Fin 32) (h : idx (ix2 d 0) = BitVec.ofNat 32 j.val) :
    Host.gather gather_S1024x32_S32x1_S1024x32_0_1_n_n_1_1_10241 x idx (ix2 k d) = x (ix2 k j) := by
  unfold Host.gather
  congr 1
  funext a
  refine Fin.ext ?_
  show gather_S1024x32_S32x1_S1024x32_0_1_n_n_1_1_10241.start (ix2 k d) idx a + gather_S1024x32_S32x1_S1024x32_0_1_n_n_1_1_10241.batchCoord (ix2 k d) a
    + gather_S1024x32_S32x1_S1024x32_0_1_n_n_1_1_10241.offCoord (ix2 k d) a = _
  match a with
  | ⟨0, _⟩ => show 0 + 0 + k.val = k.val; omega
  | ⟨1, _⟩ =>
    have i0 : ∀ h, gather_S1024x32_S32x1_S1024x32_0_1_n_n_1_1_10241.siIdx (ix2 k d) ⟨0, h⟩ = ix2 d 0 := fun h => by
      funext b; match b with
        | ⟨0, _⟩ => rfl
        | ⟨1, _⟩ => rfl
    have hs : gather_S1024x32_S32x1_S1024x32_0_1_n_n_1_1_10241.start (ix2 k d) idx ⟨1, by decide⟩ = j.val := by
      unfold GatherDims.start
      rw [dif_pos (by decide)]
      refine (congrArg (fun z => min (idx z).toInt.toNat 31) (i0 _)).trans ?_
      show min (idx (ix2 d 0)).toInt.toNat 31 = j.val
      rw [h, BitVec.toInt_eq_toNat_of_lt (by rw [BitVec.toNat_ofNat]; omega), BitVec.toNat_ofNat, Nat.mod_eq_of_lt (by omega)]
      omega
    exact congrArg (· + 0 + 0) hs

variable (m : (ℓ : Loc nD τ sig) → Buf (Elt Ideal) ℓ) (c : Dev nD)

/-- The arguments. -/
abbrev a0 : S2x8192x1024.Idx → EReal := m ((c : Thread nD τ).loc main_arg0)
abbrev a1 : S1024.Idx → EReal := m ((c : Thread nD τ).loc main_arg1)
abbrev a2 : S1024x8608.Idx → EReal := m ((c : Thread nD τ).loc main_arg2)
abbrev a5 : S256.Idx → EReal := m ((c : Thread nD τ).loc main_arg5)

theorem rows_at (t : Fin 16384) (k : Fin 1024) :
    V m c main_v180 (ix2 t k) = a0 m c (ix3 ⟨t.val / 8192, by omega⟩ ⟨t.val % 8192, Nat.mod_lt _ (by decide)⟩ k) := by
  unfold V hostOps0 hostOps0_1 hostOps0_2 hostOps0_3 hostOps0_4
  after_reads_at

theorem gains_at (k : Fin 1024) : V m c main_v153 (ix2 0 k) = a1 m c (ix1 k) := by
  unfold V hostOps0 hostOps0_1 hostOps0_2 hostOps0_3 hostOps0_4
  after_reads_at

theorem latGains_at (d : Fin 256) : V m c main_v155 (ix2 0 d) = a5 m c (ix1 d) := by
  unfold V hostOps0 hostOps0_1 hostOps0_2 hostOps0_3 hostOps0_4
  after_reads_at

/-- The latents' columns. -/
theorem latCols_at (k : Fin 1024) (d : Fin 256) :
    (V m c main_v150 (ix2 k ⟨384 + d.val, by omega⟩) : EReal) = a2 m c (ix2 k ⟨384 + d.val, by omega⟩) := by
  unfold V hostOps0 hostOps0_1 hostOps0_2 hostOps0_3 hostOps0_4
  after_reads_at
  after_reads_at

/-- The pooling inputs' columns. -/
theorem poolCols_at (k : Fin 1024) (d : Fin 512) :
    (V m c main_v150 (ix2 k ⟨640 + d.val, by omega⟩) : EReal) = a2 m c (ix2 k ⟨672 + d.val, by omega⟩) := by
  unfold V hostOps0 hostOps0_1 hostOps0_2 hostOps0_3 hostOps0_4
  after_reads_at
  rw [dif_neg (by omega), dif_neg (by omega), dif_pos (by omega)]
  after_reads_at
  refine congrArg (fun z => a2 m c (ix2 k z)) (Fin.ext ?_)
  show 672 + (640 + d.val - 384 - 256) = 672 + d.val
  omega

/-- The mixture keys' columns. -/
theorem keyCols_at (k : Fin 1024) (d : Fin 128) :
    (V m c main_v150 (ix2 k ⟨1664 + d.val, by omega⟩) : EReal) = a2 m c (ix2 k ⟨1696 + d.val, by omega⟩) := by
  unfold V hostOps0 hostOps0_1 hostOps0_2 hostOps0_3 hostOps0_4
  after_reads_at
  rw [dif_neg (by omega), dif_neg (by omega), dif_neg (by omega), dif_neg (by omega), dif_pos (by omega)]
  after_reads_at
  refine congrArg (fun z => a2 m c (ix2 k z)) (Fin.ext ?_)
  show 1696 + (1664 + d.val - 384 - 256 - 512 - 512) = 1696 + d.val
  omega

/-- The mixture values' columns. -/
theorem valueCols_at (k : Fin 1024) (d : Fin 128) :
    (V m c main_v150 (ix2 k ⟨1792 + d.val, by omega⟩) : EReal) = a2 m c (ix2 k ⟨1824 + d.val, by omega⟩) := by
  unfold V hostOps0 hostOps0_1 hostOps0_2 hostOps0_3 hostOps0_4
  after_reads_at
  rw [dif_neg (by omega), dif_neg (by omega), dif_neg (by omega), dif_neg (by omega), dif_neg (by omega), dif_pos (by omega)]
  after_reads_at
  refine congrArg (fun z => a2 m c (ix2 k z)) (Fin.ext ?_)
  show 1824 + (1792 + d.val - 384 - 256 - 512 - 512 - 128) = 1824 + d.val
  omega

/-- The rotary keys' columns. -/
theorem ropeCols_at (k : Fin 1024) (d : Fin 32) :
    (V m c main_v150 (ix2 k ⟨2432 + d.val, by omega⟩) : EReal) = a2 m c (ix2 k ⟨640 + d.val, by omega⟩) := by
  unfold V hostOps0 hostOps0_1 hostOps0_2 hostOps0_3 hostOps0_4
  after_reads_at
  rw [dif_neg (by omega), dif_neg (by omega), dif_neg (by omega), dif_neg (by omega), dif_neg (by omega), dif_neg (by omega), dif_neg (by omega), dif_pos (by omega)]
  after_reads_at
  rw [dif_pos (by omega)]
  refine congrArg (fun z => a2 m c (ix2 k z)) (Fin.ext ?_)
  show 640 + (2432 + d.val - 384 - 256 - 512 - 512 - 128 - 128 - 512) = 640 + d.val
  omega

/-- The rotary keys' columns, the halves exchanged. -/
theorem swapCols_at (k : Fin 1024) (d : Fin 32) :
    (V m c main_v150 (ix2 k ⟨2560 + d.val, by omega⟩) : EReal)
      = a2 m c (ix2 k ⟨640 + (if d.val < 16 then 16 + d.val else d.val - 16), by split <;> omega⟩) := by
  unfold V hostOps0 hostOps0_1 hostOps0_2 hostOps0_3 hostOps0_4
  after_reads_at
  rw [dif_neg (by omega), dif_neg (by omega), dif_neg (by omega), dif_neg (by omega), dif_neg (by omega), dif_neg (by omega), dif_neg (by omega), dif_neg (by omega)]
  after_reads_at
  rw [dif_pos (by omega), take_at _ _ k _ ⟨if d.val < 16 then 16 + d.val else d.val - 16, by split <;> omega⟩ ?_]
  · pointwise []
  · pointwise []
    after_reads_at
    revert d
    decide +kernel

theorem cos_at (s : Fin 8192) (d : Fin 32) :
    (V m c main_v174 (ix2 s ⟨d.val, by omega⟩) : EReal) = Ideal.cos (angle s.val (if d.val < 16 then d.val else d.val - 16)) := by
  unfold V hostOps0 hostOps0_1 hostOps0_2 hostOps0_3 hostOps0_4
  after_reads_at
  have e : d.val % 32 = d.val := Nat.mod_eq_of_lt d.isLt
  simp only [e]
  split <;> after_reads_at
  all_goals rfl

theorem sin_at (s : Fin 8192) (d : Fin 32) :
    (V m c main_v179 (ix2 s ⟨d.val, by omega⟩) : EReal)
      = if d.val < 16 then -Ideal.sin (angle s.val d.val) else Ideal.sin (angle s.val (d.val - 16)) := by
  unfold V hostOps0 hostOps0_1 hostOps0_2 hostOps0_3 hostOps0_4
  after_reads_at
  have e : d.val % 32 = d.val := Nat.mod_eq_of_lt d.isLt
  simp only [e]
  split <;> after_reads_at
  all_goals rfl

end Cert.ProjectIdeal.Body
-- ==== Proof.InputBlocks.lean ====
/-
  The input projection's blocks: which rows a grid point works on and the five arrays that come out.
-/
module

public import proofs.«01_k».proof.Proof.InputBody
public import proofs.«01_k».proof.Proof.InputHost
public import proofs.«01_k».proof.Proof.Gen.ProjectIdeal.Value

@[expose] public section

set_option maxRecDepth 16384

noncomputable section

namespace Cert.ProjectIdeal.Body

open Cert.ProjectIdeal Cert.ProjectIdeal.Gen Cert.ProjectIdeal.Value Idealize.ShloMosaic Idealize.ShloMosaic.TcCoe Idealize.ShloMosaic.Tactic
open Cert.Rows

variable (m : (ℓ : Loc nD τ sig) → Buf (Elt Ideal) ℓ) (c : Dev nD)

theorem points : ∀ t : Fin cfg0.N, t.val < 64 :=
  (by decide +kernel : ∀ t : Fin grid0.N, t.val < 64)

theorem idx0 : ∀ t : Fin cfg0.N, win0_0.index t 0 = t.val ∧ win0_0.index t 1 = 0 :=
  (by decide +kernel : ∀ t : Fin grid0.N, win0_0.index t 0 = t.val ∧ win0_0.index t 1 = 0)

theorem idx1 : ∀ t : Fin cfg0.N, win0_1.index t 0 = 0 ∧ win0_1.index t 1 = 0 :=
  (by decide +kernel : ∀ t : Fin grid0.N, win0_1.index t 0 = 0 ∧ win0_1.index t 1 = 0)

theorem idx2 : ∀ t : Fin cfg0.N, win0_2.index t 0 = 0 ∧ win0_2.index t 1 = 0 :=
  (by decide +kernel : ∀ t : Fin grid0.N, win0_2.index t 0 = 0 ∧ win0_2.index t 1 = 0)

theorem idx4 : ∀ t : Fin cfg0.N, win0_4.index t 0 = 0 ∧ win0_4.index t 1 = 0 :=
  (by decide +kernel : ∀ t : Fin grid0.N, win0_4.index t 0 = 0 ∧ win0_4.index t 1 = 0)

theorem idx7 : ∀ t : Fin cfg0.N, win0_7.index t 0 = t.val % 32 ∧ win0_7.index t 1 = 0 :=
  (by decide +kernel : ∀ t : Fin grid0.N, win0_7.index t 0 = t.val % 32 ∧ win0_7.index t 1 = 0)

theorem idx8 : ∀ t : Fin cfg0.N, win0_8.index t 0 = t.val % 32 ∧ win0_8.index t 1 = 0 :=
  (by decide +kernel : ∀ t : Fin grid0.N, win0_8.index t 0 = t.val % 32 ∧ win0_8.index t 1 = 0)

theorem idx9 : ∀ t : Fin cfg0.N, win0_9.index t 0 = t.val ∧ win0_9.index t 1 = 0 :=
  (by decide +kernel : ∀ t : Fin grid0.N, win0_9.index t 0 = t.val ∧ win0_9.index t 1 = 0)

theorem idx10 : ∀ t : Fin cfg0.N, win0_10.index t 0 = t.val ∧ win0_10.index t 1 = 0 :=
  (by decide +kernel : ∀ t : Fin grid0.N, win0_10.index t 0 = t.val ∧ win0_10.index t 1 = 0)

theorem idx13 : ∀ t : Fin cfg0.N, win0_13.index t 0 = t.val ∧ win0_13.index t 1 = 0 :=
  (by decide +kernel : ∀ t : Fin grid0.N, win0_13.index t 0 = t.val ∧ win0_13.index t 1 = 0)

theorem idx14 : ∀ t : Fin cfg0.N, win0_14.index t 0 = t.val ∧ win0_14.index t 1 = 0 :=
  (by decide +kernel : ∀ t : Fin grid0.N, win0_14.index t 0 = t.val ∧ win0_14.index t 1 = 0)

theorem idx15 : ∀ t : Fin cfg0.N, win0_15.index t 0 = t.val ∧ win0_15.index t 1 = 0 :=
  (by decide +kernel : ∀ t : Fin grid0.N, win0_15.index t 0 = t.val ∧ win0_15.index t 1 = 0)

theorem rows_blk (t : Fin cfg0.N) (r : Fin 256) (k : Fin 1024) :
    (iblk m c 0 t : Vec Ideal S256x1024 .f32) (ix2 r k) = a0 m c (ix3 ⟨(t.val * 256 + r.val) / 8192, by have := points t; omega⟩ ⟨(t.val * 256 + r.val) % 8192, Nat.mod_lt _ (by decide)⟩ k) := by
  have ht := points t
  have hi := idx0 t
  refine Eq.trans ?_ (rows_at m c (⟨t.val * 256 + r.val, by have := points t; omega⟩ : Fin 16384) k)
  unfold iblk
  rw [View.read_apply]
  show V m c main_v180 _ = V m c main_v180 _
  congr 1
  funext a
  apply Fin.ext
  match a with
  | ⟨0, _⟩ => show win0_0.index t 0 * 256 + 1 * r.val = t.val * 256 + r.val; rw [hi.1]; omega
  | ⟨1, _⟩ => show win0_0.index t 1 * 1024 + 1 * k.val = k.val; rw [hi.2]; omega

theorem gains_blk (t : Fin cfg0.N) (k : Fin 1024) :
    (iblk m c 1 t : Vec Ideal S1x1024 .f32) (ix2 0 k) = a1 m c (ix1 k) := by
  have ht := points t
  have hi := idx1 t
  refine Eq.trans ?_ (gains_at m c k)
  unfold iblk
  rw [View.read_apply]
  show V m c main_v153 _ = V m c main_v153 _
  congr 1
  funext a
  apply Fin.ext
  match a with
  | ⟨0, _⟩ => show win0_1.index t 0 * 1 + 1 * 0 = 0; rw [hi.1]
  | ⟨1, _⟩ => show win0_1.index t 1 * 1024 + 1 * k.val = k.val; rw [hi.2]; omega

theorem weights_blk (t : Fin cfg0.N) (k : Fin 1024) (e : Fin 2688) :
    (iblk m c 2 t : Vec Ideal S1024x2688 .bf16) (ix2 k e) = (V m c main_v150 (ix2 k e) : EReal) := by
  have ht := points t
  have hi := idx2 t
  refine Eq.trans ?_ (rfl)
  unfold iblk
  rw [View.read_apply]
  show V m c main_v150 _ = V m c main_v150 _
  congr 1
  funext a
  apply Fin.ext
  match a with
  | ⟨0, _⟩ => show win0_2.index t 0 * 1024 + 1 * k.val = k.val; rw [hi.1]; omega
  | ⟨1, _⟩ => show win0_2.index t 1 * 2688 + 1 * e.val = e.val; rw [hi.2]; omega

theorem latGains_blk (t : Fin cfg0.N) (k : Fin 256) :
    (iblk m c 4 t : Vec Ideal S1x256 .f32) (ix2 0 k) = a5 m c (ix1 k) := by
  have ht := points t
  have hi := idx4 t
  refine Eq.trans ?_ (latGains_at m c k)
  unfold iblk
  rw [View.read_apply]
  show V m c main_v155 _ = V m c main_v155 _
  congr 1
  funext a
  apply Fin.ext
  match a with
  | ⟨0, _⟩ => show win0_4.index t 0 * 1 + 1 * 0 = 0; rw [hi.1]
  | ⟨1, _⟩ => show win0_4.index t 1 * 256 + 1 * k.val = k.val; rw [hi.2]; omega

theorem place (t : Fin cfg0.N) (r : Fin 256) : t.val % 32 * 256 + r.val = (t.val * 256 + r.val) % 8192 := by omega

theorem cos_blk (t : Fin cfg0.N) (r : Fin 256) (d : Fin 32) :
    (iblk m c 7 t : Vec Ideal S256x256 .f32) (ix2 r ⟨d.val, by omega⟩) = Ideal.cos (angle ((t.val * 256 + r.val) % 8192) (if d.val < 16 then d.val else d.val - 16)) := by
  have ht := points t
  have hi := idx7 t
  refine Eq.trans ?_ ((cos_at m c (⟨t.val % 32 * 256 + r.val, by omega⟩ : Fin 8192) d).trans (by rw [← place t r]))
  unfold iblk
  rw [View.read_apply]
  show V m c main_v174 _ = V m c main_v174 _
  congr 1
  funext a
  apply Fin.ext
  match a with
  | ⟨0, _⟩ => show win0_7.index t 0 * 256 + 1 * r.val = t.val % 32 * 256 + r.val; rw [hi.1]; omega
  | ⟨1, _⟩ => show win0_7.index t 1 * 256 + 1 * d.val = d.val; rw [hi.2]; omega

theorem sin_blk (t : Fin cfg0.N) (r : Fin 256) (d : Fin 32) :
    (iblk m c 8 t : Vec Ideal S256x256 .f32) (ix2 r ⟨d.val, by omega⟩) = if d.val < 16 then -Ideal.sin (angle ((t.val * 256 + r.val) % 8192) d.val) else Ideal.sin (angle ((t.val * 256 + r.val) % 8192) (d.val - 16)) := by
  have ht := points t
  have hi := idx8 t
  refine Eq.trans ?_ ((sin_at m c (⟨t.val % 32 * 256 + r.val, by omega⟩ : Fin 8192) d).trans (by rw [← place t r]))
  unfold iblk
  rw [View.read_apply]
  show V m c main_v179 _ = V m c main_v179 _
  congr 1
  funext a
  apply Fin.ext
  match a with
  | ⟨0, _⟩ => show win0_8.index t 0 * 256 + 1 * r.val = t.val % 32 * 256 + r.val; rw [hi.1]; omega
  | ⟨1, _⟩ => show win0_8.index t 1 * 256 + 1 * d.val = d.val; rw [hi.2]; omega

/-- A row of the projection, of the arguments. -/
abbrev row (R : Fin 16384) (e : Fin 8608) : EReal :=
  times (norm (fun k => a0 m c (ix3 ⟨R.val / 8192, by omega⟩ ⟨R.val % 8192, by omega⟩ k)) (fun k => a1 m c (ix1 k))) (fun k e => a2 m c (ix2 k e)) e

theorem packed_row (t : Fin cfg0.N) (r : Fin 256) (e : Fin 2688) (e' : Fin 8608)
    (h : ∀ k : Fin 1024, (V m c main_v150 (ix2 k e) : EReal) = a2 m c (ix2 k e')) :
    packed (iblk m c 0 t) (iblk m c 1 t) (iblk m c 2 t) r e = row m c (⟨t.val * 256 + r.val, by have := points t; omega⟩ : Fin 16384) e' := by
  unfold packed row times
  simp only [rows_blk, gains_blk, weights_blk, h]

/-- The latents. -/
abbrev latents : S16384x256.Idx → EReal := fun i => latent (fun d => row m c (i 0) ⟨384 + d.val, by omega⟩) (fun d => a5 m c (ix1 d)) (i 1)

theorem latents_blk (t : Fin cfg0.N) (r : Fin 256) (d : Fin 256) :
    out0_9 (grid0.coords t) (iblk m c 0 t) (iblk m c 1 t) (iblk m c 2 t) (iblk m c 3 t) (iblk m c 4 t) (iblk m c 5 t) (iblk m c 6 t) (iblk m c 7 t) (iblk m c 8 t) (ix2 r d)
      = latents m c (ix2 (⟨t.val * 256 + r.val, by have := points t; omega⟩ : Fin 16384) d) := by
  rw [latent_at]
  have h : ∀ d : Fin 256, packed (iblk m c 0 t) (iblk m c 1 t) (iblk m c 2 t) r ⟨384 + d.val, by omega⟩ = row m c (⟨t.val * 256 + r.val, by have := points t; omega⟩ : Fin 16384) ⟨384 + d.val, by omega⟩ :=
    fun d => packed_row m c t r _ _ fun k => latCols_at m c k d
  simp only [h, latGains_blk]
  rfl

theorem flushes9 : ∀ t : Fin cfg0.N, (cfg0.win 9).flush t = true :=
  (by decide +kernel : ∀ t : Fin grid0.N, win0_9.flush t = true)

theorem latents_eq : (dats m 0 c).arrAt 9 cfg0.N = latents m c := by
  refine (dats m 0 c).arrAt_eq_of_cover 9 (latents m c) (fun t _ => ?_) fun i => ?_
  · rw [flushed9]
    funext y
    have hi := idx9 t
    refine Eq.trans ?_ (Eq.trans (latents_blk m c t (y 0) (y 1)) ?_)
    · show out0_9 _ _ _ _ _ _ _ _ _ _ _ = out0_9 _ _ _ _ _ _ _ _ _ _ _
      congr 1
      funext a
      match a with
      | ⟨0, _⟩ => rfl
      | ⟨1, _⟩ => rfl
    · rw [View.read_apply]
      show latents m c _ = latents m c _
      congr 1
      funext a
      apply Fin.ext
      match a with
      | ⟨0, _⟩ => show t.val * 256 + (y 0).val = win0_9.index t 0 * 256 + 1 * (y 0).val; rw [hi.1]; omega
      | ⟨1, _⟩ => show (y 1).val = win0_9.index t 1 * 256 + 1 * (y 1).val; rw [hi.2]; omega
  · have h0 : (i 0 : Nat) < 16384 := (i 0).isLt
    have h1 : (i 1 : Nat) < 256 := (i 1).isLt
    have hN : cfg0.N = 64 := rfl
    obtain ⟨p, hp⟩ : ∃ p : Fin cfg0.N, p.val = (i 0 : Nat) / 256 := ⟨⟨(i 0 : Nat) / 256, by rw [hN]; omega⟩, rfl⟩
    refine ⟨p, flushes9 p, ?_⟩
    have hi := idx9 p
    show i ∈ ((View.whole main_v181_0).slice (win0_9.rect p)).set
    rw [View.set_slice_whole, Rect.mem_set_unit]
    intro a
    match a with
    | ⟨0, _⟩ =>
      show win0_9.index p 0 * 256 ≤ (i 0 : Nat) ∧ (i 0 : Nat) < win0_9.index p 0 * 256 + 256
      rw [hi.1]
      omega
    | ⟨1, _⟩ =>
      show win0_9.index p 1 * 256 ≤ (i 1 : Nat) ∧ (i 1 : Nat) < win0_9.index p 1 * 256 + 256
      rw [hi.2]
      omega

/-- The rotary keys. -/
abbrev ropes : S16384x32.Idx → EReal := fun i => turned (fun d => row m c (i 0) ⟨640 + d.val, by omega⟩) ((i 0).val % 8192) (i 1)

theorem ropes_blk (t : Fin cfg0.N) (r : Fin 256) (d : Fin 32) :
    out0_10 (grid0.coords t) (iblk m c 0 t) (iblk m c 1 t) (iblk m c 2 t) (iblk m c 3 t) (iblk m c 4 t) (iblk m c 5 t) (iblk m c 6 t) (iblk m c 7 t) (iblk m c 8 t) (ix2 r d)
      = ropes m c (ix2 (⟨t.val * 256 + r.val, by have := points t; omega⟩ : Fin 16384) d) := by
  rw [rope_at, packed_row m c t r _ _ fun k => ropeCols_at m c k d, packed_row m c t r _ _ fun k => swapCols_at m c k d]
  exact turned_eq (fun d => row m c (⟨t.val * 256 + r.val, by have := points t; omega⟩ : Fin 16384) ⟨640 + d.val, by omega⟩)
    (fun d => row m c (⟨t.val * 256 + r.val, by have := points t; omega⟩ : Fin 16384) ⟨640 + (if d.val < 16 then 16 + d.val else d.val - 16), by split <;> omega⟩)
    _ d _ _ rfl (cos_blk m c t r d) (sin_blk m c t r d)

theorem flushes10 : ∀ t : Fin cfg0.N, (cfg0.win 10).flush t = true :=
  (by decide +kernel : ∀ t : Fin grid0.N, win0_10.flush t = true)

theorem ropes_eq : (dats m 0 c).arrAt 10 cfg0.N = ropes m c := by
  refine (dats m 0 c).arrAt_eq_of_cover 10 (ropes m c) (fun t _ => ?_) fun i => ?_
  · rw [flushed10]
    funext y
    have hi := idx10 t
    refine Eq.trans ?_ (Eq.trans (ropes_blk m c t (y 0) (y 1)) ?_)
    · show out0_10 _ _ _ _ _ _ _ _ _ _ _ = out0_10 _ _ _ _ _ _ _ _ _ _ _
      congr 1
      funext a
      match a with
      | ⟨0, _⟩ => rfl
      | ⟨1, _⟩ => rfl
    · rw [View.read_apply]
      show ropes m c _ = ropes m c _
      congr 1
      funext a
      apply Fin.ext
      match a with
      | ⟨0, _⟩ => show t.val * 256 + (y 0).val = win0_10.index t 0 * 256 + 1 * (y 0).val; rw [hi.1]; omega
      | ⟨1, _⟩ => show (y 1).val = win0_10.index t 1 * 32 + 1 * (y 1).val; rw [hi.2]; omega
  · have h0 : (i 0 : Nat) < 16384 := (i 0).isLt
    have h1 : (i 1 : Nat) < 32 := (i 1).isLt
    have hN : cfg0.N = 64 := rfl
    obtain ⟨p, hp⟩ : ∃ p : Fin cfg0.N, p.val = (i 0 : Nat) / 256 := ⟨⟨(i 0 : Nat) / 256, by rw [hN]; omega⟩, rfl⟩
    refine ⟨p, flushes10 p, ?_⟩
    have hi := idx10 p
    show i ∈ ((View.whole main_v181_1).slice (win0_10.rect p)).set
    rw [View.set_slice_whole, Rect.mem_set_unit]
    intro a
    match a with
    | ⟨0, _⟩ =>
      show win0_10.index p 0 * 256 ≤ (i 0 : Nat) ∧ (i 0 : Nat) < win0_10.index p 0 * 256 + 256
      rw [hi.1]
      omega
    | ⟨1, _⟩ =>
      show win0_10.index p 1 * 32 ≤ (i 1 : Nat) ∧ (i 1 : Nat) < win0_10.index p 1 * 32 + 32
      rw [hi.2]
      omega

/-- The pooling inputs. -/
abbrev pools : S16384x512.Idx → EReal := fun i => row m c (i 0) ⟨672 + (i 1).val, by have h : (i 1).val < 512 := (i 1).isLt; omega⟩

theorem pools_blk (t : Fin cfg0.N) (r : Fin 256) (d : Fin 512) :
    out0_13 (grid0.coords t) (iblk m c 0 t) (iblk m c 1 t) (iblk m c 2 t) (iblk m c 3 t) (iblk m c 4 t) (iblk m c 5 t) (iblk m c 6 t) (iblk m c 7 t) (iblk m c 8 t) (ix2 r d)
      = pools m c (ix2 (⟨t.val * 256 + r.val, by have := points t; omega⟩ : Fin 16384) d) := by
  rw [pool_at, packed_row m c t r _ _ fun k => poolCols_at m c k d]
  rfl

theorem flushes13 : ∀ t : Fin cfg0.N, (cfg0.win 13).flush t = true :=
  (by decide +kernel : ∀ t : Fin grid0.N, win0_13.flush t = true)

theorem pools_eq : (dats m 0 c).arrAt 13 cfg0.N = pools m c := by
  refine (dats m 0 c).arrAt_eq_of_cover 13 (pools m c) (fun t _ => ?_) fun i => ?_
  · rw [flushed13]
    funext y
    have hi := idx13 t
    refine Eq.trans ?_ (Eq.trans (pools_blk m c t (y 0) (y 1)) ?_)
    · show out0_13 _ _ _ _ _ _ _ _ _ _ _ = out0_13 _ _ _ _ _ _ _ _ _ _ _
      congr 1
      funext a
      match a with
      | ⟨0, _⟩ => rfl
      | ⟨1, _⟩ => rfl
    · rw [View.read_apply]
      show pools m c _ = pools m c _
      congr 1
      funext a
      apply Fin.ext
      match a with
      | ⟨0, _⟩ => show t.val * 256 + (y 0).val = win0_13.index t 0 * 256 + 1 * (y 0).val; rw [hi.1]; omega
      | ⟨1, _⟩ => show (y 1).val = win0_13.index t 1 * 512 + 1 * (y 1).val; rw [hi.2]; omega
  · have h0 : (i 0 : Nat) < 16384 := (i 0).isLt
    have h1 : (i 1 : Nat) < 512 := (i 1).isLt
    have hN : cfg0.N = 64 := rfl
    obtain ⟨p, hp⟩ : ∃ p : Fin cfg0.N, p.val = (i 0 : Nat) / 256 := ⟨⟨(i 0 : Nat) / 256, by rw [hN]; omega⟩, rfl⟩
    refine ⟨p, flushes13 p, ?_⟩
    have hi := idx13 p
    show i ∈ ((View.whole main_v181_4).slice (win0_13.rect p)).set
    rw [View.set_slice_whole, Rect.mem_set_unit]
    intro a
    match a with
    | ⟨0, _⟩ =>
      show win0_13.index p 0 * 256 ≤ (i 0 : Nat) ∧ (i 0 : Nat) < win0_13.index p 0 * 256 + 256
      rw [hi.1]
      omega
    | ⟨1, _⟩ =>
      show win0_13.index p 1 * 512 ≤ (i 1 : Nat) ∧ (i 1 : Nat) < win0_13.index p 1 * 512 + 512
      rw [hi.2]
      omega

/-- The mixture's keys. -/
abbrev keys : S16384x128.Idx → EReal := fun i => row m c (i 0) ⟨1696 + (i 1).val, by have h : (i 1).val < 128 := (i 1).isLt; omega⟩

theorem keys_blk (t : Fin cfg0.N) (r : Fin 256) (d : Fin 128) :
    out0_14 (grid0.coords t) (iblk m c 0 t) (iblk m c 1 t) (iblk m c 2 t) (iblk m c 3 t) (iblk m c 4 t) (iblk m c 5 t) (iblk m c 6 t) (iblk m c 7 t) (iblk m c 8 t) (ix2 r d)
      = keys m c (ix2 (⟨t.val * 256 + r.val, by have := points t; omega⟩ : Fin 16384) d) := by
  rw [keys_at, packed_row m c t r _ _ fun k => keyCols_at m c k d]
  rfl

theorem flushes14 : ∀ t : Fin cfg0.N, (cfg0.win 14).flush t = true :=
  (by decide +kernel : ∀ t : Fin grid0.N, win0_14.flush t = true)

theorem keys_eq : (dats m 0 c).arrAt 14 cfg0.N = keys m c := by
  refine (dats m 0 c).arrAt_eq_of_cover 14 (keys m c) (fun t _ => ?_) fun i => ?_
  · rw [flushed14]
    funext y
    have hi := idx14 t
    refine Eq.trans ?_ (Eq.trans (keys_blk m c t (y 0) (y 1)) ?_)
    · show out0_14 _ _ _ _ _ _ _ _ _ _ _ = out0_14 _ _ _ _ _ _ _ _ _ _ _
      congr 1
      funext a
      match a with
      | ⟨0, _⟩ => rfl
      | ⟨1, _⟩ => rfl
    · rw [View.read_apply]
      show keys m c _ = keys m c _
      congr 1
      funext a
      apply Fin.ext
      match a with
      | ⟨0, _⟩ => show t.val * 256 + (y 0).val = win0_14.index t 0 * 256 + 1 * (y 0).val; rw [hi.1]; omega
      | ⟨1, _⟩ => show (y 1).val = win0_14.index t 1 * 128 + 1 * (y 1).val; rw [hi.2]; omega
  · have h0 : (i 0 : Nat) < 16384 := (i 0).isLt
    have h1 : (i 1 : Nat) < 128 := (i 1).isLt
    have hN : cfg0.N = 64 := rfl
    obtain ⟨p, hp⟩ : ∃ p : Fin cfg0.N, p.val = (i 0 : Nat) / 256 := ⟨⟨(i 0 : Nat) / 256, by rw [hN]; omega⟩, rfl⟩
    refine ⟨p, flushes14 p, ?_⟩
    have hi := idx14 p
    show i ∈ ((View.whole main_v181_5).slice (win0_14.rect p)).set
    rw [View.set_slice_whole, Rect.mem_set_unit]
    intro a
    match a with
    | ⟨0, _⟩ =>
      show win0_14.index p 0 * 256 ≤ (i 0 : Nat) ∧ (i 0 : Nat) < win0_14.index p 0 * 256 + 256
      rw [hi.1]
      omega
    | ⟨1, _⟩ =>
      show win0_14.index p 1 * 128 ≤ (i 1 : Nat) ∧ (i 1 : Nat) < win0_14.index p 1 * 128 + 128
      rw [hi.2]
      omega

/-- The mixture's values. -/
abbrev values : S16384x128.Idx → EReal := fun i => row m c (i 0) ⟨1824 + (i 1).val, by have h : (i 1).val < 128 := (i 1).isLt; omega⟩

theorem values_blk (t : Fin cfg0.N) (r : Fin 256) (d : Fin 128) :
    out0_15 (grid0.coords t) (iblk m c 0 t) (iblk m c 1 t) (iblk m c 2 t) (iblk m c 3 t) (iblk m c 4 t) (iblk m c 5 t) (iblk m c 6 t) (iblk m c 7 t) (iblk m c 8 t) (ix2 r d)
      = values m c (ix2 (⟨t.val * 256 + r.val, by have := points t; omega⟩ : Fin 16384) d) := by
  rw [values_at, packed_row m c t r _ _ fun k => valueCols_at m c k d]
  rfl

theorem flushes15 : ∀ t : Fin cfg0.N, (cfg0.win 15).flush t = true :=
  (by decide +kernel : ∀ t : Fin grid0.N, win0_15.flush t = true)

theorem values_eq : (dats m 0 c).arrAt 15 cfg0.N = values m c := by
  refine (dats m 0 c).arrAt_eq_of_cover 15 (values m c) (fun t _ => ?_) fun i => ?_
  · rw [flushed15]
    funext y
    have hi := idx15 t
    refine Eq.trans ?_ (Eq.trans (values_blk m c t (y 0) (y 1)) ?_)
    · show out0_15 _ _ _ _ _ _ _ _ _ _ _ = out0_15 _ _ _ _ _ _ _ _ _ _ _
      congr 1
      funext a
      match a with
      | ⟨0, _⟩ => rfl
      | ⟨1, _⟩ => rfl
    · rw [View.read_apply]
      show values m c _ = values m c _
      congr 1
      funext a
      apply Fin.ext
      match a with
      | ⟨0, _⟩ => show t.val * 256 + (y 0).val = win0_15.index t 0 * 256 + 1 * (y 0).val; rw [hi.1]; omega
      | ⟨1, _⟩ => show (y 1).val = win0_15.index t 1 * 128 + 1 * (y 1).val; rw [hi.2]; omega
  · have h0 : (i 0 : Nat) < 16384 := (i 0).isLt
    have h1 : (i 1 : Nat) < 128 := (i 1).isLt
    have hN : cfg0.N = 64 := rfl
    obtain ⟨p, hp⟩ : ∃ p : Fin cfg0.N, p.val = (i 0 : Nat) / 256 := ⟨⟨(i 0 : Nat) / 256, by rw [hN]; omega⟩, rfl⟩
    refine ⟨p, flushes15 p, ?_⟩
    have hi := idx15 p
    show i ∈ ((View.whole main_v181_6).slice (win0_15.rect p)).set
    rw [View.set_slice_whole, Rect.mem_set_unit]
    intro a
    match a with
    | ⟨0, _⟩ =>
      show win0_15.index p 0 * 256 ≤ (i 0 : Nat) ∧ (i 0 : Nat) < win0_15.index p 0 * 256 + 256
      rw [hi.1]
      omega
    | ⟨1, _⟩ =>
      show win0_15.index p 1 * 128 ≤ (i 1 : Nat) ∧ (i 1 : Nat) < win0_15.index p 1 * 128 + 128
      rw [hi.2]
      omega

end Cert.ProjectIdeal.Body
-- ==== Proof.InputRef.lean ====
/-
  The reference of the input projection, row by row.
-/
module

public import proofs.«01_k».proof.Proof.Turn
public import proofs.«01_k».proof.Proof.Gen.ProjectPlainIdeal.Read
public import Idealize.ShloMosaic.Lib.KernelVsHost

@[expose] public section

set_option maxRecDepth 16384

noncomputable section

namespace Cert.ProjectPlainIdeal.Body

open Cert.ProjectPlainIdeal Cert.ProjectPlainIdeal.Gen Cert.ProjectPlainIdeal.Read Idealize.ShloMosaic Idealize.ShloMosaic.TcCoe Idealize.ShloMosaic.Tactic
open Cert.Rows

variable (x0 : S2x8192x1024.Idx → EReal) (x1 : S1024.Idx → EReal) (x2 : S1024x8608.Idx → EReal) (x5 : S256.Idx → EReal)

theorem norm_at (b : Fin 2) (s : Fin 8192) (k : Fin 1024) :
    val_main_v12 (F := Ideal) x0 x1 (ix3 b s k) = norm (fun k => x0 (ix3 b s k)) (fun k => x1 (ix1 k)) k := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  rfl

/-- A row of the projection. -/
abbrev row (b : Fin 2) (s : Fin 8192) (e : Fin 8608) : EReal :=
  times (norm (fun k => x0 (ix3 b s k)) (fun k => x1 (ix1 k))) (fun k e => x2 (ix2 k e)) e

theorem row_at (b : Fin 2) (s : Fin 8192) (e : Fin 2464) :
    val_main_v14 (F := Ideal) x0 x1 x2 (ix3 b s e) = row x0 x1 x2 b s ⟨e.val, by omega⟩ := by
  pointwise [val_main_v14, val_main_v13]
  simp only [norm_at]
  rfl

/-- The pooling inputs. -/
theorem pool_at (r : Fin 16384) (d : Fin 512) :
    val_main_v72 (F := Ideal) x0 x1 x2 (ix2 r d) = row x0 x1 x2 ⟨r.val / 8192, by omega⟩ ⟨r.val % 8192, by omega⟩ ⟨672 + d.val, by omega⟩ := by
  pointwise [val_main_v72, val_main_v18]
  simp only [row_at]

/-- The mixture's keys. -/
theorem keys_at (r : Fin 16384) (d : Fin 128) :
    val_main_v73 (F := Ideal) x0 x1 x2 (ix2 r d) = row x0 x1 x2 ⟨r.val / 8192, by omega⟩ ⟨r.val % 8192, by omega⟩ ⟨1696 + d.val, by omega⟩ := by
  pointwise [val_main_v73, val_main_v20]
  simp only [row_at]

/-- The mixture's values. -/
theorem values_at (r : Fin 16384) (d : Fin 128) :
    val_main_v74 (F := Ideal) x0 x1 x2 (ix2 r d) = row x0 x1 x2 ⟨r.val / 8192, by omega⟩ ⟨r.val % 8192, by omega⟩ ⟨1824 + d.val, by omega⟩ := by
  pointwise [val_main_v74, val_main_v21]
  simp only [row_at]

theorem angle_at (s : Fin 8192) (i : Fin 16) : val_main_v48 (F := Ideal) (ix2 s i) = angle s.val i.val := by
  pointwise [val_main_v48, val_main_v47, val_main_v46, val_main_v45, val_main_v44, val_main_v43, val_main_v42, val_main_v41,
    val_main_v40, val_main_v39, val_main_v38, val_main_v37, val_main_v36, val_main_cst_5, val_main_cst_6]
  rfl

theorem turn_at (b : Fin 2) (s : Fin 8192) (d : Fin 32) :
    val_main_v69 (F := Ideal) x0 x1 x2 (ix3 b s d) = turned (fun d => row x0 x1 x2 b s ⟨640 + d.val, by omega⟩) s.val d := by
  pointwise [val_main_v69, val_main_v68, val_main_v67, val_main_v66, val_main_v65, val_main_v64, val_main_v63, val_main_v62,
    val_main_v61, val_main_v60, val_main_v59, val_main_v58, val_main_v57, val_main_v56, val_main_v55, val_main_v54, val_main_v53,
    val_main_v52, val_main_v51, val_main_v50, val_main_v49, val_main_v17]
  simp only [row_at, angle_at]
  unfold turned
  split
  · rfl
  · next h =>
    have e : (⟨640 + (16 + (d.val - 16)), by omega⟩ : Fin 8608) = ⟨640 + d.val, by omega⟩ := Fin.ext (show 640 + (16 + (d.val - 16)) = 640 + d.val by omega)
    rw [e]

/-- The rotary keys. -/
theorem rope_at (r : Fin 16384) (d : Fin 32) :
    val_main_v71 (F := Ideal) x0 x1 x2 (ix2 r d)
      = turned (fun d => row x0 x1 x2 ⟨r.val / 8192, by omega⟩ ⟨r.val % 8192, by omega⟩ ⟨640 + d.val, by omega⟩) (r.val % 8192) d := by
  pointwise [val_main_v71]
  simp only [turn_at]

theorem normed_at (b : Fin 2) (s : Fin 8192) (d : Fin 256) :
    val_main_v35 (F := Ideal) x0 x1 x2 x5 (ix3 b s d)
      = latent (fun d => row x0 x1 x2 b s ⟨384 + d.val, by omega⟩) (fun d => x5 (ix1 d)) d := by
  pointwise [val_main_v35, val_main_v34, val_main_v33, val_main_v32, val_main_v31, val_main_v30, val_main_v29, val_main_v28,
    val_main_v27, val_main_v26, val_main_v25, val_main_v24, val_main_v23, val_main_v16, val_main_cst_2, val_main_cst_3, val_main_cst_4]
  simp only [row_at]
  rfl

/-- The latents. -/
theorem latent_at (r : Fin 16384) (d : Fin 256) :
    val_main_v70 (F := Ideal) x0 x1 x2 x5 (ix2 r d)
      = latent (fun d => row x0 x1 x2 ⟨r.val / 8192, by omega⟩ ⟨r.val % 8192, by omega⟩ ⟨384 + d.val, by omega⟩) (fun d => x5 (ix1 d)) d := by
  pointwise [val_main_v70]
  simp only [normed_at]

end Cert.ProjectPlainIdeal.Body
-- ==== Proof.Input.lean ====
/-
  The claims about the input projection.
-/
module

public import proofs.«01_k».proof.Defs
public import proofs.«01_k».proof.Proof.Gen.Project
public import proofs.«01_k».proof.Proof.Gen.Project.Frame
public import proofs.«01_k».proof.Proof.Gen.ProjectPlainIdeal.Run
public import proofs.«01_k».proof.Proof.InputBlocks
public import proofs.«01_k».proof.Proof.InputRef

@[expose] public section

set_option maxRecDepth 16384

noncomputable section

namespace Cert.InputCall

open Idealize.ShloMosaic Idealize.ShloMosaic.TcCoe Idealize.SL.Sem Idealize.ShloMosaic.Tactic

theorem frame_p : Cert.quiescent_Project := fun m ρ _ => Cert.Project.Gen.frame m ρ

theorem frame_pi : Cert.quiescent_ProjectIdeal := fun m ρ _ => Cert.ProjectIdeal.Gen.frame m ρ

theorem frame_ri : Cert.quiescent_ProjectPlainIdeal := fun m ρ _ =>
  (θ_run Cert.ProjectPlainIdeal.defs _ _).mono (fun r h => ⟨fun c => (h c).2.2.2.2.2, sem_eq_zero_of_no_sems (by decide) r.2⟩)
    (Cert.ProjectPlainIdeal.Value.run (F := Ideal) m ρ)

theorem preserves : Cert.preserves_Project_ProjectIdeal := trivial

/-- A two-axis index from its coordinates. -/
theorem eta {n p : ℕ} (i : (⟨2, ![n, p]⟩ : Shape).Idx) : i = ix2 (i 0) (i 1) := funext fun a => match a with
  | ⟨0, _⟩ => rfl
  | ⟨1, _⟩ => rfl

open Cert.ProjectIdeal.Body in
theorem algebraic : Cert.algebraic_ProjectIdeal_ProjectPlainIdeal := by
  intro m g m' g' _ hm
  refine ⟨fun c => latents m c, fun c => ropes m c, fun c => pools m c, fun c => keys m c, fun c => values m c, ?_, ?_⟩
  · refine (θ_run Cert.ProjectIdeal.defs _ _).mono (fun r h c => ?_) (Cert.ProjectIdeal.Value.run_blocks (F := Ideal) m g)
    obtain ⟨h0, h1, _, _, h4, h5, h6, _, _, _, _, _, _, hargs⟩ := h c
    exact ⟨h0.trans (latents_eq m c), h1.trans (ropes_eq m c), h4.trans (pools_eq m c), h5.trans (keys_eq m c), h6.trans (values_eq m c), hargs⟩
  · refine (θ_run Cert.ProjectPlainIdeal.defs _ _).mono (fun r h c => ?_) (Cert.ProjectPlainIdeal.Value.run (F := Ideal) m' g')
    obtain ⟨e0, e1, e2, e3, e4, e5, e6⟩ := hm c
    obtain ⟨h0, h1, h2, h3, h4, hargs⟩ := h c
    refine ⟨h0.trans ?_, h1.trans ?_, h2.trans ?_, h3.trans ?_, h4.trans ?_, hargs⟩
    · rw [Cert.ProjectPlainIdeal.Read.val_main_v70_eq, e0, e1, e2, e5]
      refine funext fun i => (congrArg _ (eta i)).trans ?_
      exact Cert.ProjectPlainIdeal.Body.latent_at (a0 m c) (a1 m c) (a2 m c) (a5 m c) (i 0) (i 1)
    · rw [Cert.ProjectPlainIdeal.Read.val_main_v71_eq, e0, e1, e2]
      refine funext fun i => (congrArg _ (eta i)).trans ?_
      exact Cert.ProjectPlainIdeal.Body.rope_at (a0 m c) (a1 m c) (a2 m c) (i 0) (i 1)
    · rw [Cert.ProjectPlainIdeal.Read.val_main_v72_eq, e0, e1, e2]
      refine funext fun i => (congrArg _ (eta i)).trans ?_
      exact Cert.ProjectPlainIdeal.Body.pool_at (a0 m c) (a1 m c) (a2 m c) (i 0) (i 1)
    · rw [Cert.ProjectPlainIdeal.Read.val_main_v73_eq, e0, e1, e2]
      refine funext fun i => (congrArg _ (eta i)).trans ?_
      exact Cert.ProjectPlainIdeal.Body.keys_at (a0 m c) (a1 m c) (a2 m c) (i 0) (i 1)
    · rw [Cert.ProjectPlainIdeal.Read.val_main_v74_eq, e0, e1, e2]
      refine funext fun i => (congrArg _ (eta i)).trans ?_
      exact Cert.ProjectPlainIdeal.Body.values_at (a0 m c) (a1 m c) (a2 m c) (i 0) (i 1)

end Cert.InputCall
-- ==== Proof.MergeSampleBody.lean ====
/-
  What the body of the merge step leaves in its block at the samples' size, row by row.
-/
module

public import proofs.«01_k».proof.Proof.MergeBody
public import proofs.«01_k».proof.Proof.Gen.MergeSampleIdeal.Value

@[expose] public section

set_option maxRecDepth 16384

noncomputable section

namespace Cert.MergeSampleIdeal.Body

open Cert.MergeSampleIdeal Cert.MergeSampleIdeal.Gen Idealize.ShloMosaic Idealize.ShloMosaic.TcCoe Idealize.ShloMosaic.Tactic
open Cert.Rows

variable (x : Vec Ideal S128x1024 .f32) (g : Vec Ideal S1x1024 .f32) (h : FVec Ideal S128x1024 .bf16) (wz : Vec Ideal S1024x512 .bf16)
  (wg : Vec Ideal S1024x1024 .bf16) (o : Vec Ideal S128x512 .f32) (w : Vec Ideal S1x512x1024 .bf16) (r : Fin 128) (d : Fin 1024)

/-- A branch, of the blocks the body reads for it. -/
abbrev one (h : Fin 1024 → EReal) : EReal :=
  branch h (fun k n => wz (ix2 k n)) (fun k n => wg (ix2 k n)) (fun n => o (ix2 r n)) (fun n d => w (ix3 0 n d)) d

theorem norm_at : k0_pay3 x g (ix2 r d) = norm (fun k => x (ix2 r k)) (fun k => g (ix2 0 k)) d := by
  pointwise [k0_pay3, k0_pay2]
  rfl

theorem first_at : k0_pay8 (k0_pay4 (F := Ideal)) (k0_pay5 x g wz o) (k0_pay6 x g wg) (k0_pay7 (F := Ideal)) w (ix2 r d)
    = one wz wg o w r d (norm (fun k => x (ix2 r k)) (fun k => g (ix2 0 k))) := by
  pointwise [k0_pay8, k0_pay4, k0_pay5, k0_pay6, k0_pay7]
  simp only [norm_at, zero_sub, zero_add]
  rfl

theorem second_at : k0_pay9 h wz wg o w (ix2 r d) = one wz wg o w r d (fun k => h (ix2 r k)) := by
  pointwise [k0_pay9]
  simp only [zero_sub]
  rfl

theorem third_at (a b : FVec Ideal S128x1024 .f32) :
    k0_pay10 h a b wz wg o w (ix2 r d) = a (ix2 r d) + b (ix2 r d) + one wz wg o w r d (fun k => h (ix2 r k)) := by
  pointwise [k0_pay10]
  simp only [zero_sub]
  rfl

theorem last_at (a : FVec Ideal S128x1024 .f32) (wo : Vec Ideal S1024x1024 .bf16) (f : Vec Ideal S1x1024 .f32) :
    k0_pay1 (k0_pay13 f) (k0_pay14 (k0_pay2 x) a (k0_pay11 h wz) (k0_pay12 h wg) o w wo) (ix2 r d)
      = norm (fun d => x (ix2 r d) + times (fun k => a (ix2 r k) + one wz wg o w r k (fun k => h (ix2 r k))) (fun k d => wo (ix2 k d)) d)
          (fun k => f (ix2 0 k)) d := by
  pointwise [k0_pay1, k0_pay13, k0_pay14, k0_pay2, k0_pay11, k0_pay12]
  simp only [zero_sub]
  rfl

/-- A branch, of the arrays it is read from. -/
theorem one_at (y2 : Vec Ideal S1024x2048 .bf16) (y3 : Vec Ideal S1024x4096 .bf16) (y4 : Vec Ideal S4x512x1024 .bf16) (b : Fin 4) (oz og : ℕ)
    (hz : oz = b.val * 512) (hg : og = b.val * 1024) (iz ig ib) (h : Fin 1024 → EReal) :
    one (View.ld y2 (Rect.unit (s := S1024x2048) ![0, oz] S1024x512.size iz)) (View.ld y3 (Rect.unit (s := S1024x4096) ![0, og] S1024x1024.size ig)) o
        (View.ld y4 (Rect.unit (s := S4x512x1024) ![b.val, 0, 0] S1x512x1024.size ib)) r d h
      = branch h (fun k n => y2 (ix2 k ⟨b.val * 512 + n.val, by omega⟩)) (fun k n => y3 (ix2 k ⟨b.val * 1024 + n.val, by omega⟩))
          (fun n => o (ix2 r n)) (fun n d => y4 (ix3 b n d)) d := by
  subst hz hg
  have e2 : (fun (k : Fin 1024) (n : Fin 512) => View.ld y2 (Rect.unit (s := S1024x2048) ![0, b.val * 512] S1024x512.size iz) (ix2 k n))
      = fun k n => y2 (ix2 k ⟨b.val * 512 + n.val, by omega⟩) := funext fun k => funext fun n => Cert.MergeIdeal.Body.cols_at y2 _ iz k n _
  have e3 : (fun (k : Fin 1024) (n : Fin 1024) => View.ld y3 (Rect.unit (s := S1024x4096) ![0, b.val * 1024] S1024x1024.size ig) (ix2 k n))
      = fun k n => y3 (ix2 k ⟨b.val * 1024 + n.val, by omega⟩) := funext fun k => funext fun n => Cert.MergeIdeal.Body.cols_at y3 _ ig k n _
  have e4 : (fun (n : Fin 512) (d : Fin 1024) => View.ld y4 (Rect.unit (s := S4x512x1024) ![b.val, 0, 0] S1x512x1024.size ib) (ix3 0 n d))
      = fun n d => y4 (ix3 b n d) := funext fun n => funext fun d => Cert.MergeIdeal.Body.plane_at y4 b ib n d
  unfold one
  rw [e2, e3, e4]

/-- A row of the block the body leaves. -/
theorem row_at (x0 : Vec Ideal S128x1024 .f32) (x1 : Vec Ideal S1x1024 .f32) (x2 : Vec Ideal S1024x2048 .bf16) (x3 : Vec Ideal S1024x4096 .bf16)
    (x4 : Vec Ideal S4x512x1024 .bf16) (x5 : Vec Ideal S1024x1024 .bf16) (x6 : Vec Ideal S1x1024 .f32)
    (x7 x8 x9 x10 : Vec Ideal S128x512 .f32) :
    out0_11 x0 x1 x2 x3 x4 x5 x6 x7 x8 x9 x10 (ix2 r d)
      = merged (fun k => x0 (ix2 r k)) (fun k => x1 (ix2 0 k)) (fun b k n => x2 (ix2 k ⟨b.val * 512 + n.val, by omega⟩))
          (fun b k n => x3 (ix2 k ⟨b.val * 1024 + n.val, by omega⟩)) (fun b n => ![x7, x8, x9, x10] b (ix2 r n)) (fun b n d => x4 (ix3 b n d))
          (fun k d => x5 (ix2 k d)) (fun k => x6 (ix2 0 k)) d := by
  have l0 : View.ld x0 r0_0 = x0 := View.ld_unit_zero Cert.MergeIdeal.Body.hz2 _ _
  have l1 : View.ld x1 r0_1 = x1 := View.ld_unit_zero Cert.MergeIdeal.Body.hz2 _ _
  have l5 : View.ld x5 r0_15 = x5 := View.ld_unit_zero Cert.MergeIdeal.Body.hz2 _ _
  have l6 : View.ld x6 r0_1 = x6 := View.ld_unit_zero Cert.MergeIdeal.Body.hz2 _ _
  have l7 : View.ld x7 r0_4 = x7 := View.ld_unit_zero Cert.MergeIdeal.Body.hz2 _ _
  have l8 : View.ld x8 r0_4 = x8 := View.ld_unit_zero Cert.MergeIdeal.Body.hz2 _ _
  have l9 : View.ld x9 r0_4 = x9 := View.ld_unit_zero Cert.MergeIdeal.Body.hz2 _ _
  have l10 : View.ld x10 r0_4 = x10 := View.ld_unit_zero Cert.MergeIdeal.Body.hz2 _ _
  have hn : (fun k => k0_pay3 x0 x1 (ix2 r k)) = norm (fun k => x0 (ix2 r k)) (fun k => x1 (ix2 0 k)) := funext fun k => norm_at x0 x1 r k
  unfold out0_11 k0_pay15
  rw [View.canon_unit_zero Cert.MergeIdeal.Body.hz2, l0, l1, l5, l6, l7, l8, l9, l10, last_at]
  unfold merged
  refine congrArg (fun y => norm y (fun k => x6 (ix2 0 k)) d) (funext fun e => congrArg (fun a => x0 (ix2 r e) + times a (fun k d => x5 (ix2 k d)) e)
    (funext fun k => ?_))
  rw [third_at, second_at, first_at, hn, Fin.sum_univ_four]
  refine congrArg₂ (· + ·) (congrArg₂ (· + ·) (congrArg₂ (· + ·) ?_ ?_) ?_) ?_
  · exact one_at x7 r k x2 x3 x4 0 0 0 rfl rfl _ _ _ _
  · exact one_at x8 r k x2 x3 x4 1 512 1024 rfl rfl _ _ _ _
  · exact one_at x9 r k x2 x3 x4 2 1024 2048 rfl rfl _ _ _ _
  · exact one_at x10 r k x2 x3 x4 3 1536 3072 rfl rfl _ _ _ _

end Cert.MergeSampleIdeal.Body
-- ==== Proof.MergeSampleBlocks.lean ====
/-
  The merge step at the samples' size: what the host code hands over, what the one grid point works on, and the array that comes out.
-/
module

public import proofs.«01_k».proof.Proof.MergeSampleBody
public import Idealize.ShloMosaic.Lib.StableHlo.ReadAt

@[expose] public section

set_option maxRecDepth 16384

noncomputable section

namespace Cert.MergeSampleIdeal.Body

open Cert.MergeSampleIdeal Cert.MergeSampleIdeal.Gen Cert.MergeSampleIdeal.Value Idealize.ShloMosaic Idealize.ShloMosaic.TcCoe Idealize.ShloMosaic.Tactic
open Cert.Rows

variable (m : (ℓ : Loc nD τ sig) → Buf (Elt Ideal) ℓ) (c : Dev nD)

/-- The arguments. -/
abbrev a0 : S128x1x1024.Idx → EReal := m ((c : Thread nD τ).loc main_arg0)
abbrev a1 : S1024.Idx → EReal := m ((c : Thread nD τ).loc main_arg1)
abbrev a2 : S1024x8608.Idx → EReal := m ((c : Thread nD τ).loc main_arg2)
abbrev a3 : S4x512x1024.Idx → EReal := m ((c : Thread nD τ).loc main_arg3)
abbrev a4 : S1024x1024.Idx → EReal := m ((c : Thread nD τ).loc main_arg4)
abbrev a5 : S1024.Idx → EReal := m ((c : Thread nD τ).loc main_arg5)
abbrev a6 : S128x512.Idx → EReal := m ((c : Thread nD τ).loc main_arg6)
abbrev a7 : S128x512.Idx → EReal := m ((c : Thread nD τ).loc main_arg7)
abbrev a8 : S128x512.Idx → EReal := m ((c : Thread nD τ).loc main_arg8)
abbrev a9 : S128x512.Idx → EReal := m ((c : Thread nD τ).loc main_arg9)

theorem rows_at (t : Fin 128) (k : Fin 1024) :
    V m c main_v7 (ix2 t k) = a0 m c (ix3 t 0 k) := by
  unfold V hostOps0
  after_reads_at

theorem gains_at (k : Fin 1024) : V m c main_v0 (ix2 0 k) = a1 m c (ix1 k) := by
  unfold V hostOps0
  after_reads_at

theorem inner_at (k : Fin 1024) (n : Fin 2048) : V m c main_v2 (ix2 k n) = a2 m c (ix2 k ⟨2464 + n.val, by omega⟩) := by
  unfold V hostOps0
  after_reads_at

theorem outer_at (k : Fin 1024) (n : Fin 4096) : V m c main_v4 (ix2 k n) = a2 m c (ix2 k ⟨4512 + n.val, by omega⟩) := by
  unfold V hostOps0
  after_reads_at

theorem weights_at (b : Fin 4) (n : Fin 512) (d : Fin 1024) : V m c main_v5 (ix3 b n d) = a3 m c (ix3 b n d) := by
  unfold V hostOps0
  after_reads_at

theorem out_weights_at (k d : Fin 1024) : V m c main_v6 (ix2 k d) = a4 m c (ix2 k d) := by
  unfold V hostOps0
  after_reads_at

theorem last_gains_at (k : Fin 1024) : V m c main_v8 (ix2 0 k) = a5 m c (ix1 k) := by
  unfold V hostOps0
  after_reads_at

theorem idx0 : ∀ t : Fin cfg0.N, win0_0.index t 0 = 0 ∧ win0_0.index t 1 = 0 :=
  (by decide +kernel : ∀ t : Fin grid0.N, win0_0.index t 0 = 0 ∧ win0_0.index t 1 = 0)

theorem idx1 : ∀ t : Fin cfg0.N, win0_1.index t 0 = 0 ∧ win0_1.index t 1 = 0 :=
  (by decide +kernel : ∀ t : Fin grid0.N, win0_1.index t 0 = 0 ∧ win0_1.index t 1 = 0)

theorem idx2 : ∀ t : Fin cfg0.N, win0_2.index t 0 = 0 ∧ win0_2.index t 1 = 0 :=
  (by decide +kernel : ∀ t : Fin grid0.N, win0_2.index t 0 = 0 ∧ win0_2.index t 1 = 0)

theorem idx3 : ∀ t : Fin cfg0.N, win0_3.index t 0 = 0 ∧ win0_3.index t 1 = 0 :=
  (by decide +kernel : ∀ t : Fin grid0.N, win0_3.index t 0 = 0 ∧ win0_3.index t 1 = 0)

theorem idx4 : ∀ t : Fin cfg0.N, win0_4.index t 0 = 0 ∧ win0_4.index t 1 = 0 ∧ win0_4.index t 2 = 0 :=
  (by decide +kernel : ∀ t : Fin grid0.N, win0_4.index t 0 = 0 ∧ win0_4.index t 1 = 0 ∧ win0_4.index t 2 = 0)

theorem idx5 : ∀ t : Fin cfg0.N, win0_5.index t 0 = 0 ∧ win0_5.index t 1 = 0 :=
  (by decide +kernel : ∀ t : Fin grid0.N, win0_5.index t 0 = 0 ∧ win0_5.index t 1 = 0)

theorem idx6 : ∀ t : Fin cfg0.N, win0_6.index t 0 = 0 ∧ win0_6.index t 1 = 0 :=
  (by decide +kernel : ∀ t : Fin grid0.N, win0_6.index t 0 = 0 ∧ win0_6.index t 1 = 0)

theorem idx7 : ∀ t : Fin cfg0.N, win0_7.index t 0 = 0 ∧ win0_7.index t 1 = 0 :=
  (by decide +kernel : ∀ t : Fin grid0.N, win0_7.index t 0 = 0 ∧ win0_7.index t 1 = 0)

theorem idx8 : ∀ t : Fin cfg0.N, win0_8.index t 0 = 0 ∧ win0_8.index t 1 = 0 :=
  (by decide +kernel : ∀ t : Fin grid0.N, win0_8.index t 0 = 0 ∧ win0_8.index t 1 = 0)

theorem idx9 : ∀ t : Fin cfg0.N, win0_9.index t 0 = 0 ∧ win0_9.index t 1 = 0 :=
  (by decide +kernel : ∀ t : Fin grid0.N, win0_9.index t 0 = 0 ∧ win0_9.index t 1 = 0)

theorem idx10 : ∀ t : Fin cfg0.N, win0_10.index t 0 = 0 ∧ win0_10.index t 1 = 0 :=
  (by decide +kernel : ∀ t : Fin grid0.N, win0_10.index t 0 = 0 ∧ win0_10.index t 1 = 0)

theorem idx11 : ∀ t : Fin cfg0.N, win0_11.index t 0 = 0 ∧ win0_11.index t 1 = 0 :=
  (by decide +kernel : ∀ t : Fin grid0.N, win0_11.index t 0 = 0 ∧ win0_11.index t 1 = 0)

theorem rows_blk (t : Fin cfg0.N) (r : Fin 128) (k : Fin 1024) :
    (iblk m c 0 t : Vec Ideal S128x1024 .f32) (ix2 r k) = a0 m c (ix3 r 0 k) := by
  have hi := idx0 t
  refine Eq.trans ?_ (rows_at m c r k)
  unfold iblk
  rw [View.read_apply]
  show V m c main_v7 _ = V m c main_v7 _
  congr 1
  funext a
  apply Fin.ext
  match a with
  | ⟨0, _⟩ => show win0_0.index t 0 * 128 + 1 * r.val = r.val; rw [hi.1]; omega
  | ⟨1, _⟩ => show win0_0.index t 1 * 1024 + 1 * k.val = k.val; rw [hi.2]; omega

theorem gains_blk (t : Fin cfg0.N) (k : Fin 1024) :
    (iblk m c 1 t : Vec Ideal S1x1024 .f32) (ix2 0 k) = a1 m c (ix1 k) := by
  have hi := idx1 t
  refine Eq.trans ?_ (gains_at m c k)
  unfold iblk
  rw [View.read_apply]
  show V m c main_v0 _ = V m c main_v0 _
  congr 1
  funext a
  apply Fin.ext
  match a with
  | ⟨0, _⟩ => show win0_1.index t 0 * 1 + 1 * 0 = 0; rw [hi.1]
  | ⟨1, _⟩ => show win0_1.index t 1 * 1024 + 1 * k.val = k.val; rw [hi.2]; omega

theorem inner_blk (t : Fin cfg0.N) (k : Fin 1024) (n : Fin 2048) :
    (iblk m c 2 t : Vec Ideal S1024x2048 .bf16) (ix2 k n) = a2 m c (ix2 k ⟨2464 + n.val, by omega⟩) := by
  have hi := idx2 t
  refine Eq.trans ?_ (inner_at m c k n)
  unfold iblk
  rw [View.read_apply]
  show V m c main_v2 _ = V m c main_v2 _
  congr 1
  funext a
  apply Fin.ext
  match a with
  | ⟨0, _⟩ => show win0_2.index t 0 * 1024 + 1 * k.val = k.val; rw [hi.1]; omega
  | ⟨1, _⟩ => show win0_2.index t 1 * 2048 + 1 * n.val = n.val; rw [hi.2]; omega

theorem outer_blk (t : Fin cfg0.N) (k : Fin 1024) (n : Fin 4096) :
    (iblk m c 3 t : Vec Ideal S1024x4096 .bf16) (ix2 k n) = a2 m c (ix2 k ⟨4512 + n.val, by omega⟩) := by
  have hi := idx3 t
  refine Eq.trans ?_ (outer_at m c k n)
  unfold iblk
  rw [View.read_apply]
  show V m c main_v4 _ = V m c main_v4 _
  congr 1
  funext a
  apply Fin.ext
  match a with
  | ⟨0, _⟩ => show win0_3.index t 0 * 1024 + 1 * k.val = k.val; rw [hi.1]; omega
  | ⟨1, _⟩ => show win0_3.index t 1 * 4096 + 1 * n.val = n.val; rw [hi.2]; omega

theorem weights_blk (t : Fin cfg0.N) (b : Fin 4) (n : Fin 512) (d : Fin 1024) :
    (iblk m c 4 t : Vec Ideal S4x512x1024 .bf16) (ix3 b n d) = a3 m c (ix3 b n d) := by
  have hi := idx4 t
  refine Eq.trans ?_ (weights_at m c b n d)
  unfold iblk
  rw [View.read_apply]
  show V m c main_v5 _ = V m c main_v5 _
  congr 1
  funext a
  apply Fin.ext
  match a with
  | ⟨0, _⟩ => show win0_4.index t 0 * 4 + 1 * b.val = b.val; rw [hi.1]; omega
  | ⟨1, _⟩ => show win0_4.index t 1 * 512 + 1 * n.val = n.val; rw [hi.2.1]; omega
  | ⟨2, _⟩ => show win0_4.index t 2 * 1024 + 1 * d.val = d.val; rw [hi.2.2]; omega

theorem out_weights_blk (t : Fin cfg0.N) (k : Fin 1024) (d : Fin 1024) :
    (iblk m c 5 t : Vec Ideal S1024x1024 .bf16) (ix2 k d) = a4 m c (ix2 k d) := by
  have hi := idx5 t
  refine Eq.trans ?_ (out_weights_at m c k d)
  unfold iblk
  rw [View.read_apply]
  show V m c main_v6 _ = V m c main_v6 _
  congr 1
  funext a
  apply Fin.ext
  match a with
  | ⟨0, _⟩ => show win0_5.index t 0 * 1024 + 1 * k.val = k.val; rw [hi.1]; omega
  | ⟨1, _⟩ => show win0_5.index t 1 * 1024 + 1 * d.val = d.val; rw [hi.2]; omega

theorem last_gains_blk (t : Fin cfg0.N) (k : Fin 1024) :
    (iblk m c 6 t : Vec Ideal S1x1024 .f32) (ix2 0 k) = a5 m c (ix1 k) := by
  have hi := idx6 t
  refine Eq.trans ?_ (last_gains_at m c k)
  unfold iblk
  rw [View.read_apply]
  show V m c main_v8 _ = V m c main_v8 _
  congr 1
  funext a
  apply Fin.ext
  match a with
  | ⟨0, _⟩ => show win0_6.index t 0 * 1 + 1 * 0 = 0; rw [hi.1]
  | ⟨1, _⟩ => show win0_6.index t 1 * 1024 + 1 * k.val = k.val; rw [hi.2]; omega

theorem values0_blk (t : Fin cfg0.N) (r : Fin 128) (n : Fin 512) :
    (iblk m c 7 t : Vec Ideal S128x512 .f32) (ix2 r n) = a6 m c (ix2 r n) := by
  have hi := idx7 t
  refine Eq.trans ?_ (congrFun (V_main_arg6 m c) _)
  unfold iblk
  rw [View.read_apply]
  show V m c main_arg6 _ = V m c main_arg6 _
  congr 1
  funext a
  apply Fin.ext
  match a with
  | ⟨0, _⟩ => show win0_7.index t 0 * 128 + 1 * r.val = r.val; rw [hi.1]; omega
  | ⟨1, _⟩ => show win0_7.index t 1 * 512 + 1 * n.val = n.val; rw [hi.2]; omega

theorem values1_blk (t : Fin cfg0.N) (r : Fin 128) (n : Fin 512) :
    (iblk m c 8 t : Vec Ideal S128x512 .f32) (ix2 r n) = a7 m c (ix2 r n) := by
  have hi := idx8 t
  refine Eq.trans ?_ (congrFun (V_main_arg7 m c) _)
  unfold iblk
  rw [View.read_apply]
  show V m c main_arg7 _ = V m c main_arg7 _
  congr 1
  funext a
  apply Fin.ext
  match a with
  | ⟨0, _⟩ => show win0_8.index t 0 * 128 + 1 * r.val = r.val; rw [hi.1]; omega
  | ⟨1, _⟩ => show win0_8.index t 1 * 512 + 1 * n.val = n.val; rw [hi.2]; omega

theorem values2_blk (t : Fin cfg0.N) (r : Fin 128) (n : Fin 512) :
    (iblk m c 9 t : Vec Ideal S128x512 .f32) (ix2 r n) = a8 m c (ix2 r n) := by
  have hi := idx9 t
  refine Eq.trans ?_ (congrFun (V_main_arg8 m c) _)
  unfold iblk
  rw [View.read_apply]
  show V m c main_arg8 _ = V m c main_arg8 _
  congr 1
  funext a
  apply Fin.ext
  match a with
  | ⟨0, _⟩ => show win0_9.index t 0 * 128 + 1 * r.val = r.val; rw [hi.1]; omega
  | ⟨1, _⟩ => show win0_9.index t 1 * 512 + 1 * n.val = n.val; rw [hi.2]; omega

theorem values3_blk (t : Fin cfg0.N) (r : Fin 128) (n : Fin 512) :
    (iblk m c 10 t : Vec Ideal S128x512 .f32) (ix2 r n) = a9 m c (ix2 r n) := by
  have hi := idx10 t
  refine Eq.trans ?_ (congrFun (V_main_arg9 m c) _)
  unfold iblk
  rw [View.read_apply]
  show V m c main_arg9 _ = V m c main_arg9 _
  congr 1
  funext a
  apply Fin.ext
  match a with
  | ⟨0, _⟩ => show win0_10.index t 0 * 128 + 1 * r.val = r.val; rw [hi.1]; omega
  | ⟨1, _⟩ => show win0_10.index t 1 * 512 + 1 * n.val = n.val; rw [hi.2]; omega

theorem flushes : ∀ t : Fin cfg0.N, (cfg0.win 11).flush t = true :=
  (by decide +kernel : ∀ t : Fin grid0.N, win0_11.flush t = true)

/-- The merge step's result, of its arguments. -/
abbrev result : S128x1024.Idx → EReal := fun i =>
  merged (fun k => a0 m c (ix3 (i 0) 0 k))
    (fun k => a1 m c (ix1 k)) (fun b k n => a2 m c (ix2 k ⟨2464 + (b.val * 512 + n.val), by omega⟩))
    (fun b k n => a2 m c (ix2 k ⟨4512 + (b.val * 1024 + n.val), by omega⟩))
    (fun b n => ![a6 m c, a7 m c, a8 m c, a9 m c] b (ix2 (i 0) n)) (fun b n d => a3 m c (ix3 b n d)) (fun k d => a4 m c (ix2 k d))
    (fun k => a5 m c (ix1 k)) (i 1)

/-- What a grid point leaves is its rows of the result. -/
theorem block_eq (t : Fin cfg0.N) (r : Fin 128) (d : Fin 1024) :
    out0_11 (iblk m c 0 t) (iblk m c 1 t) (iblk m c 2 t) (iblk m c 3 t) (iblk m c 4 t) (iblk m c 5 t) (iblk m c 6 t) (iblk m c 7 t) (iblk m c 8 t)
        (iblk m c 9 t) (iblk m c 10 t) (ix2 r d)
      = result m c (ix2 r d) := by
  rw [row_at]
  have ho : (fun (b : Fin 4) (n : Fin 512) => ![(iblk m c 7 t : Vec Ideal S128x512 .f32), iblk m c 8 t, iblk m c 9 t, iblk m c 10 t] b (ix2 r n))
      = fun b n => ![a6 m c, a7 m c, a8 m c, a9 m c] b (ix2 r n) := by
    funext b n
    match b with
    | ⟨0, _⟩ => exact values0_blk m c t r n
    | ⟨1, _⟩ => exact values1_blk m c t r n
    | ⟨2, _⟩ => exact values2_blk m c t r n
    | ⟨3, _⟩ => exact values3_blk m c t r n
  rw [ho]
  simp only [rows_blk, gains_blk, inner_blk, outer_blk, weights_blk, out_weights_blk, last_gains_blk]
  rfl

/-- The array that comes out. -/
theorem output_eq : (dats m 0 c).arrAt 11 cfg0.N = result m c := by
  refine (dats m 0 c).arrAt_eq_of_cover 11 (result m c) (fun t _ => ?_) fun i => ?_
  · rw [flushed11]
    funext y
    have hi := idx11 t
    refine Eq.trans ?_ (Eq.trans (block_eq m c t (y 0) (y 1)) ?_)
    · show out0_11 _ _ _ _ _ _ _ _ _ _ _ _ = out0_11 _ _ _ _ _ _ _ _ _ _ _ _
      congr 1
      funext a
      match a with
      | ⟨0, _⟩ => rfl
      | ⟨1, _⟩ => rfl
    · rw [View.read_apply]
      show result m c _ = result m c _
      congr 1
      funext a
      apply Fin.ext
      match a with
      | ⟨0, _⟩ => show (y 0).val = win0_11.index t 0 * 128 + 1 * (y 0).val; rw [hi.1]; omega
      | ⟨1, _⟩ => show (y 1).val = win0_11.index t 1 * 1024 + 1 * (y 1).val; rw [hi.2]; omega
  · have h0 : (i 0 : Nat) < 128 := (i 0).isLt
    have h1 : (i 1 : Nat) < 1024 := (i 1).isLt
    have hN : cfg0.N = 1 := rfl
    obtain ⟨p, _⟩ : ∃ p : Fin cfg0.N, p.val = 0 := ⟨⟨0, by rw [hN]; omega⟩, rfl⟩
    refine ⟨p, flushes p, ?_⟩
    have hi := idx11 p
    show i ∈ ((View.whole main_v9).slice (win0_11.rect p)).set
    rw [View.set_slice_whole, Rect.mem_set_unit]
    intro a
    match a with
    | ⟨0, _⟩ =>
      show win0_11.index p 0 * 128 ≤ (i 0 : Nat) ∧ (i 0 : Nat) < win0_11.index p 0 * 128 + 128
      rw [hi.1]
      omega
    | ⟨1, _⟩ =>
      show win0_11.index p 1 * 1024 ≤ (i 1 : Nat) ∧ (i 1 : Nat) < win0_11.index p 1 * 1024 + 1024
      rw [hi.2]
      omega

end Cert.MergeSampleIdeal.Body
-- ==== Proof.MergeSampleRef.lean ====
/-
  The reference of the merge step at the samples' size, row by row.
-/
module

public import proofs.«01_k».proof.Proof.Rows
public import proofs.«01_k».proof.Proof.Gen.MergeSamplePlainIdeal.Read
public import Idealize.ShloMosaic.Lib.KernelVsHost

@[expose] public section

set_option maxRecDepth 16384

noncomputable section

namespace Cert.MergeSamplePlainIdeal.Body

open Cert.MergeSamplePlainIdeal Cert.MergeSamplePlainIdeal.Gen Cert.MergeSamplePlainIdeal.Read Idealize.ShloMosaic Idealize.ShloMosaic.TcCoe Idealize.ShloMosaic.Tactic
open Cert.Rows

variable (x0 : S128x1x1024.Idx → EReal) (x1 : S1024.Idx → EReal) (x2 : S1024x8608.Idx → EReal) (x3 : S4x512x1024.Idx → EReal)
  (x4 : S1024x1024.Idx → EReal) (x5 : S1024.Idx → EReal) (x6 x7 x8 x9 : S128x512.Idx → EReal) (t : Fin 128)

/-- A row of the input. -/
abbrev row (k : Fin 1024) : EReal := x0 (ix3 t 0 k)

theorem norm_at (k : Fin 1024) : val_main_v13 (F := Ideal) x0 x1 (ix2 t k) = norm (row x0 t) (fun k => x1 (ix1 k)) k := by
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]
  rfl

theorem inner_at (b : Fin 4) (n : Fin 512) :
    val_main_v16 (F := Ideal) x0 x1 x2 (ix3 t b n)
      = times (norm (row x0 t) (fun k => x1 (ix1 k))) (fun k n => x2 (ix2 k ⟨2464 + (b.val * 512 + n.val), by omega⟩)) n := by
  pointwise [val_main_v16, val_main_v15, val_main_v14]
  simp only [norm_at]
  rfl

theorem outer_at (b : Fin 4) (d : Fin 1024) :
    val_main_v19 (F := Ideal) x0 x1 x2 (ix3 t b d)
      = times (norm (row x0 t) (fun k => x1 (ix1 k))) (fun k n => x2 (ix2 k ⟨4512 + (b.val * 1024 + n.val), by omega⟩)) d := by
  pointwise [val_main_v19, val_main_v18, val_main_v17]
  simp only [norm_at]
  rfl

theorem stacked_at (b : Fin 4) (n : Fin 512) : val_main_v24 (F := Ideal) x6 x7 x8 x9 (ix3 t b n) = ![x6, x7, x8, x9] b (ix2 t n) := by
  match b with
  | ⟨0, _⟩ =>
    pointwise [val_main_v24, val_main_v20, val_main_v21, val_main_v22, val_main_v23]
  | ⟨1, _⟩ =>
    pointwise [val_main_v24, val_main_v20, val_main_v21, val_main_v22, val_main_v23]
  | ⟨2, _⟩ =>
    pointwise [val_main_v24, val_main_v20, val_main_v21, val_main_v22, val_main_v23]
  | ⟨3, _⟩ =>
    pointwise [val_main_v24, val_main_v20, val_main_v21, val_main_v22, val_main_v23]

/-- A branch of a row. -/
abbrev one (b : Fin 4) (d : Fin 1024) : EReal :=
  branch (norm (row x0 t) (fun k => x1 (ix1 k))) (fun k n => x2 (ix2 k ⟨2464 + (b.val * 512 + n.val), by omega⟩))
    (fun k n => x2 (ix2 k ⟨4512 + (b.val * 1024 + n.val), by omega⟩)) (fun n => ![x6, x7, x8, x9] b (ix2 t n)) (fun n d => x3 (ix3 b n d)) d

theorem branch_at (b : Fin 4) (d : Fin 1024) :
    val_main_v35 (F := Ideal) x0 x1 x2 x3 x6 x7 x8 x9 (ix3 t b d) = one x0 x1 x2 x3 x6 x7 x8 x9 t b d := by
  pointwise [val_main_v35, val_main_v34, val_main_v33, val_main_v32, val_main_v31, val_main_v30, val_main_v29, val_main_v28, val_main_v27, val_main_v26,
    val_main_v25, val_main_call0_v5, val_main_call0_v4, val_main_call0_v3, val_main_call0_v2, val_main_call0_v1, val_main_call0_v0,
    val_main_call0_cst, val_main_call0_cst_0, val_main_cst_2, val_main_cst_3]
  simp only [inner_at, outer_at, stacked_at]
  unfold one branch gate
  refine congrArg (_ * ·) (Finset.sum_congr rfl fun n _ => mul_comm _ _)

theorem summed_at (d : Fin 1024) :
    val_main_v39 (F := Ideal) x0 x1 x2 x3 x4 x6 x7 x8 x9 (ix2 t d)
      = row x0 t d + times (fun k => ∑ b, one x0 x1 x2 x3 x6 x7 x8 x9 t b k) (fun k d => x4 (ix2 k d)) d := by
  pointwise [val_main_v39, val_main_v38, val_main_v37, val_main_v36, val_main_cst_4]
  simp only [branch_at]
  rfl

/-- The reference's result. -/
theorem result_at (d : Fin 1024) :
    val_main_v52 (F := Ideal) x0 x1 x2 x3 x4 x5 x6 x7 x8 x9 (ix2 t d)
      = merged (row x0 t) (fun k => x1 (ix1 k)) (fun b k n => x2 (ix2 k ⟨2464 + (b.val * 512 + n.val), by omega⟩))
          (fun b k n => x2 (ix2 k ⟨4512 + (b.val * 1024 + n.val), by omega⟩)) (fun b n => ![x6, x7, x8, x9] b (ix2 t n)) (fun b n d => x3 (ix3 b n d))
          (fun k d => x4 (ix2 k d)) (fun k => x5 (ix1 k)) d := by
  pointwise [val_main_v52, val_main_v51, val_main_v50, val_main_v49, val_main_v48, val_main_v47, val_main_v46, val_main_v45, val_main_v44,
    val_main_v43, val_main_v42, val_main_v41, val_main_v40, val_main_cst_5, val_main_cst_6, val_main_cst_7]
  simp only [summed_at]
  rfl

end Cert.MergeSamplePlainIdeal.Body
-- ==== Proof.JoinSample.lean ====
/-
  The claims about the step that merges the branches, at the samples' size.
-/
module

public import proofs.«01_k».proof.Defs
public import proofs.«01_k».proof.Proof.Gen.MergeSample
public import proofs.«01_k».proof.Proof.Gen.MergeSample.Frame
public import proofs.«01_k».proof.Proof.Gen.MergeSamplePlainIdeal.Run
public import proofs.«01_k».proof.Proof.MergeSampleBlocks
public import proofs.«01_k».proof.Proof.MergeSampleRef

@[expose] public section

set_option maxRecDepth 16384

noncomputable section

namespace Cert.MergeSampleCall

open Idealize.ShloMosaic Idealize.ShloMosaic.TcCoe Idealize.SL.Sem Idealize.ShloMosaic.Tactic

theorem frame_p : Cert.quiescent_MergeSample := fun m ρ _ => Cert.MergeSample.Gen.frame m ρ

theorem frame_pi : Cert.quiescent_MergeSampleIdeal := fun m ρ _ => Cert.MergeSampleIdeal.Gen.frame m ρ

theorem frame_ri : Cert.quiescent_MergeSamplePlainIdeal := fun m ρ _ =>
  (θ_run Cert.MergeSamplePlainIdeal.defs _ _).mono (fun r h => ⟨fun c => (h c).2, sem_eq_zero_of_no_sems (by decide) r.2⟩)
    (Cert.MergeSamplePlainIdeal.Value.run (F := Ideal) m ρ)

theorem preserves : Cert.preserves_MergeSample_MergeSampleIdeal := trivial

theorem algebraic : Cert.algebraic_MergeSampleIdeal_MergeSamplePlainIdeal := by
  intro m g m' g' _ hm
  refine ⟨fun c => (Cert.MergeSampleIdeal.Gen.dats m 0 c).arrAt 11 Cert.MergeSampleIdeal.cfg0.N, Cert.MergeSampleIdeal.Value.run_blocks (F := Ideal) m g, ?_⟩
  refine (θ_run Cert.MergeSamplePlainIdeal.defs _ _).mono (fun r h c => ⟨(h c).1.trans ?_, (h c).2⟩) (Cert.MergeSamplePlainIdeal.Value.run (F := Ideal) m' g')
  obtain ⟨e0, e1, e2, e3, e4, e5, e6, e7, e8, e9⟩ := hm c
  rw [Cert.MergeSamplePlainIdeal.Read.val_main_v52_eq, e0, e1, e2, e3, e4, e5, e6, e7, e8, e9]
  refine Eq.trans (funext fun i => ?_) (Cert.MergeSampleIdeal.Body.output_eq m c).symm
  have e : i = ix2 (i 0) (i 1) := funext fun a => match a with
    | ⟨0, _⟩ => rfl
    | ⟨1, _⟩ => rfl
  refine (congrArg _ e).trans ?_
  exact Cert.MergeSamplePlainIdeal.Body.result_at (Cert.MergeSampleIdeal.Body.a0 m c) (Cert.MergeSampleIdeal.Body.a1 m c) (Cert.MergeSampleIdeal.Body.a2 m c)
    (Cert.MergeSampleIdeal.Body.a3 m c) (Cert.MergeSampleIdeal.Body.a4 m c) (Cert.MergeSampleIdeal.Body.a5 m c) (Cert.MergeSampleIdeal.Body.a6 m c)
    (Cert.MergeSampleIdeal.Body.a7 m c) (Cert.MergeSampleIdeal.Body.a8 m c) (Cert.MergeSampleIdeal.Body.a9 m c) (i 0) (i 1)

end Cert.MergeSampleCall
-- ==== Proof.InputSampleBody.lean ====
/-
  What the body of the samples' input projection leaves in its blocks, row by row.
-/
module

public import proofs.«01_k».proof.Proof.Turn
public import proofs.«01_k».proof.Proof.Gen.ProjectSampleIdeal.Frame

@[expose] public section

set_option maxRecDepth 16384

noncomputable section

namespace Cert.ProjectSampleIdeal.Body

open Cert.ProjectSampleIdeal Cert.ProjectSampleIdeal.Gen Idealize.ShloMosaic Idealize.ShloMosaic.TcCoe Idealize.ShloMosaic.Tactic
open Cert.Rows

variable (x : Vec Ideal S128x1024 .f32) (g : Vec Ideal S1x1024 .f32) (w : Vec Ideal S1024x2688 .bf16) (x3 : Vec Ideal S1x384 .f32)
  (kv : Vec Ideal S1x256 .f32) (x5 : Vec Ideal S384x1024 .bf16) (x6 : Vec Ideal S8x256x384 .bf16) (co si : Vec Ideal S128x256 .f32) (r : Fin 128)

theorem hz2 : (![0, 0] : Fin 2 → ℕ) = fun _ => 0 := funext fun a => match a with | ⟨0, _⟩ => rfl | ⟨1, _⟩ => rfl

/-- A row times the packed weights. -/
abbrev packed (e : Fin 2688) : EReal := times (norm (fun k => x (ix2 r k)) (fun k => g (ix2 0 k))) (fun k e => w (ix2 k e)) e

theorem packed_at (e : Fin 2688) : k0_pay1 x g w (ix2 r e) = packed x g w r e := by
  pointwise [k0_pay1]
  rfl

theorem whole_at (e : Fin 2688) : k0_pay27 x g w x3 kv x5 x6 co si (ix2 r e) = packed x g w r e := by
  unfold k0_pay27
  rw [View.ld_unit_zero hz2 _ _, View.ld_unit_zero hz2 _ _, View.ld_unit_zero hz2 _ _]
  exact packed_at x g w r e

theorem latent_at (d : Fin 256) :
    out0_9 x g w x3 kv x5 x6 co si (ix2 r d) = latent (fun d => packed x g w r ⟨384 + d.val, by omega⟩) (fun d => kv (ix2 0 d)) d := by
  unfold out0_9 k0_pay30
  rw [View.canon_unit_zero hz2, View.ld_unit_zero hz2 _ _, View.ld_unit_zero hz2 _ _, View.ld_unit_zero hz2 _ _, View.ld_unit_zero hz2 _ _]
  pointwise [k0_pay4]
  simp only [packed_at]
  rfl

theorem rope_at (d : Fin 32) :
    out0_10 x g w x3 kv x5 x6 co si (ix2 r d) = packed x g w r ⟨2432 + d.val, by omega⟩ * co (ix2 r ⟨d.val, by omega⟩)
      + packed x g w r ⟨2560 + d.val, by omega⟩ * si (ix2 r ⟨d.val, by omega⟩) := by
  unfold out0_10 k0_pay28 k0_pay29
  rw [View.canon_unit_zero hz2, View.ld_unit_zero hz2 _ _, View.ld_unit_zero hz2 _ _]
  pointwise [k0_pay6, k0_pay5, k0_pay2, k0_pay3]
  simp only [whole_at]

theorem pool_at (d : Fin 512) : out0_13 x g w x3 kv x5 x6 co si (ix2 r d) = packed x g w r ⟨640 + d.val, by omega⟩ := by
  unfold out0_13
  rw [View.canon_unit_zero hz2]
  pointwise [k0_pay22]
  simp only [whole_at]

theorem keys_at (d : Fin 128) : out0_14 x g w x3 kv x5 x6 co si (ix2 r d) = packed x g w r ⟨1664 + d.val, by omega⟩ := by
  unfold out0_14
  rw [View.canon_unit_zero hz2]
  pointwise [k0_pay23]
  simp only [whole_at]

theorem values_at (d : Fin 128) : out0_15 x g w x3 kv x5 x6 co si (ix2 r d) = packed x g w r ⟨1792 + d.val, by omega⟩ := by
  unfold out0_15
  rw [View.canon_unit_zero hz2]
  pointwise [k0_pay24]
  simp only [whole_at]

end Cert.ProjectSampleIdeal.Body
-- ==== Proof.InputSampleHost.lean ====
/-
  What the host code hands the samples' input projection: the rows, the gains, the packed weights and the rotary tables.
-/
module

public import proofs.«01_k».proof.Proof.Turn
public import proofs.«01_k».proof.Proof.Gen.ProjectSampleIdeal.Frame
public import Idealize.ShloMosaic.Lib.StableHlo.ReadAt

@[expose] public section

set_option maxRecDepth 16384

noncomputable section

namespace Cert.ProjectSampleIdeal.Body

open Cert.ProjectSampleIdeal Cert.ProjectSampleIdeal.Gen Idealize.ShloMosaic Idealize.ShloMosaic.TcCoe Idealize.ShloMosaic.Tactic
open Cert.Rows

/-- Columns taken at given places. -/
theorem take_at (x : S1024x32.Idx → EReal) (idx : IVec S32x1 32) (k : Fin 1024) (d j : Fin 32) (h : idx (ix2 d 0) = BitVec.ofNat 32 j.val) :
    Host.gather gather_S1024x32_S32x1_S1024x32_0_1_n_n_1_1_10241 x idx (ix2 k d) = x (ix2 k j) := by
  unfold Host.gather
  congr 1
  funext a
  refine Fin.ext ?_
  show gather_S1024x32_S32x1_S1024x32_0_1_n_n_1_1_10241.start (ix2 k d) idx a + gather_S1024x32_S32x1_S1024x32_0_1_n_n_1_1_10241.batchCoord (ix2 k d) a
    + gather_S1024x32_S32x1_S1024x32_0_1_n_n_1_1_10241.offCoord (ix2 k d) a = _
  match a with
  | ⟨0, _⟩ => show 0 + 0 + k.val = k.val; omega
  | ⟨1, _⟩ =>
    have i0 : ∀ h, gather_S1024x32_S32x1_S1024x32_0_1_n_n_1_1_10241.siIdx (ix2 k d) ⟨0, h⟩ = ix2 d 0 := fun h => by
      funext b; match b with
        | ⟨0, _⟩ => rfl
        | ⟨1, _⟩ => rfl
    have hs : gather_S1024x32_S32x1_S1024x32_0_1_n_n_1_1_10241.start (ix2 k d) idx ⟨1, by decide⟩ = j.val := by
      unfold GatherDims.start
      rw [dif_pos (by decide)]
      refine (congrArg (fun z => min (idx z).toInt.toNat 31) (i0 _)).trans ?_
      show min (idx (ix2 d 0)).toInt.toNat 31 = j.val
      rw [h, BitVec.toInt_eq_toNat_of_lt (by rw [BitVec.toNat_ofNat]; omega), BitVec.toNat_ofNat, Nat.mod_eq_of_lt (by omega)]
      omega
    exact congrArg (· + 0 + 0) hs

variable (m : (ℓ : Loc nD τ sig) → Buf (Elt Ideal) ℓ) (c : Dev nD)

/-- The arguments. -/
abbrev a0 : S128x1x1024.Idx → EReal := m ((c : Thread nD τ).loc main_arg0)
abbrev a1 : S1024.Idx → EReal := m ((c : Thread nD τ).loc main_arg1)
abbrev a2 : S1024x8608.Idx → EReal := m ((c : Thread nD τ).loc main_arg2)
abbrev a7 : S128x15x512.Idx → EReal := m ((c : Thread nD τ).loc main_arg7)
abbrev a5 : S256.Idx → EReal := m ((c : Thread nD τ).loc main_arg5)

theorem rows_at (t : Fin 128) (k : Fin 1024) :
    V m c main_v180 (ix2 t k) = a0 m c (ix3 t 0 k) := by
  unfold V V0 hostOps0 hostOps0_1 hostOps0_2 hostOps0_3 hostOps0_4
  after_reads_at

theorem gains_at (k : Fin 1024) : V m c main_v153 (ix2 0 k) = a1 m c (ix1 k) := by
  unfold V V0 hostOps0 hostOps0_1 hostOps0_2 hostOps0_3 hostOps0_4
  after_reads_at

theorem latGains_at (d : Fin 256) : V m c main_v155 (ix2 0 d) = a5 m c (ix1 d) := by
  unfold V V0 hostOps0 hostOps0_1 hostOps0_2 hostOps0_3 hostOps0_4
  after_reads_at

/-- The latents' columns. -/
theorem latCols_at (k : Fin 1024) (d : Fin 256) :
    (V m c main_v150 (ix2 k ⟨384 + d.val, by omega⟩) : EReal) = a2 m c (ix2 k ⟨384 + d.val, by omega⟩) := by
  unfold V V0 hostOps0 hostOps0_1 hostOps0_2 hostOps0_3 hostOps0_4
  after_reads_at
  after_reads_at

/-- The pooling inputs' columns. -/
theorem poolCols_at (k : Fin 1024) (d : Fin 512) :
    (V m c main_v150 (ix2 k ⟨640 + d.val, by omega⟩) : EReal) = a2 m c (ix2 k ⟨672 + d.val, by omega⟩) := by
  unfold V V0 hostOps0 hostOps0_1 hostOps0_2 hostOps0_3 hostOps0_4
  after_reads_at
  rw [dif_neg (by omega), dif_neg (by omega), dif_pos (by omega)]
  after_reads_at
  refine congrArg (fun z => a2 m c (ix2 k z)) (Fin.ext ?_)
  show 672 + (640 + d.val - 384 - 256) = 672 + d.val
  omega

/-- The mixture keys' columns. -/
theorem keyCols_at (k : Fin 1024) (d : Fin 128) :
    (V m c main_v150 (ix2 k ⟨1664 + d.val, by omega⟩) : EReal) = a2 m c (ix2 k ⟨1696 + d.val, by omega⟩) := by
  unfold V V0 hostOps0 hostOps0_1 hostOps0_2 hostOps0_3 hostOps0_4
  after_reads_at
  rw [dif_neg (by omega), dif_neg (by omega), dif_neg (by omega), dif_neg (by omega), dif_pos (by omega)]
  after_reads_at
  refine congrArg (fun z => a2 m c (ix2 k z)) (Fin.ext ?_)
  show 1696 + (1664 + d.val - 384 - 256 - 512 - 512) = 1696 + d.val
  omega

/-- The mixture values' columns. -/
theorem valueCols_at (k : Fin 1024) (d : Fin 128) :
    (V m c main_v150 (ix2 k ⟨1792 + d.val, by omega⟩) : EReal) = a2 m c (ix2 k ⟨1824 + d.val, by omega⟩) := by
  unfold V V0 hostOps0 hostOps0_1 hostOps0_2 hostOps0_3 hostOps0_4
  after_reads_at
  rw [dif_neg (by omega), dif_neg (by omega), dif_neg (by omega), dif_neg (by omega), dif_neg (by omega), dif_pos (by omega)]
  after_reads_at
  refine congrArg (fun z => a2 m c (ix2 k z)) (Fin.ext ?_)
  show 1824 + (1792 + d.val - 384 - 256 - 512 - 512 - 128) = 1824 + d.val
  omega

/-- The rotary keys' columns. -/
theorem ropeCols_at (k : Fin 1024) (d : Fin 32) :
    (V m c main_v150 (ix2 k ⟨2432 + d.val, by omega⟩) : EReal) = a2 m c (ix2 k ⟨640 + d.val, by omega⟩) := by
  unfold V V0 hostOps0 hostOps0_1 hostOps0_2 hostOps0_3 hostOps0_4
  after_reads_at
  rw [dif_neg (by omega), dif_neg (by omega), dif_neg (by omega), dif_neg (by omega), dif_neg (by omega), dif_neg (by omega), dif_neg (by omega), dif_pos (by omega)]
  after_reads_at
  rw [dif_pos (by omega)]
  refine congrArg (fun z => a2 m c (ix2 k z)) (Fin.ext ?_)
  show 640 + (2432 + d.val - 384 - 256 - 512 - 512 - 128 - 128 - 512) = 640 + d.val
  omega

/-- The rotary keys' columns, the halves exchanged. -/
theorem swapCols_at (k : Fin 1024) (d : Fin 32) :
    (V m c main_v150 (ix2 k ⟨2560 + d.val, by omega⟩) : EReal)
      = a2 m c (ix2 k ⟨640 + (if d.val < 16 then 16 + d.val else d.val - 16), by split <;> omega⟩) := by
  unfold V V0 hostOps0 hostOps0_1 hostOps0_2 hostOps0_3 hostOps0_4
  after_reads_at
  rw [dif_neg (by omega), dif_neg (by omega), dif_neg (by omega), dif_neg (by omega), dif_neg (by omega), dif_neg (by omega), dif_neg (by omega), dif_neg (by omega)]
  after_reads_at
  rw [dif_pos (by omega), take_at _ _ k _ ⟨if d.val < 16 then 16 + d.val else d.val - 16, by split <;> omega⟩ ?_]
  · pointwise []
  · pointwise []
    after_reads_at
    revert d
    decide +kernel

theorem cos_at (s : Fin 128) (d : Fin 32) :
    (V m c main_v174 (ix2 s ⟨d.val, by omega⟩) : EReal) = Ideal.cos (angle 16384 (if d.val < 16 then d.val else d.val - 16)) := by
  unfold V V0 hostOps0 hostOps0_1 hostOps0_2 hostOps0_3 hostOps0_4
  after_reads_at
  have e : d.val % 32 = d.val := Nat.mod_eq_of_lt d.isLt
  simp only [e]
  split <;> after_reads_at
  all_goals rfl

theorem sin_at (s : Fin 128) (d : Fin 32) :
    (V m c main_v179 (ix2 s ⟨d.val, by omega⟩) : EReal)
      = if d.val < 16 then -Ideal.sin (angle 16384 d.val) else Ideal.sin (angle 16384 (d.val - 16)) := by
  unfold V V0 hostOps0 hostOps0_1 hostOps0_2 hostOps0_3 hostOps0_4
  after_reads_at
  have e : d.val % 32 = d.val := Nat.mod_eq_of_lt d.isLt
  simp only [e]
  split <;> after_reads_at
  all_goals rfl

end Cert.ProjectSampleIdeal.Body
-- ==== Proof.InputSampleBlocks.lean ====
/-
  The samples' input projection's one block and the five arrays that come out.
-/
module

public import proofs.«01_k».proof.Proof.InputSampleBody
public import proofs.«01_k».proof.Proof.InputSampleHost
public import proofs.«01_k».proof.Proof.Gen.ProjectSampleIdeal.Frame

@[expose] public section

set_option maxRecDepth 16384

noncomputable section

namespace Cert.ProjectSampleIdeal.Body

open Cert.ProjectSampleIdeal Cert.ProjectSampleIdeal.Gen Idealize.ShloMosaic Idealize.ShloMosaic.TcCoe Idealize.ShloMosaic.Tactic
open Cert.Rows

variable (m : (ℓ : Loc nD τ sig) → Buf (Elt Ideal) ℓ) (c : Dev nD)

theorem points : ∀ t : Fin cfg0.N, t.val < 1 :=
  (by decide +kernel : ∀ t : Fin grid0.N, t.val < 1)

theorem idx0 : ∀ t : Fin cfg0.N, win0_0.index t 0 = 0 ∧ win0_0.index t 1 = 0 :=
  (by decide +kernel : ∀ t : Fin grid0.N, win0_0.index t 0 = 0 ∧ win0_0.index t 1 = 0)

theorem idx1 : ∀ t : Fin cfg0.N, win0_1.index t 0 = 0 ∧ win0_1.index t 1 = 0 :=
  (by decide +kernel : ∀ t : Fin grid0.N, win0_1.index t 0 = 0 ∧ win0_1.index t 1 = 0)

theorem idx2 : ∀ t : Fin cfg0.N, win0_2.index t 0 = 0 ∧ win0_2.index t 1 = 0 :=
  (by decide +kernel : ∀ t : Fin grid0.N, win0_2.index t 0 = 0 ∧ win0_2.index t 1 = 0)

theorem idx4 : ∀ t : Fin cfg0.N, win0_4.index t 0 = 0 ∧ win0_4.index t 1 = 0 :=
  (by decide +kernel : ∀ t : Fin grid0.N, win0_4.index t 0 = 0 ∧ win0_4.index t 1 = 0)

theorem idx7 : ∀ t : Fin cfg0.N, win0_7.index t 0 = 0 % 32 ∧ win0_7.index t 1 = 0 :=
  (by decide +kernel : ∀ t : Fin grid0.N, win0_7.index t 0 = 0 % 32 ∧ win0_7.index t 1 = 0)

theorem idx8 : ∀ t : Fin cfg0.N, win0_8.index t 0 = 0 % 32 ∧ win0_8.index t 1 = 0 :=
  (by decide +kernel : ∀ t : Fin grid0.N, win0_8.index t 0 = 0 % 32 ∧ win0_8.index t 1 = 0)

theorem idx9 : ∀ t : Fin cfg0.N, win0_9.index t 0 = 0 ∧ win0_9.index t 1 = 0 :=
  (by decide +kernel : ∀ t : Fin grid0.N, win0_9.index t 0 = 0 ∧ win0_9.index t 1 = 0)

theorem idx10 : ∀ t : Fin cfg0.N, win0_10.index t 0 = 0 ∧ win0_10.index t 1 = 0 :=
  (by decide +kernel : ∀ t : Fin grid0.N, win0_10.index t 0 = 0 ∧ win0_10.index t 1 = 0)

theorem idx13 : ∀ t : Fin cfg0.N, win0_13.index t 0 = 0 ∧ win0_13.index t 1 = 0 :=
  (by decide +kernel : ∀ t : Fin grid0.N, win0_13.index t 0 = 0 ∧ win0_13.index t 1 = 0)

theorem idx14 : ∀ t : Fin cfg0.N, win0_14.index t 0 = 0 ∧ win0_14.index t 1 = 0 :=
  (by decide +kernel : ∀ t : Fin grid0.N, win0_14.index t 0 = 0 ∧ win0_14.index t 1 = 0)

theorem idx15 : ∀ t : Fin cfg0.N, win0_15.index t 0 = 0 ∧ win0_15.index t 1 = 0 :=
  (by decide +kernel : ∀ t : Fin grid0.N, win0_15.index t 0 = 0 ∧ win0_15.index t 1 = 0)

theorem rows_blk (t : Fin cfg0.N) (r : Fin 128) (k : Fin 1024) :
    (iblk m c 0 t : Vec Ideal S128x1024 .f32) (ix2 r k) = a0 m c (ix3 r 0 k) := by
  have ht := points t
  have hi := idx0 t
  refine Eq.trans ?_ (rows_at m c r k)
  unfold iblk
  rw [View.read_apply]
  show V m c main_v180 _ = V m c main_v180 _
  congr 1
  funext a
  apply Fin.ext
  match a with
  | ⟨0, _⟩ => show win0_0.index t 0 * 128 + 1 * r.val = r.val; rw [hi.1]; omega
  | ⟨1, _⟩ => show win0_0.index t 1 * 1024 + 1 * k.val = k.val; rw [hi.2]; omega

theorem gains_blk (t : Fin cfg0.N) (k : Fin 1024) :
    (iblk m c 1 t : Vec Ideal S1x1024 .f32) (ix2 0 k) = a1 m c (ix1 k) := by
  have ht := points t
  have hi := idx1 t
  refine Eq.trans ?_ (gains_at m c k)
  unfold iblk
  rw [View.read_apply]
  show V m c main_v153 _ = V m c main_v153 _
  congr 1
  funext a
  apply Fin.ext
  match a with
  | ⟨0, _⟩ => show win0_1.index t 0 * 1 + 1 * 0 = 0; rw [hi.1]
  | ⟨1, _⟩ => show win0_1.index t 1 * 1024 + 1 * k.val = k.val; rw [hi.2]; omega

theorem weights_blk (t : Fin cfg0.N) (k : Fin 1024) (e : Fin 2688) :
    (iblk m c 2 t : Vec Ideal S1024x2688 .bf16) (ix2 k e) = (V m c main_v150 (ix2 k e) : EReal) := by
  have ht := points t
  have hi := idx2 t
  refine Eq.trans ?_ (rfl)
  unfold iblk
  rw [View.read_apply]
  show V m c main_v150 _ = V m c main_v150 _
  congr 1
  funext a
  apply Fin.ext
  match a with
  | ⟨0, _⟩ => show win0_2.index t 0 * 1024 + 1 * k.val = k.val; rw [hi.1]; omega
  | ⟨1, _⟩ => show win0_2.index t 1 * 2688 + 1 * e.val = e.val; rw [hi.2]; omega

theorem latGains_blk (t : Fin cfg0.N) (k : Fin 256) :
    (iblk m c 4 t : Vec Ideal S1x256 .f32) (ix2 0 k) = a5 m c (ix1 k) := by
  have ht := points t
  have hi := idx4 t
  refine Eq.trans ?_ (latGains_at m c k)
  unfold iblk
  rw [View.read_apply]
  show V m c main_v155 _ = V m c main_v155 _
  congr 1
  funext a
  apply Fin.ext
  match a with
  | ⟨0, _⟩ => show win0_4.index t 0 * 1 + 1 * 0 = 0; rw [hi.1]
  | ⟨1, _⟩ => show win0_4.index t 1 * 256 + 1 * k.val = k.val; rw [hi.2]; omega

theorem cos_blk (t : Fin cfg0.N) (r : Fin 128) (d : Fin 32) :
    (iblk m c 7 t : Vec Ideal S128x256 .f32) (ix2 r ⟨d.val, by omega⟩) = Ideal.cos (angle 16384 (if d.val < 16 then d.val else d.val - 16)) := by
  have ht := points t
  have hi := idx7 t
  refine Eq.trans ?_ (cos_at m c r d)
  unfold iblk
  rw [View.read_apply]
  show V m c main_v174 _ = V m c main_v174 _
  congr 1
  funext a
  apply Fin.ext
  match a with
  | ⟨0, _⟩ => show win0_7.index t 0 * 128 + 1 * r.val = r.val; rw [hi.1]; omega
  | ⟨1, _⟩ => show win0_7.index t 1 * 256 + 1 * d.val = d.val; rw [hi.2]; omega

theorem sin_blk (t : Fin cfg0.N) (r : Fin 128) (d : Fin 32) :
    (iblk m c 8 t : Vec Ideal S128x256 .f32) (ix2 r ⟨d.val, by omega⟩) = if d.val < 16 then -Ideal.sin (angle 16384 d.val) else Ideal.sin (angle 16384 (d.val - 16)) := by
  have ht := points t
  have hi := idx8 t
  refine Eq.trans ?_ (sin_at m c r d)
  unfold iblk
  rw [View.read_apply]
  show V m c main_v179 _ = V m c main_v179 _
  congr 1
  funext a
  apply Fin.ext
  match a with
  | ⟨0, _⟩ => show win0_8.index t 0 * 128 + 1 * r.val = r.val; rw [hi.1]; omega
  | ⟨1, _⟩ => show win0_8.index t 1 * 256 + 1 * d.val = d.val; rw [hi.2]; omega

/-- A row of the projection, of the arguments. -/
abbrev row (R : Fin 128) (e : Fin 8608) : EReal :=
  times (norm (fun k => a0 m c (ix3 R 0 k)) (fun k => a1 m c (ix1 k))) (fun k e => a2 m c (ix2 k e)) e

theorem packed_row (t : Fin cfg0.N) (r : Fin 128) (e : Fin 2688) (e' : Fin 8608)
    (h : ∀ k : Fin 1024, (V m c main_v150 (ix2 k e) : EReal) = a2 m c (ix2 k e')) :
    packed (iblk m c 0 t) (iblk m c 1 t) (iblk m c 2 t) r e = row m c r e' := by
  unfold packed row times
  simp only [rows_blk, gains_blk, weights_blk, h]

/-- The latents. -/
abbrev latents : S128x256.Idx → EReal := fun i => latent (fun d => row m c (i 0) ⟨384 + d.val, by omega⟩) (fun d => a5 m c (ix1 d)) (i 1)

theorem latents_blk (t : Fin cfg0.N) (r : Fin 128) (d : Fin 256) :
    out0_9 (iblk m c 0 t) (iblk m c 1 t) (iblk m c 2 t) (iblk m c 3 t) (iblk m c 4 t) (iblk m c 5 t) (iblk m c 6 t) (iblk m c 7 t) (iblk m c 8 t) (ix2 r d)
      = latents m c (ix2 r d) := by
  rw [latent_at]
  have h : ∀ d : Fin 256, packed (iblk m c 0 t) (iblk m c 1 t) (iblk m c 2 t) r ⟨384 + d.val, by omega⟩ = row m c r ⟨384 + d.val, by omega⟩ :=
    fun d => packed_row m c t r _ _ fun k => latCols_at m c k d
  simp only [h, latGains_blk]
  rfl

theorem flushed9 (t : Fin cfg0.N) :
    (dats m 0 c).flushed 9 t = (cfg0.win 9).cut (grid0.coords t) (out0_9 (iblk m c 0 t) (iblk m c 1 t) (iblk m c 2 t) (iblk m c 3 t) (iblk m c 4 t) (iblk m c 5 t) (iblk m c 6 t) (iblk m c 7 t) (iblk m c 8 t)) := by
  show (cfg0.win 9).cut (grid0.coords t) ((dats m 0 c).after 9 t) = _
  rw [after0_9]

theorem flushes9 : ∀ t : Fin cfg0.N, (cfg0.win 9).flush t = true :=
  (by decide +kernel : ∀ t : Fin grid0.N, win0_9.flush t = true)

theorem latents_eq : (dats m 0 c).arrAt 9 cfg0.N = latents m c := by
  refine (dats m 0 c).arrAt_eq_of_cover 9 (latents m c) (fun t _ => ?_) fun i => ?_
  · rw [flushed9]
    funext y
    have hi := idx9 t
    refine Eq.trans ?_ (Eq.trans (latents_blk m c t (y 0) (y 1)) ?_)
    · show out0_9 _ _ _ _ _ _ _ _ _ _ = out0_9 _ _ _ _ _ _ _ _ _ _
      congr 1
      funext a
      match a with
      | ⟨0, _⟩ => rfl
      | ⟨1, _⟩ => rfl
    · rw [View.read_apply]
      show latents m c _ = latents m c _
      congr 1
      funext a
      apply Fin.ext
      match a with
      | ⟨0, _⟩ => show (y 0).val = win0_9.index t 0 * 128 + 1 * (y 0).val; rw [hi.1]; omega
      | ⟨1, _⟩ => show (y 1).val = win0_9.index t 1 * 256 + 1 * (y 1).val; rw [hi.2]; omega
  · have h0 : (i 0 : Nat) < 128 := (i 0).isLt
    have h1 : (i 1 : Nat) < 256 := (i 1).isLt
    have hN : cfg0.N = 1 := rfl
    obtain ⟨p, _⟩ : ∃ p : Fin cfg0.N, p.val = 0 := ⟨⟨0, by rw [hN]; omega⟩, rfl⟩
    refine ⟨p, flushes9 p, ?_⟩
    have hi := idx9 p
    show i ∈ ((View.whole main_v181_0).slice (win0_9.rect p)).set
    rw [View.set_slice_whole, Rect.mem_set_unit]
    intro a
    match a with
    | ⟨0, _⟩ =>
      show win0_9.index p 0 * 128 ≤ (i 0 : Nat) ∧ (i 0 : Nat) < win0_9.index p 0 * 128 + 128
      rw [hi.1]
      omega
    | ⟨1, _⟩ =>
      show win0_9.index p 1 * 256 ≤ (i 1 : Nat) ∧ (i 1 : Nat) < win0_9.index p 1 * 256 + 256
      rw [hi.2]
      omega

/-- The rotary keys. -/
abbrev ropes : S128x32.Idx → EReal := fun i => turned (fun d => row m c (i 0) ⟨640 + d.val, by omega⟩) 16384 (i 1)

theorem ropes_blk (t : Fin cfg0.N) (r : Fin 128) (d : Fin 32) :
    out0_10 (iblk m c 0 t) (iblk m c 1 t) (iblk m c 2 t) (iblk m c 3 t) (iblk m c 4 t) (iblk m c 5 t) (iblk m c 6 t) (iblk m c 7 t) (iblk m c 8 t) (ix2 r d)
      = ropes m c (ix2 r d) := by
  rw [rope_at, packed_row m c t r _ _ fun k => ropeCols_at m c k d, packed_row m c t r _ _ fun k => swapCols_at m c k d]
  exact turned_eq (fun d => row m c r ⟨640 + d.val, by omega⟩)
    (fun d => row m c r ⟨640 + (if d.val < 16 then 16 + d.val else d.val - 16), by split <;> omega⟩)
    _ d _ _ rfl (cos_blk m c t r d) (sin_blk m c t r d)

theorem flushed10 (t : Fin cfg0.N) :
    (dats m 0 c).flushed 10 t = (cfg0.win 10).cut (grid0.coords t) (out0_10 (iblk m c 0 t) (iblk m c 1 t) (iblk m c 2 t) (iblk m c 3 t) (iblk m c 4 t) (iblk m c 5 t) (iblk m c 6 t) (iblk m c 7 t) (iblk m c 8 t)) := by
  show (cfg0.win 10).cut (grid0.coords t) ((dats m 0 c).after 10 t) = _
  rw [after0_10]

theorem flushes10 : ∀ t : Fin cfg0.N, (cfg0.win 10).flush t = true :=
  (by decide +kernel : ∀ t : Fin grid0.N, win0_10.flush t = true)

theorem ropes_eq : (dats m 0 c).arrAt 10 cfg0.N = ropes m c := by
  refine (dats m 0 c).arrAt_eq_of_cover 10 (ropes m c) (fun t _ => ?_) fun i => ?_
  · rw [flushed10]
    funext y
    have hi := idx10 t
    refine Eq.trans ?_ (Eq.trans (ropes_blk m c t (y 0) (y 1)) ?_)
    · show out0_10 _ _ _ _ _ _ _ _ _ _ = out0_10 _ _ _ _ _ _ _ _ _ _
      congr 1
      funext a
      match a with
      | ⟨0, _⟩ => rfl
      | ⟨1, _⟩ => rfl
    · rw [View.read_apply]
      show ropes m c _ = ropes m c _
      congr 1
      funext a
      apply Fin.ext
      match a with
      | ⟨0, _⟩ => show (y 0).val = win0_10.index t 0 * 128 + 1 * (y 0).val; rw [hi.1]; omega
      | ⟨1, _⟩ => show (y 1).val = win0_10.index t 1 * 32 + 1 * (y 1).val; rw [hi.2]; omega
  · have h0 : (i 0 : Nat) < 128 := (i 0).isLt
    have h1 : (i 1 : Nat) < 32 := (i 1).isLt
    have hN : cfg0.N = 1 := rfl
    obtain ⟨p, _⟩ : ∃ p : Fin cfg0.N, p.val = 0 := ⟨⟨0, by rw [hN]; omega⟩, rfl⟩
    refine ⟨p, flushes10 p, ?_⟩
    have hi := idx10 p
    show i ∈ ((View.whole main_v181_1).slice (win0_10.rect p)).set
    rw [View.set_slice_whole, Rect.mem_set_unit]
    intro a
    match a with
    | ⟨0, _⟩ =>
      show win0_10.index p 0 * 128 ≤ (i 0 : Nat) ∧ (i 0 : Nat) < win0_10.index p 0 * 128 + 128
      rw [hi.1]
      omega
    | ⟨1, _⟩ =>
      show win0_10.index p 1 * 32 ≤ (i 1 : Nat) ∧ (i 1 : Nat) < win0_10.index p 1 * 32 + 32
      rw [hi.2]
      omega

/-- The pooling inputs. -/
abbrev pools : S128x512.Idx → EReal := fun i => row m c (i 0) ⟨672 + (i 1).val, by have h : (i 1).val < 512 := (i 1).isLt; omega⟩

theorem pools_blk (t : Fin cfg0.N) (r : Fin 128) (d : Fin 512) :
    out0_13 (iblk m c 0 t) (iblk m c 1 t) (iblk m c 2 t) (iblk m c 3 t) (iblk m c 4 t) (iblk m c 5 t) (iblk m c 6 t) (iblk m c 7 t) (iblk m c 8 t) (ix2 r d)
      = pools m c (ix2 r d) := by
  rw [pool_at, packed_row m c t r _ _ fun k => poolCols_at m c k d]
  rfl

theorem flushed13 (t : Fin cfg0.N) :
    (dats m 0 c).flushed 13 t = (cfg0.win 13).cut (grid0.coords t) (out0_13 (iblk m c 0 t) (iblk m c 1 t) (iblk m c 2 t) (iblk m c 3 t) (iblk m c 4 t) (iblk m c 5 t) (iblk m c 6 t) (iblk m c 7 t) (iblk m c 8 t)) := by
  show (cfg0.win 13).cut (grid0.coords t) ((dats m 0 c).after 13 t) = _
  rw [after0_13]

theorem flushes13 : ∀ t : Fin cfg0.N, (cfg0.win 13).flush t = true :=
  (by decide +kernel : ∀ t : Fin grid0.N, win0_13.flush t = true)

theorem pools_eq : (dats m 0 c).arrAt 13 cfg0.N = pools m c := by
  refine (dats m 0 c).arrAt_eq_of_cover 13 (pools m c) (fun t _ => ?_) fun i => ?_
  · rw [flushed13]
    funext y
    have hi := idx13 t
    refine Eq.trans ?_ (Eq.trans (pools_blk m c t (y 0) (y 1)) ?_)
    · show out0_13 _ _ _ _ _ _ _ _ _ _ = out0_13 _ _ _ _ _ _ _ _ _ _
      congr 1
      funext a
      match a with
      | ⟨0, _⟩ => rfl
      | ⟨1, _⟩ => rfl
    · rw [View.read_apply]
      show pools m c _ = pools m c _
      congr 1
      funext a
      apply Fin.ext
      match a with
      | ⟨0, _⟩ => show (y 0).val = win0_13.index t 0 * 128 + 1 * (y 0).val; rw [hi.1]; omega
      | ⟨1, _⟩ => show (y 1).val = win0_13.index t 1 * 512 + 1 * (y 1).val; rw [hi.2]; omega
  · have h0 : (i 0 : Nat) < 128 := (i 0).isLt
    have h1 : (i 1 : Nat) < 512 := (i 1).isLt
    have hN : cfg0.N = 1 := rfl
    obtain ⟨p, _⟩ : ∃ p : Fin cfg0.N, p.val = 0 := ⟨⟨0, by rw [hN]; omega⟩, rfl⟩
    refine ⟨p, flushes13 p, ?_⟩
    have hi := idx13 p
    show i ∈ ((View.whole main_v181_4).slice (win0_13.rect p)).set
    rw [View.set_slice_whole, Rect.mem_set_unit]
    intro a
    match a with
    | ⟨0, _⟩ =>
      show win0_13.index p 0 * 128 ≤ (i 0 : Nat) ∧ (i 0 : Nat) < win0_13.index p 0 * 128 + 128
      rw [hi.1]
      omega
    | ⟨1, _⟩ =>
      show win0_13.index p 1 * 512 ≤ (i 1 : Nat) ∧ (i 1 : Nat) < win0_13.index p 1 * 512 + 512
      rw [hi.2]
      omega

/-- The mixture's keys. -/
abbrev keys : S128x128.Idx → EReal := fun i => row m c (i 0) ⟨1696 + (i 1).val, by have h : (i 1).val < 128 := (i 1).isLt; omega⟩

theorem keys_blk (t : Fin cfg0.N) (r : Fin 128) (d : Fin 128) :
    out0_14 (iblk m c 0 t) (iblk m c 1 t) (iblk m c 2 t) (iblk m c 3 t) (iblk m c 4 t) (iblk m c 5 t) (iblk m c 6 t) (iblk m c 7 t) (iblk m c 8 t) (ix2 r d)
      = keys m c (ix2 r d) := by
  rw [keys_at, packed_row m c t r _ _ fun k => keyCols_at m c k d]
  rfl

theorem flushed14 (t : Fin cfg0.N) :
    (dats m 0 c).flushed 14 t = (cfg0.win 14).cut (grid0.coords t) (out0_14 (iblk m c 0 t) (iblk m c 1 t) (iblk m c 2 t) (iblk m c 3 t) (iblk m c 4 t) (iblk m c 5 t) (iblk m c 6 t) (iblk m c 7 t) (iblk m c 8 t)) := by
  show (cfg0.win 14).cut (grid0.coords t) ((dats m 0 c).after 14 t) = _
  rw [after0_14]

theorem flushes14 : ∀ t : Fin cfg0.N, (cfg0.win 14).flush t = true :=
  (by decide +kernel : ∀ t : Fin grid0.N, win0_14.flush t = true)

theorem keys_eq : (dats m 0 c).arrAt 14 cfg0.N = keys m c := by
  refine (dats m 0 c).arrAt_eq_of_cover 14 (keys m c) (fun t _ => ?_) fun i => ?_
  · rw [flushed14]
    funext y
    have hi := idx14 t
    refine Eq.trans ?_ (Eq.trans (keys_blk m c t (y 0) (y 1)) ?_)
    · show out0_14 _ _ _ _ _ _ _ _ _ _ = out0_14 _ _ _ _ _ _ _ _ _ _
      congr 1
      funext a
      match a with
      | ⟨0, _⟩ => rfl
      | ⟨1, _⟩ => rfl
    · rw [View.read_apply]
      show keys m c _ = keys m c _
      congr 1
      funext a
      apply Fin.ext
      match a with
      | ⟨0, _⟩ => show (y 0).val = win0_14.index t 0 * 128 + 1 * (y 0).val; rw [hi.1]; omega
      | ⟨1, _⟩ => show (y 1).val = win0_14.index t 1 * 128 + 1 * (y 1).val; rw [hi.2]; omega
  · have h0 : (i 0 : Nat) < 128 := (i 0).isLt
    have h1 : (i 1 : Nat) < 128 := (i 1).isLt
    have hN : cfg0.N = 1 := rfl
    obtain ⟨p, _⟩ : ∃ p : Fin cfg0.N, p.val = 0 := ⟨⟨0, by rw [hN]; omega⟩, rfl⟩
    refine ⟨p, flushes14 p, ?_⟩
    have hi := idx14 p
    show i ∈ ((View.whole main_v181_5).slice (win0_14.rect p)).set
    rw [View.set_slice_whole, Rect.mem_set_unit]
    intro a
    match a with
    | ⟨0, _⟩ =>
      show win0_14.index p 0 * 128 ≤ (i 0 : Nat) ∧ (i 0 : Nat) < win0_14.index p 0 * 128 + 128
      rw [hi.1]
      omega
    | ⟨1, _⟩ =>
      show win0_14.index p 1 * 128 ≤ (i 1 : Nat) ∧ (i 1 : Nat) < win0_14.index p 1 * 128 + 128
      rw [hi.2]
      omega

/-- The mixture's values. -/
abbrev values : S128x128.Idx → EReal := fun i => row m c (i 0) ⟨1824 + (i 1).val, by have h : (i 1).val < 128 := (i 1).isLt; omega⟩

theorem values_blk (t : Fin cfg0.N) (r : Fin 128) (d : Fin 128) :
    out0_15 (iblk m c 0 t) (iblk m c 1 t) (iblk m c 2 t) (iblk m c 3 t) (iblk m c 4 t) (iblk m c 5 t) (iblk m c 6 t) (iblk m c 7 t) (iblk m c 8 t) (ix2 r d)
      = values m c (ix2 r d) := by
  rw [values_at, packed_row m c t r _ _ fun k => valueCols_at m c k d]
  rfl

theorem flushed15 (t : Fin cfg0.N) :
    (dats m 0 c).flushed 15 t = (cfg0.win 15).cut (grid0.coords t) (out0_15 (iblk m c 0 t) (iblk m c 1 t) (iblk m c 2 t) (iblk m c 3 t) (iblk m c 4 t) (iblk m c 5 t) (iblk m c 6 t) (iblk m c 7 t) (iblk m c 8 t)) := by
  show (cfg0.win 15).cut (grid0.coords t) ((dats m 0 c).after 15 t) = _
  rw [after0_15]

theorem flushes15 : ∀ t : Fin cfg0.N, (cfg0.win 15).flush t = true :=
  (by decide +kernel : ∀ t : Fin grid0.N, win0_15.flush t = true)

theorem values_eq : (dats m 0 c).arrAt 15 cfg0.N = values m c := by
  refine (dats m 0 c).arrAt_eq_of_cover 15 (values m c) (fun t _ => ?_) fun i => ?_
  · rw [flushed15]
    funext y
    have hi := idx15 t
    refine Eq.trans ?_ (Eq.trans (values_blk m c t (y 0) (y 1)) ?_)
    · show out0_15 _ _ _ _ _ _ _ _ _ _ = out0_15 _ _ _ _ _ _ _ _ _ _
      congr 1
      funext a
      match a with
      | ⟨0, _⟩ => rfl
      | ⟨1, _⟩ => rfl
    · rw [View.read_apply]
      show values m c _ = values m c _
      congr 1
      funext a
      apply Fin.ext
      match a with
      | ⟨0, _⟩ => show (y 0).val = win0_15.index t 0 * 128 + 1 * (y 0).val; rw [hi.1]; omega
      | ⟨1, _⟩ => show (y 1).val = win0_15.index t 1 * 128 + 1 * (y 1).val; rw [hi.2]; omega
  · have h0 : (i 0 : Nat) < 128 := (i 0).isLt
    have h1 : (i 1 : Nat) < 128 := (i 1).isLt
    have hN : cfg0.N = 1 := rfl
    obtain ⟨p, _⟩ : ∃ p : Fin cfg0.N, p.val = 0 := ⟨⟨0, by rw [hN]; omega⟩, rfl⟩
    refine ⟨p, flushes15 p, ?_⟩
    have hi := idx15 p
    show i ∈ ((View.whole main_v181_6).slice (win0_15.rect p)).set
    rw [View.set_slice_whole, Rect.mem_set_unit]
    intro a
    match a with
    | ⟨0, _⟩ =>
      show win0_15.index p 0 * 128 ≤ (i 0 : Nat) ∧ (i 0 : Nat) < win0_15.index p 0 * 128 + 128
      rw [hi.1]
      omega
    | ⟨1, _⟩ =>
      show win0_15.index p 1 * 128 ≤ (i 1 : Nat) ∧ (i 1 : Nat) < win0_15.index p 1 * 128 + 128
      rw [hi.2]
      omega

end Cert.ProjectSampleIdeal.Body
-- ==== Proof.InputSampleTail.lean ====
/-
  The samples' input projection after the call: the host code puts the call's pooling input behind the old states.
-/
module

public import proofs.«01_k».proof.Proof.InputSampleBlocks
public import Idealize.ShloMosaic.Lib.StableHlo.ReadAt

@[expose] public section

set_option maxRecDepth 16384

noncomputable section

namespace Cert.ProjectSampleIdeal.Body

open Cert.ProjectSampleIdeal Cert.ProjectSampleIdeal.Gen Idealize.ShloMosaic Idealize.ShloMosaic.TcCoe Idealize.ShloMosaic.Tactic
open Cert.Rows

variable (m : (ℓ : Loc nD τ sig) → Buf (Elt Ideal) ℓ) (c : Dev nD)

/-- What the host code after the call finds: the call's arrays, and everything else as it was. -/
abbrev left : Valuation τ sig (Elt Ideal) :=
  Pipeline.withArrays spec0 c (V0 m c) fun w => (dats m 0 c).arrAt w cfg0.N

theorem left_pools : left m c (Proc.devRef .tc main_v181_4) = pools m c :=
  (Pipeline.withArrays_arr spec0 launch0.win.arr_inj c (V0 m c) _ 13).trans (pools_eq m c)

theorem left_states : left m c (Proc.devRef .tc main_arg7) = a7 m c :=
  (Pipeline.withArrays_of_ne spec0 c (V0 m c) _ main_arg7 (by exact (by decide : ∀ w, Pipeline.arrRef spec0 w ≠ main_arg7))).trans (V_main_arg7 m c)

/-- The new states: the old ones from the second on, then the pooling input. -/
abbrev states : S128x15x512.Idx → EReal := fun i =>
  if h : (i 1).val < 14 then a7 m c (ix3 (i 0) ⟨1 + (i 1).val, by omega⟩ (i 2)) else pools m c (ix2 (i 0) (i 2))

theorem states_eq : Pipeline.afterTail₀ cfgs (dats m) 0 (V0 m) [hostOps1] c main_v184 = states m c := by
  unfold Pipeline.afterTail₀
  show StableHlo.after hostOps1 (left m c) (Proc.devRef .tc main_v184) = states m c
  have hp := left_pools m c
  have hs := left_states m c
  generalize left m c = L at hp hs
  funext i
  have hi : i = ix3 (i 0) (i 1) (i 2) := funext fun a => match a with
    | ⟨0, _⟩ => rfl
    | ⟨1, _⟩ => rfl
    | ⟨2, _⟩ => rfl
  rw [hi]
  unfold hostOps1
  after_reads_at
  split
  · exact congrFun hs _
  · exact congrFun hp _

end Cert.ProjectSampleIdeal.Body
-- ==== Proof.InputSampleRef.lean ====
/-
  The reference of the samples' input projection, row by row.
-/
module

public import proofs.«01_k».proof.Proof.Turn
public import proofs.«01_k».proof.Proof.Gen.ProjectSamplePlainIdeal.Read
public import Idealize.ShloMosaic.Lib.KernelVsHost

@[expose] public section

set_option maxRecDepth 16384

noncomputable section

namespace Cert.ProjectSamplePlainIdeal.Body

open Cert.ProjectSamplePlainIdeal Cert.ProjectSamplePlainIdeal.Gen Cert.ProjectSamplePlainIdeal.Read Idealize.ShloMosaic Idealize.ShloMosaic.TcCoe Idealize.ShloMosaic.Tactic
open Cert.Rows

variable (x0 : S128x1x1024.Idx → EReal) (x1 : S1024.Idx → EReal) (x2 : S1024x8608.Idx → EReal) (x5 : S256.Idx → EReal)

theorem norm_at (b : Fin 128) (s : Fin 1) (k : Fin 1024) :
    val_main_v12 (F := Ideal) x0 x1 (ix3 b s k) = norm (fun k => x0 (ix3 b s k)) (fun k => x1 (ix1 k)) k := by
  obtain rfl : s = 0 := Subsingleton.elim _ _
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  rfl

/-- A row of the projection. -/
abbrev row (b : Fin 128) (s : Fin 1) (e : Fin 8608) : EReal :=
  times (norm (fun k => x0 (ix3 b s k)) (fun k => x1 (ix1 k))) (fun k e => x2 (ix2 k e)) e

theorem row_at (b : Fin 128) (s : Fin 1) (e : Fin 2464) :
    val_main_v14 (F := Ideal) x0 x1 x2 (ix3 b s e) = row x0 x1 x2 b s ⟨e.val, by omega⟩ := by
  pointwise [val_main_v14, val_main_v13]
  simp only [norm_at]
  rfl

/-- The pooling states: the old ones from the second on, then the pooling input. -/
theorem pool_at (x7 : S128x15x512.Idx → EReal) (r : Fin 128) (j : Fin 15) (d : Fin 512) :
    val_main_v76 (F := Ideal) x0 x1 x2 x7 (ix3 r j d)
      = if h : j.val < 14 then x7 (ix3 r ⟨1 + j.val, by omega⟩ d) else row x0 x1 x2 r 0 ⟨672 + d.val, by omega⟩ := by
  pointwise [val_main_v76, val_main_v71, val_main_v18]
  simp only [row_at]
  split
  · next h => rw [dif_pos (by omega)]
  · next h =>
    rw [dif_neg (by omega)]
    exact congrArg (fun z => row x0 x1 x2 r z _) (Subsingleton.elim _ _)

/-- The mixture's keys. -/
theorem keys_at (r : Fin 128) (d : Fin 128) :
    val_main_v74 (F := Ideal) x0 x1 x2 (ix2 r d) = row x0 x1 x2 r 0 ⟨1696 + d.val, by omega⟩ := by
  pointwise [val_main_v74, val_main_v20]
  simp only [row_at]

/-- The mixture's values. -/
theorem values_at (r : Fin 128) (d : Fin 128) :
    val_main_v75 (F := Ideal) x0 x1 x2 (ix2 r d) = row x0 x1 x2 r 0 ⟨1824 + d.val, by omega⟩ := by
  pointwise [val_main_v75, val_main_v21]
  simp only [row_at]

theorem angle_at (i : Fin 16) : val_main_v49 (F := Ideal) (ix2 0 i) = angle 16384 i.val := by
  pointwise [val_main_v49, val_main_v48, val_main_v47, val_main_v46, val_main_v45, val_main_v44, val_main_v43, val_main_v42, val_main_v41,
    val_main_v40, val_main_v39, val_main_v38, val_main_v37, val_main_v36, val_main_c, val_main_cst_5, val_main_cst_6]
  rfl

theorem turn_at (b : Fin 128) (d : Fin 32) :
    val_main_v70 (F := Ideal) x0 x1 x2 (ix3 b 0 d) = turned (fun d => row x0 x1 x2 b 0 ⟨640 + d.val, by omega⟩) 16384 d := by
  pointwise [val_main_v70, val_main_v69, val_main_v68, val_main_v67, val_main_v66, val_main_v65, val_main_v64, val_main_v63,
    val_main_v62, val_main_v61, val_main_v60, val_main_v59, val_main_v58, val_main_v57, val_main_v56, val_main_v55, val_main_v54,
    val_main_v53, val_main_v52, val_main_v51, val_main_v50, val_main_v17]
  simp only [row_at, angle_at]
  unfold turned
  split
  · rfl
  · next h =>
    have e : (⟨640 + (16 + (d.val - 16)), by omega⟩ : Fin 8608) = ⟨640 + d.val, by omega⟩ := Fin.ext (show 640 + (16 + (d.val - 16)) = 640 + d.val by omega)
    rw [e]

/-- The rotary keys. -/
theorem rope_at (r : Fin 128) (d : Fin 32) :
    val_main_v73 (F := Ideal) x0 x1 x2 (ix2 r d)
      = turned (fun d => row x0 x1 x2 r 0 ⟨640 + d.val, by omega⟩) 16384 d := by
  pointwise [val_main_v73]
  simp only [turn_at]

theorem normed_at (b : Fin 128) (s : Fin 1) (d : Fin 256) :
    val_main_v35 (F := Ideal) x0 x1 x2 x5 (ix3 b s d)
      = latent (fun d => row x0 x1 x2 b s ⟨384 + d.val, by omega⟩) (fun d => x5 (ix1 d)) d := by
  obtain rfl : s = 0 := Subsingleton.elim _ _
  pointwise [val_main_v35, val_main_v34, val_main_v33, val_main_v32, val_main_v31, val_main_v30, val_main_v29, val_main_v28,
    val_main_v27, val_main_v26, val_main_v25, val_main_v24, val_main_v23, val_main_v16, val_main_cst_2, val_main_cst_3, val_main_cst_4]
  simp only [row_at]
  rfl

/-- The latents. -/
theorem latent_at (r : Fin 128) (d : Fin 256) :
    val_main_v72 (F := Ideal) x0 x1 x2 x5 (ix2 r d)
      = latent (fun d => row x0 x1 x2 r 0 ⟨384 + d.val, by omega⟩) (fun d => x5 (ix1 d)) d := by
  pointwise [val_main_v72]
  simp only [normed_at]

end Cert.ProjectSamplePlainIdeal.Body
-- ==== Proof.InputSample.lean ====
/-
  The claims about the samples' input projection.
-/
module

public import proofs.«01_k».proof.Defs
public import proofs.«01_k».proof.Proof.Gen.ProjectSample
public import proofs.«01_k».proof.Proof.Gen.ProjectSample.Frame
public import proofs.«01_k».proof.Proof.Gen.ProjectSamplePlainIdeal.Run
public import proofs.«01_k».proof.Proof.InputSampleTail
public import proofs.«01_k».proof.Proof.InputSampleRef

@[expose] public section

set_option maxRecDepth 16384

noncomputable section

namespace Cert.InputSampleCall

open Idealize.ShloMosaic Idealize.ShloMosaic.TcCoe Idealize.SL.Sem Idealize.ShloMosaic.Tactic

theorem frame_p : Cert.quiescent_ProjectSample := fun m ρ _ => Cert.ProjectSample.Gen.frame m ρ

theorem frame_pi : Cert.quiescent_ProjectSampleIdeal := fun m ρ _ => Cert.ProjectSampleIdeal.Gen.frame m ρ

theorem frame_ri : Cert.quiescent_ProjectSamplePlainIdeal := fun m ρ _ =>
  (θ_run Cert.ProjectSamplePlainIdeal.defs _ _).mono (fun r h => ⟨fun c => (h c).2.2.2.2.2, sem_eq_zero_of_no_sems (by decide) r.2⟩)
    (Cert.ProjectSamplePlainIdeal.Value.run (F := Ideal) m ρ)

theorem preserves : Cert.preserves_ProjectSample_ProjectSampleIdeal := trivial

/-- A two-axis index from its coordinates. -/
theorem eta {n p : ℕ} (i : (⟨2, ![n, p]⟩ : Shape).Idx) : i = ix2 (i 0) (i 1) := funext fun a => match a with
  | ⟨0, _⟩ => rfl
  | ⟨1, _⟩ => rfl

/-- A three-axis index from its coordinates. -/
theorem eta3 {n p q : ℕ} (i : (⟨3, ![n, p, q]⟩ : Shape).Idx) : i = ix3 (i 0) (i 1) (i 2) := funext fun a => match a with
  | ⟨0, _⟩ => rfl
  | ⟨1, _⟩ => rfl
  | ⟨2, _⟩ => rfl

open Cert.ProjectSampleIdeal Cert.ProjectSampleIdeal.Gen Cert.ProjectSampleIdeal.Body in
theorem algebraic : Cert.algebraic_ProjectSampleIdeal_ProjectSamplePlainIdeal := by
  intro m g m' g' _ hm
  refine ⟨fun c => latents m c, fun c => ropes m c, fun c => keys m c, fun c => values m c, fun c => states m c, ?_, ?_⟩
  · refine (θ_run Cert.ProjectSampleIdeal.defs _ _).mono (fun r h c => ?_) (Cert.ProjectSampleIdeal.Gen.run_main (F := Ideal) m g)
    obtain ⟨ha, hr⟩ := h c
    exact ⟨(ha 9).trans (latents_eq m c), (ha 10).trans (ropes_eq m c), (ha 14).trans (keys_eq m c), (ha 15).trans (values_eq m c),
      (hr main_v184 (Pipeline.mem_restRefs_of main_v184 (by decide) (by decide))).trans (states_eq m c),
      (hr main_arg0 (Pipeline.mem_restRefs_of main_arg0 (by decide) (by decide))).trans (W_main_arg0 m (dats m) c),
      (hr main_arg1 (Pipeline.mem_restRefs_of main_arg1 (by decide) (by decide))).trans (W_main_arg1 m (dats m) c),
      (hr main_arg2 (Pipeline.mem_restRefs_of main_arg2 (by decide) (by decide))).trans (W_main_arg2 m (dats m) c),
      (hr main_arg3 (Pipeline.mem_restRefs_of main_arg3 (by decide) (by decide))).trans (W_main_arg3 m (dats m) c),
      (hr main_arg4 (Pipeline.mem_restRefs_of main_arg4 (by decide) (by decide))).trans (W_main_arg4 m (dats m) c),
      (hr main_arg5 (Pipeline.mem_restRefs_of main_arg5 (by decide) (by decide))).trans (W_main_arg5 m (dats m) c),
      (hr main_arg6 (Pipeline.mem_restRefs_of main_arg6 (by decide) (by decide))).trans (W_main_arg6 m (dats m) c),
      (hr main_arg7 (Pipeline.mem_restRefs_of main_arg7 (by decide) (by decide))).trans (W_main_arg7 m (dats m) c)⟩
  · refine (θ_run Cert.ProjectSamplePlainIdeal.defs _ _).mono (fun r h c => ?_) (Cert.ProjectSamplePlainIdeal.Value.run (F := Ideal) m' g')
    obtain ⟨e0, e1, e2, e3, e4, e5, e6, e7⟩ := hm c
    obtain ⟨h0, h1, h2, h3, h4, hargs⟩ := h c
    refine ⟨h0.trans ?_, h1.trans ?_, h2.trans ?_, h3.trans ?_, h4.trans ?_, hargs⟩
    · rw [Cert.ProjectSamplePlainIdeal.Read.val_main_v72_eq, e0, e1, e2, e5]
      refine funext fun i => (congrArg _ (eta i)).trans ?_
      exact Cert.ProjectSamplePlainIdeal.Body.latent_at (a0 m c) (a1 m c) (a2 m c) (a5 m c) (i 0) (i 1)
    · rw [Cert.ProjectSamplePlainIdeal.Read.val_main_v73_eq, e0, e1, e2]
      refine funext fun i => (congrArg _ (eta i)).trans ?_
      exact Cert.ProjectSamplePlainIdeal.Body.rope_at (a0 m c) (a1 m c) (a2 m c) (i 0) (i 1)
    · rw [Cert.ProjectSamplePlainIdeal.Read.val_main_v74_eq, e0, e1, e2]
      refine funext fun i => (congrArg _ (eta i)).trans ?_
      exact Cert.ProjectSamplePlainIdeal.Body.keys_at (a0 m c) (a1 m c) (a2 m c) (i 0) (i 1)
    · rw [Cert.ProjectSamplePlainIdeal.Read.val_main_v75_eq, e0, e1, e2]
      refine funext fun i => (congrArg _ (eta i)).trans ?_
      exact Cert.ProjectSamplePlainIdeal.Body.values_at (a0 m c) (a1 m c) (a2 m c) (i 0) (i 1)
    · rw [Cert.ProjectSamplePlainIdeal.Read.val_main_v76_eq, e0, e1, e2, e7]
      refine funext fun i => (congrArg _ (eta3 i)).trans ?_
      exact Cert.ProjectSamplePlainIdeal.Body.pool_at (a0 m c) (a1 m c) (a2 m c) (a7 m c) (i 0) (i 1) (i 2)

end Cert.InputSampleCall
-- ==== Proof.lean ====
/-
  The latent attention over the prompt, the memory's keys and values, the step that merges the branches and the input
  projection, the last two at the prompt's and at the samples' size: the programs run and leave their arguments alone, the named constants stand where the literals stood, and each kernel's results are
  its reference's.
-/
module

public import proofs.«01_k».proof.Defs
public import proofs.«01_k».proof.Proof.Prompt
public import proofs.«01_k».proof.Proof.Cache
public import proofs.«01_k».proof.Proof.Join
public import proofs.«01_k».proof.Proof.Input
public import proofs.«01_k».proof.Proof.JoinSample
public import proofs.«01_k».proof.Proof.InputSample

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Keys.Gen.facts, Cert.KeysIdeal.Gen.facts,
    Cert.KeysPlainIdeal.Gen.facts, Cert.Merge.Gen.facts, Cert.MergeIdeal.Gen.facts, Cert.MergePlainIdeal.Gen.facts,
    Cert.Project.Gen.facts, Cert.ProjectIdeal.Gen.facts, Cert.ProjectPlainIdeal.Gen.facts,
    Cert.MergeSample.Gen.facts, Cert.MergeSampleIdeal.Gen.facts, Cert.MergeSamplePlainIdeal.Gen.facts,
    Cert.ProjectSample.Gen.facts, Cert.ProjectSampleIdeal.Gen.facts, Cert.ProjectSamplePlainIdeal.Gen.facts, Cert.Pre_finite.Gen.facts,
    Prompt.frame_p, Prompt.frame_pi, Prompt.frame_pi_finite, Prompt.frame_ri, Prompt.frame_ri_finite,
    KeysCall.frame_p, KeysCall.frame_pi, KeysCall.frame_ri, MergeCall.frame_p, MergeCall.frame_pi, MergeCall.frame_ri,
    InputCall.frame_p, InputCall.frame_pi, InputCall.frame_ri,
    MergeSampleCall.frame_p, MergeSampleCall.frame_pi, MergeSampleCall.frame_ri,
    InputSampleCall.frame_p, InputSampleCall.frame_pi, InputSampleCall.frame_ri,
    Prompt.preserves, Prompt.algebraic, KeysCall.preserves, KeysCall.algebraic, MergeCall.preserves, MergeCall.algebraic,
    InputCall.preserves, InputCall.algebraic,
    MergeSampleCall.preserves, MergeSampleCall.algebraic, InputSampleCall.preserves, InputSampleCall.algebraic⟩

end Cert.Proof

end
